-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v56_0)) (v1 : (c : Dev Cert.Kernel2Ideal.nD) → Buf (Elt Ideal) ((c.tc : Thread Cert.Kernel2Ideal.nD Cert.Kernel2Ideal.τ).loc Cert.Kernel2Ideal.main_v56_1)) (v2 : (c : Dev Cert.Kernel2Ideal.nD) → Buf (Elt Ideal) ((c.tc : Thread Cert.Kernel2Ideal.nD Cert.Kernel2Ideal.τ).loc Cert.Kernel2Ideal.main_v56_2)) (v3 : (c : Dev Cert.Kernel2Ideal.nD) → Buf (Elt Ideal) ((c.tc : Thread Cert.Kernel2Ideal.nD Cert.Kernel2Ideal.τ).loc Cert.Kernel2Ideal.main_v56_3)) (v4 : (c : Dev Cert.Kernel2Ideal.nD) → Buf (Elt Ideal) ((c.tc : Thread Cert.Kernel2Ideal.nD Cert.Kernel2Ideal.τ).loc Cert.Kernel2Ideal.main_v56_4)) (v5 : (c : Dev Cert.Kernel2Ideal.nD) → Buf (Elt Ideal) ((c.tc : Thread Cert.Kernel2Ideal.nD Cert.Kernel2Ideal.τ).loc Cert.Kernel2Ideal.main_v56_5)) (v6 : (c : Dev Cert.Kernel2Ideal.nD) → Buf (Elt Ideal) ((c.tc : Thread Cert.Kernel2Ideal.nD Cert.Kernel2Ideal.τ).loc Cert.Kernel2Ideal.main_v56_6)) (v7 : (c : Dev Cert.Kernel2Ideal.nD) → Buf (Elt Ideal) ((c.tc : Thread Cert.Kernel2Ideal.nD Cert.Kernel2Ideal.τ).loc Cert.Kernel2Ideal.main_v56_7)) (v8 : (c : Dev Cert.Kernel2Ideal.nD) → Buf (Elt Ideal) ((c.tc : Thread Cert.Kernel2Ideal.nD Cert.Kernel2Ideal.τ).loc Cert.Kernel2Ideal.main_v56_8)) (v9 : (c : Dev Cert.Kernel2Ideal.nD) → Buf (Elt Ideal) ((c.tc : Thread Cert.Kernel2Ideal.nD Cert.Kernel2Ideal.τ).loc Cert.Kernel2Ideal.main_v56_9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v56_0) = v0 c
          ∧ r.2.mem ((c.tc : Thread Cert.Kernel2Ideal.nD Cert.Kernel2Ideal.τ).loc Cert.Kernel2Ideal.main_v56_1) = v1 c
          ∧ r.2.mem ((c.tc : Thread Cert.Kernel2Ideal.nD Cert.Kernel2Ideal.τ).loc Cert.Kernel2Ideal.main_v56_2) = v2 c
          ∧ r.2.mem ((c.tc : Thread Cert.Kernel2Ideal.nD Cert.Kernel2Ideal.τ).loc Cert.Kernel2Ideal.main_v56_3) = v3 c
          ∧ r.2.mem ((c.tc : Thread Cert.Kernel2Ideal.nD Cert.Kernel2Ideal.τ).loc Cert.Kernel2Ideal.main_v56_4) = v4 c
          ∧ r.2.mem ((c.tc : Thread Cert.Kernel2Ideal.nD Cert.Kernel2Ideal.τ).loc Cert.Kernel2Ideal.main_v56_5) = v5 c
          ∧ r.2.mem ((c.tc : Thread Cert.Kernel2Ideal.nD Cert.Kernel2Ideal.τ).loc Cert.Kernel2Ideal.main_v56_6) = v6 c
          ∧ r.2.mem ((c.tc : Thread Cert.Kernel2Ideal.nD Cert.Kernel2Ideal.τ).loc Cert.Kernel2Ideal.main_v56_7) = v7 c
          ∧ r.2.mem ((c.tc : Thread Cert.Kernel2Ideal.nD Cert.Kernel2Ideal.τ).loc Cert.Kernel2Ideal.main_v56_8) = v8 c
          ∧ r.2.mem ((c.tc : Thread Cert.Kernel2Ideal.nD Cert.Kernel2Ideal.τ).loc Cert.Kernel2Ideal.main_v56_9) = v9 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v125) = v0 c
          ∧ r.2.mem ((c.tc : Thread Cert.Reference2Ideal.nD Cert.Reference2Ideal.τ).loc Cert.Reference2Ideal.main_v127) = v1 c
          ∧ r.2.mem ((c.tc : Thread Cert.Reference2Ideal.nD Cert.Reference2Ideal.τ).loc Cert.Reference2Ideal.main_v128) = v2 c
          ∧ r.2.mem ((c.tc : Thread Cert.Reference2Ideal.nD Cert.Reference2Ideal.τ).loc Cert.Reference2Ideal.main_v136) = v3 c
          ∧ r.2.mem ((c.tc : Thread Cert.Reference2Ideal.nD Cert.Reference2Ideal.τ).loc Cert.Reference2Ideal.main_v138) = v4 c
          ∧ r.2.mem ((c.tc : Thread Cert.Reference2Ideal.nD Cert.Reference2Ideal.τ).loc Cert.Reference2Ideal.main_v140) = v5 c
          ∧ r.2.mem ((c.tc : Thread Cert.Reference2Ideal.nD Cert.Reference2Ideal.τ).loc Cert.Reference2Ideal.main_v141) = v6 c
          ∧ r.2.mem ((c.tc : Thread Cert.Reference2Ideal.nD Cert.Reference2Ideal.τ).loc Cert.Reference2Ideal.main_v142) = v7 c
          ∧ r.2.mem ((c.tc : Thread Cert.Reference2Ideal.nD Cert.Reference2Ideal.τ).loc Cert.Reference2Ideal.main_v143) = v8 c
          ∧ r.2.mem ((c.tc : Thread Cert.Reference2Ideal.nD Cert.Reference2Ideal.τ).loc Cert.Reference2Ideal.main_v144) = v9 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S16384x512 : Shape := ⟨2, ![16384, 512]⟩
abbrev S16384x1024 : Shape := ⟨2, ![16384, 1024]⟩
abbrev S8x128x128 : Shape := ⟨3, ![8, 128, 128]⟩
abbrev S8x128 : Shape := ⟨2, ![8, 128]⟩
abbrev S1x512 : Shape := ⟨2, ![1, 512]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S128x8 : Shape := ⟨2, ![128, 8]⟩
abbrev S128x8x64 : Shape := ⟨3, ![128, 8, 64]⟩
abbrev S128x512 : Shape := ⟨2, ![128, 512]⟩
abbrev S512x512 : Shape := ⟨2, ![512, 512]⟩
abbrev S512x1024 : Shape := ⟨2, ![512, 1024]⟩
abbrev S2x512x1024 : Shape := ⟨3, ![2, 512, 1024]⟩
abbrev S128x128 : Shape := ⟨2, ![128, 128]⟩
abbrev S1x128 : Shape := ⟨2, ![1, 128]⟩
abbrev S1x128x128 : Shape := ⟨3, ![1, 128, 128]⟩
abbrev S128x256 : Shape := ⟨2, ![128, 256]⟩
abbrev S256x128 : Shape := ⟨2, ![256, 128]⟩
abbrev S256x256 : Shape := ⟨2, ![256, 256]⟩
abbrev S256x512 : Shape := ⟨2, ![256, 512]⟩
abbrev S256 : Shape := ⟨1, ![256]⟩
abbrev S256x1 : Shape := ⟨2, ![256, 1]⟩
abbrev S256x1024 : Shape := ⟨2, ![256, 1024]⟩
abbrev S1x256x1024 : Shape := ⟨3, ![1, 256, 1024]⟩
abbrev S1x512x1024 : Shape := ⟨3, ![1, 512, 1024]⟩
abbrev S1024x256 : Shape := ⟨2, ![1024, 256]⟩
abbrev S512x256 : Shape := ⟨2, ![512, 256]⟩
abbrev S512 : Shape := ⟨1, ![512]⟩
abbrev S512x1 : Shape := ⟨2, ![512, 1]⟩

abbrev nBuf : Space → Nat
  | .hbm => 20
  | .vmem => 29
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x1024, .f32⟩
  | .hbm, ⟨4, _⟩ => ⟨S8x128x128, .f32⟩
  | .hbm, ⟨5, _⟩ => ⟨S8x128, .f32⟩
  | .hbm, ⟨6, _⟩ => ⟨S1x512, .f32⟩
  | .hbm, ⟨7, _⟩ => ⟨S1x512, .f32⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S1024x2816, .bf16⟩
  | .hbm, ⟨12, _⟩ => ⟨S1024x2816, .bf16⟩
  | .hbm, ⟨13, _⟩ => ⟨S2816x1024, .bf16⟩
  | .hbm, ⟨14, _⟩ => ⟨S1x1024, .f32⟩
  | .hbm, ⟨15, _⟩ => ⟨S1x1024, .f32⟩
  | .hbm, ⟨16, _⟩ => ⟨S128x8, .f32⟩
  | .hbm, ⟨17, _⟩ => ⟨S128x8x64, .f32⟩
  | .hbm, ⟨18, _⟩ => ⟨S128x512, .f32⟩
  | .hbm, ⟨19, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x1024, .f32⟩
  | .local _ .vmem, ⟨12, _⟩ => ⟨S8x128x128, .f32⟩
  | .local _ .vmem, ⟨13, _⟩ => ⟨S128x512, .f32⟩
  | .local _ .vmem, ⟨14, _⟩ => ⟨S1x512, .f32⟩
  | .local _ .vmem, ⟨15, _⟩ => ⟨S1x512, .f32⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S1024x2816, .bf16⟩
  | .local _ .vmem, ⟨20, _⟩ => ⟨S1024x2816, .bf16⟩
  | .local _ .vmem, ⟨21, _⟩ => ⟨S2816x1024, .bf16⟩
  | .local _ .vmem, ⟨22, _⟩ => ⟨S1x1024, .f32⟩
  | .local _ .vmem, ⟨23, _⟩ => ⟨S1x1024, .f32⟩
  | .local _ .vmem, ⟨24, _⟩ => ⟨S512x1024, .f32⟩
  | .local _ .vmem, ⟨25, _⟩ => ⟨S512x1024, .f32⟩
  | .local _ .vmem, ⟨26, _⟩ => ⟨S2x512x1024, .f32⟩
  | .local _ .vmem, ⟨27, _⟩ => ⟨S512x512, .f32⟩
  | .local _ .vmem, ⟨28, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg20_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem20_1 : DmaSem sig := 25

abbrev nD : Nat := 1
abbrev τ : Topo := Topo.v7x

variable {F : FTy → Type} [FloatOps F]

abbrev grid0 : Pipeline.Grid := ⟨1, ![32], ![false]⟩

def k0_off1 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v66 : Index := Scalar.indexCast v9
  let c0_28 : Index := 0#32
  let c0_29 : Index := 0#32
  ![v66.toNat, 0, 0]
def k0_off2 (i : grid0.Coords) : Fin 3 → Nat :=
  let c1_i32_321 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v606 : BitVec 32 := Scalar.subi c1_i32_321 v9
  let v607 : Index := Scalar.indexCast v606
  let c0_322 : Index := 0#32
  let c0_323 : Index := 0#32
  ![v607.toNat, 0, 0]
def k0_off3 (i : grid0.Coords) : Fin 3 → Nat :=
  let c1_i32_370 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v681 : BitVec 32 := Scalar.subi c1_i32_370 v9
  let v682 : Index := Scalar.indexCast v681
  let c256_371 : Index := 256#32
  let c0_372 : Index := 0#32
  ![v682.toNat, 256, 0]
def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x2816 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x2816 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2816x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== ReferenceIdeal.lean ====
abbrev S16384x512 : Shape := ⟨2, ![16384, 512]⟩
abbrev S16384x1024 : Shape := ⟨2, ![16384, 1024]⟩
abbrev S8x128x128 : Shape := ⟨3, ![8, 128, 128]⟩
abbrev S8x128 : Shape := ⟨2, ![8, 128]⟩
abbrev S1x512 : Shape := ⟨2, ![1, 512]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S128x128x8x64 : Shape := ⟨4, ![128, 128, 8, 64]⟩
abbrev S_ : Shape := ⟨0, ![]⟩
abbrev S128x128 : Shape := ⟨2, ![128, 128]⟩
abbrev S1x128x128 : Shape := ⟨3, ![1, 128, 128]⟩
abbrev S8x128x64x128 : Shape := ⟨4, ![8, 128, 64, 128]⟩
abbrev S128x8 : Shape := ⟨2, ![128, 8]⟩
abbrev S1x128x8x1 : Shape := ⟨4, ![1, 128, 8, 1]⟩
abbrev S16384 : Shape := ⟨1, ![16384]⟩
abbrev S16384x1 : Shape := ⟨2, ![16384, 1]⟩
abbrev S16384x2816 : Shape := ⟨2, ![16384, 2816]⟩

abbrev nBuf : Space → Nat
  | .hbm => 155
  | .vmem => 0
  | .smem => 0
  | _ => 0

abbrev hbmTy0_0 (i : Nat) : BufTy := match i % 128 with
  | 0 => ⟨S16384x512, .bf16⟩
  | 1 => ⟨S16384x512, .bf16⟩
  | 2 => ⟨S16384x512, .bf16⟩
  | 3 => ⟨S16384x1024, .f32⟩
  | 4 => ⟨S8x128x128, .f32⟩
  | 5 => ⟨S8x128, .f32⟩
  | 6 => ⟨S1x512, .f32⟩
  | 7 => ⟨S1x512, .f32⟩
  | 8 => ⟨S1024x1024, .bf16⟩
  | 9 => ⟨S1x1024, .f32⟩
  | 10 => ⟨S1x1024, .f32⟩
  | 11 => ⟨S1024x2816, .bf16⟩
  | 12 => ⟨S1024x2816, .bf16⟩
  | 13 => ⟨S2816x1024, .bf16⟩
  | 14 => ⟨S1x1024, .f32⟩
  | 15 => ⟨S1x1024, .f32⟩
  | 16 => ⟨S16384x512, .f32⟩
  | 17 => ⟨S16384x512, .f32⟩
  | 18 => ⟨S16384x512, .f32⟩
  | 19 => ⟨S1024x1024, .f32⟩
  | 20 => ⟨S1024x2816, .f32⟩
  | 21 => ⟨S1024x2816, .f32⟩
  | 22 => ⟨S2816x1024, .f32⟩
  | 23 => ⟨S128x128x8x64, .f32⟩
  | 24 => ⟨S_, .i1⟩
  | 25 => ⟨S128x128, .i1⟩
  | 26 => ⟨S128x128, .i32⟩
  | 27 => ⟨S_, .i32⟩
  | 28 => ⟨S128x128, .i32⟩
  | 29 => ⟨S128x128, .i32⟩
  | 30 => ⟨S128x128, .i32⟩
  | 31 => ⟨S128x128, .i1⟩
  | 32 => ⟨S_, .i1⟩
  | 33 => ⟨S128x128, .i1⟩
  | 34 => ⟨S128x128, .i1⟩
  | 35 => ⟨S1x128x128, .i1⟩
  | 36 => ⟨S_, .f32⟩
  | 37 => ⟨S8x128x128, .f32⟩
  | 38 => ⟨S8x128x128, .i1⟩
  | 39 => ⟨S8x128x128, .f32⟩
  | 40 => ⟨S8x128x64x128, .f32⟩
  | 41 => ⟨S128x128x8x64, .f32⟩
  | 42 => ⟨S128x8, .f32⟩
  | 43 => ⟨S1x128x8x1, .f32⟩
  | 44 => ⟨S128x128x8x64, .f32⟩
  | 45 => ⟨S128x128x8x64, .f32⟩
  | 46 => ⟨S16384x512, .f32⟩
  | 47 => ⟨S16384x512, .f32⟩
  | 48 => ⟨S16384x512, .f32⟩
  | 49 => ⟨S_, .f32⟩
  | 50 => ⟨S16384, .f32⟩
  | 51 => ⟨S16384x1, .f32⟩
  | 52 => ⟨S_, .f32⟩
  | 53 => ⟨S16384x1, .f32⟩
  | 54 => ⟨S16384x1, .f32⟩
  | 55 => ⟨S_, .f32⟩
  | 56 => ⟨S16384x1, .f32⟩
  | 57 => ⟨S16384x1, .f32⟩
  | 58 => ⟨S16384x1, .f32⟩
  | 59 => ⟨S16384x512, .f32⟩
  | 60 => ⟨S16384x512, .f32⟩
  | 61 => ⟨S16384x512, .f32⟩
  | 62 => ⟨S16384x512, .f32⟩
  | 63 => ⟨S16384x512, .f32⟩
  | 64 => ⟨S_, .f32⟩
  | 65 => ⟨S16384, .f32⟩
  | 66 => ⟨S16384x1, .f32⟩
  | 67 => ⟨S_, .f32⟩
  | 68 => ⟨S16384x1, .f32⟩
  | 69 => ⟨S16384x1, .f32⟩
  | 70 => ⟨S_, .f32⟩
  | 71 => ⟨S16384x1, .f32⟩
  | 72 => ⟨S16384x1, .f32⟩
  | 73 => ⟨S16384x1, .f32⟩
  | 74 => ⟨S16384x512, .f32⟩
  | 75 => ⟨S16384x512, .f32⟩
  | 76 => ⟨S16384x512, .f32⟩
  | 77 => ⟨S16384x512, .f32⟩
  | 78 => ⟨S16384x1024, .f32⟩
  | 79 => ⟨S_, .f32⟩
  | 80 => ⟨S16384x1024, .f32⟩
  | 81 => ⟨S16384x1024, .f32⟩
  | 82 => ⟨S16384x1024, .f32⟩
  | 83 => ⟨S16384x1024, .f32⟩
  | 84 => ⟨S_, .f32⟩
  | 85 => ⟨S16384, .f32⟩
  | 86 => ⟨S16384x1, .f32⟩
  | 87 => ⟨S_, .f32⟩
  | 88 => ⟨S16384x1, .f32⟩
  | 89 => ⟨S16384x1, .f32⟩
  | 90 => ⟨S16384x1024, .f32⟩
  | 91 => ⟨S16384x1024, .f32⟩
  | 92 => ⟨S16384x1024, .f32⟩
  | 93 => ⟨S_, .f32⟩
  | 94 => ⟨S16384, .f32⟩
  | 95 => ⟨S16384x1, .f32⟩
  | 96 => ⟨S_, .f32⟩
  | 97 => ⟨S16384x1, .f32⟩
  | 98 => ⟨S16384x1, .f32⟩
  | 99 => ⟨S16384x1024, .f32⟩
  | 100 => ⟨S16384x1024, .f32⟩
  | 101 => ⟨S_, .f32⟩
  | 102 => ⟨S16384x1, .f32⟩
  | 103 => ⟨S16384x1, .f32⟩
  | 104 => ⟨S16384x1, .f32⟩
  | 105 => ⟨S16384x1024, .f32⟩
  | 106 => ⟨S16384x1024, .f32⟩
  | 107 => ⟨S16384x1024, .f32⟩
  | 108 => ⟨S16384x1024, .f32⟩
  | 109 => ⟨S16384x1024, .f32⟩
  | 110 => ⟨S16384x1024, .f32⟩
  | 111 => ⟨S_, .f32⟩
  | 112 => ⟨S16384x1024, .f32⟩
  | 113 => ⟨S16384x1024, .f32⟩
  | 114 => ⟨S16384x2816, .f32⟩
  | 115 => ⟨S16384x2816, .f32⟩
  | 116 => ⟨S16384x2816, .f32⟩
  | 117 => ⟨S_, .f32⟩
  | 118 => ⟨S16384x2816, .f32⟩
  | 119 => ⟨S16384x2816, .f32⟩
  | 120 => ⟨S_, .f32⟩
  | 121 => ⟨S16384x2816, .f32⟩
  | 122 => ⟨S16384x2816, .f32⟩
  | 123 => ⟨S16384x2816, .f32⟩
  | 124 => ⟨S16384x2816, .f32⟩
  | 125 => ⟨S16384x2816, .f32⟩
  | 126 => ⟨S16384x1024, .f32⟩
  | 127 => ⟨S16384x1024, .f32⟩
  | _ => ⟨S16384x512, .bf16⟩

abbrev hbmTy0_1 (i : Nat) : BufTy := match i % 128 with
  | 0 => ⟨S_, .f32⟩
  | 1 => ⟨S16384, .f32⟩
  | 2 => ⟨S16384x1, .f32⟩
  | 3 => ⟨S_, .f32⟩
  | 4 => ⟨S16384x1, .f32⟩
  | 5 => ⟨S16384x1, .f32⟩
  | 6 => ⟨S16384x1024, .f32⟩
  | 7 => ⟨S16384x1024, .f32⟩
  | 8 => ⟨S16384x1024, .f32⟩
  | 9 => ⟨S_, .f32⟩
  | 10 => ⟨S16384, .f32⟩
  | 11 => ⟨S16384x1, .f32⟩
  | 12 => ⟨S_, .f32⟩
  | 13 => ⟨S16384x1, .f32⟩
  | 14 => ⟨S16384x1, .f32⟩
  | 15 => ⟨S16384x1024, .f32⟩
  | 16 => ⟨S16384x1024, .f32⟩
  | 17 => ⟨S_, .f32⟩
  | 18 => ⟨S16384x1, .f32⟩
  | 19 => ⟨S16384x1, .f32⟩
  | 20 => ⟨S16384x1, .f32⟩
  | 21 => ⟨S16384x1024, .f32⟩
  | 22 => ⟨S16384x1024, .f32⟩
  | 23 => ⟨S16384x1024, .f32⟩
  | 24 => ⟨S16384x1024, .f32⟩
  | 25 => ⟨S16384x1024, .f32⟩
  | 26 => ⟨S16384x1024, .f32⟩
  | _ => ⟨S16384x512, .bf16⟩

abbrev hbmTy (i : Nat) : BufTy := match i / 128 with
  | 0 => hbmTy0_0 i
  | 1 => hbmTy0_1 i
  | _ => ⟨S16384x512, .bf16⟩

abbrev bufTy : (tb : Table) → Fin (tcTables nBuf tb) → BufTy
  | .hbm, ⟨i, _⟩ => hbmTy i
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_call0_v0 : Ref sig .tc := ⟨.hbm, 26, rfl⟩
abbrev main_call0_c : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_c_0 : Ref sig .tc := ⟨.hbm, 32, rfl⟩
abbrev main_call0_v5 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_call1_v0 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_0 : Ref sig .tc := ⟨.hbm, 49, rfl⟩
abbrev main_v22 : Ref sig .tc := ⟨.hbm, 50, rfl⟩
abbrev main_v23 : Ref sig .tc := ⟨.hbm, 51, rfl⟩
abbrev main_cst_1 : Ref sig .tc := ⟨.hbm, 52, rfl⟩
abbrev main_v24 : Ref sig .tc := ⟨.hbm, 53, rfl⟩
abbrev main_v25 : Ref sig .tc := ⟨.hbm, 54, rfl⟩
abbrev main_cst_2 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_3 : Ref sig .tc := ⟨.hbm, 64, rfl⟩
abbrev main_v34 : Ref sig .tc := ⟨.hbm, 65, rfl⟩
abbrev main_v35 : Ref sig .tc := ⟨.hbm, 66, rfl⟩
abbrev main_cst_4 : Ref sig .tc := ⟨.hbm, 67, rfl⟩
abbrev main_v36 : Ref sig .tc := ⟨.hbm, 68, rfl⟩
abbrev main_v37 : Ref sig .tc := ⟨.hbm, 69, rfl⟩
abbrev main_cst_5 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_6 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_7 : Ref sig .tc := ⟨.hbm, 84, rfl⟩
abbrev main_v50 : Ref sig .tc := ⟨.hbm, 85, rfl⟩
abbrev main_v51 : Ref sig .tc := ⟨.hbm, 86, rfl⟩
abbrev main_cst_8 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_9 : Ref sig .tc := ⟨.hbm, 93, rfl⟩
abbrev main_v57 : Ref sig .tc := ⟨.hbm, 94, rfl⟩
abbrev main_v58 : Ref sig .tc := ⟨.hbm, 95, rfl⟩
abbrev main_cst_10 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_11 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_12 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_call2_v0 : Ref sig .tc := ⟨.hbm, 115, rfl⟩
abbrev main_call2_v1 : Ref sig .tc := ⟨.hbm, 116, rfl⟩
abbrev main_call2_cst : Ref sig .tc := ⟨.hbm, 117, rfl⟩
abbrev main_call2_v2 : Ref sig .tc := ⟨.hbm, 118, rfl⟩
abbrev main_call2_v3 : Ref sig .tc := ⟨.hbm, 119, rfl⟩
abbrev main_call2_cst_0 : Ref sig .tc := ⟨.hbm, 120, rfl⟩
abbrev main_call2_v4 : Ref sig .tc := ⟨.hbm, 121, rfl⟩
abbrev main_call2_v5 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_cst_13 : Ref sig .tc := ⟨.hbm, 128, rfl⟩
abbrev main_v80 : Ref sig .tc := ⟨.hbm, 129, rfl⟩
abbrev main_v81 : Ref sig .tc := ⟨.hbm, 130, rfl⟩
abbrev main_cst_14 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_cst_15 : Ref sig .tc := ⟨.hbm, 137, rfl⟩
abbrev main_v87 : Ref sig .tc := ⟨.hbm, 138, rfl⟩
abbrev main_v88 : Ref sig .tc := ⟨.hbm, 139, rfl⟩
abbrev main_cst_16 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_cst_17 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩

abbrev nD : Nat := 1
abbrev τ : Topo := Topo.v7x

variable {F : FTy → Type} [FloatOps F]
-- ==== Kernel2.lean ====
abbrev S16384x1024 : Shape := ⟨2, ![16384, 1024]⟩
abbrev S1024x2560 : Shape := ⟨2, ![1024, 2560]⟩
abbrev S1x512 : Shape := ⟨2, ![1, 512]⟩
abbrev S1024x1024 : Shape := ⟨2, ![1024, 1024]⟩
abbrev S1024x2816 : Shape := ⟨2, ![1024, 2816]⟩
abbrev S2816x1024 : Shape := ⟨2, ![2816, 1024]⟩
abbrev S32 : Shape := ⟨1, ![32]⟩
abbrev S_ : Shape := ⟨0, ![]⟩
abbrev S64 : Shape := ⟨1, ![64]⟩
abbrev S64x1 : Shape := ⟨2, ![64, 1]⟩
abbrev S1x32 : Shape := ⟨2, ![1, 32]⟩
abbrev S64x32 : Shape := ⟨2, ![64, 32]⟩
abbrev S64x128 : Shape := ⟨2, ![64, 128]⟩
abbrev S128 : Shape := ⟨1, ![128]⟩
abbrev S1x128 : Shape := ⟨2, ![1, 128]⟩
abbrev S1x64x128 : Shape := ⟨3, ![1, 64, 128]⟩
abbrev S2x64x128 : Shape := ⟨3, ![2, 64, 128]⟩
abbrev S4x64x128 : Shape := ⟨3, ![4, 64, 128]⟩
abbrev S16384x512 : Shape := ⟨2, ![16384, 512]⟩
abbrev S64x8x512 : Shape := ⟨3, ![64, 8, 512]⟩
abbrev S2x16x128 : Shape := ⟨3, ![2, 16, 128]⟩
abbrev S64x1024 : Shape := ⟨2, ![64, 1024]⟩
abbrev S64x2816 : Shape := ⟨2, ![64, 2816]⟩
abbrev S176x1024 : Shape := ⟨2, ![176, 1024]⟩
abbrev S1024x512 : Shape := ⟨2, ![1024, 512]⟩
abbrev S4x8x512 : Shape := ⟨3, ![4, 8, 512]⟩
abbrev S128x1024 : Shape := ⟨2, ![128, 1024]⟩
abbrev S128x512 : Shape := ⟨2, ![128, 512]⟩
abbrev S128x128 : Shape := ⟨2, ![128, 128]⟩
abbrev S128x1 : Shape := ⟨2, ![128, 1]⟩
abbrev S1x1x128 : Shape := ⟨3, ![1, 1, 128]⟩
abbrev S8x128 : Shape := ⟨2, ![8, 128]⟩
abbrev S1x8x128 : Shape := ⟨3, ![1, 8, 128]⟩

abbrev nBuf : Space → Nat
  | .hbm => 106
  | .vmem => 37
  | .smem => 0
  | _ => 0

abbrev bufTy : (tb : Table) → Fin (tcTables nBuf tb) → BufTy
  | .hbm, ⟨0, _⟩ => ⟨S16384x1024, .f32⟩
  | .hbm, ⟨1, _⟩ => ⟨S1024x2560, .f32⟩
  | .hbm, ⟨2, _⟩ => ⟨S1x512, .f32⟩
  | .hbm, ⟨3, _⟩ => ⟨S1x512, .f32⟩
  | .hbm, ⟨4, _⟩ => ⟨S1024x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S64, .i32⟩
  | .hbm, ⟨23, _⟩ => ⟨S_, .i32⟩
  | .hbm, ⟨24, _⟩ => ⟨S64, .i32⟩
  | .hbm, ⟨25, _⟩ => ⟨S64, .i32⟩
  | .hbm, ⟨26, _⟩ => ⟨S_, .i32⟩
  | .hbm, ⟨27, _⟩ => ⟨S64, .i32⟩
  | .hbm, ⟨28, _⟩ => ⟨S64, .i32⟩
  | .hbm, ⟨29, _⟩ => ⟨S64, .f32⟩
  | .hbm, ⟨30, _⟩ => ⟨S64x1, .f32⟩
  | .hbm, ⟨31, _⟩ => ⟨S1x32, .f32⟩
  | .hbm, ⟨32, _⟩ => ⟨S64x32, .f32⟩
  | .hbm, ⟨33, _⟩ => ⟨S64x32, .f32⟩
  | .hbm, ⟨34, _⟩ => ⟨S64x32, .f32⟩
  | .hbm, ⟨35, _⟩ => ⟨S64x32, .f32⟩
  | .hbm, ⟨36, _⟩ => ⟨S64x128, .f32⟩
  | .hbm, ⟨37, _⟩ => ⟨S64x32, .f32⟩
  | .hbm, ⟨38, _⟩ => ⟨S64x128, .f32⟩
  | .hbm, ⟨39, _⟩ => ⟨S64, .i32⟩
  | .hbm, ⟨40, _⟩ => ⟨S64, .f32⟩
  | .hbm, ⟨41, _⟩ => ⟨S64x1, .f32⟩
  | .hbm, ⟨42, _⟩ => ⟨S1x32, .f32⟩
  | .hbm, ⟨43, _⟩ => ⟨S64x32, .f32⟩
  | .hbm, ⟨44, _⟩ => ⟨S64x32, .f32⟩
  | .hbm, ⟨45, _⟩ => ⟨S64x32, .f32⟩
  | .hbm, ⟨46, _⟩ => ⟨S64x32, .f32⟩
  | .hbm, ⟨47, _⟩ => ⟨S64x128, .f32⟩
  | .hbm, ⟨48, _⟩ => ⟨S64x32, .f32⟩
  | .hbm, ⟨49, _⟩ => ⟨S64x128, .f32⟩
  | .hbm, ⟨50, _⟩ => ⟨S128, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S128, .i32⟩
  | .hbm, ⟨58, _⟩ => ⟨S128, .i32⟩
  | .hbm, ⟨59, _⟩ => ⟨S_, .i32⟩
  | .hbm, ⟨60, _⟩ => ⟨S128, .i32⟩
  | .hbm, ⟨61, _⟩ => ⟨S128, .i1⟩
  | .hbm, ⟨62, _⟩ => ⟨S_, .i32⟩
  | .hbm, ⟨63, _⟩ => ⟨S128, .i32⟩
  | .hbm, ⟨64, _⟩ => ⟨S128, .i1⟩
  | .hbm, ⟨65, _⟩ => ⟨S_, .i32⟩
  | .hbm, ⟨66, _⟩ => ⟨S_, .i1⟩
  | .hbm, ⟨67, _⟩ => ⟨S128, .i1⟩
  | .hbm, ⟨68, _⟩ => ⟨S128, .i1⟩
  | .hbm, ⟨69, _⟩ => ⟨S128, .i1⟩
  | .hbm, ⟨70, _⟩ => ⟨S128, .i32⟩
  | .hbm, ⟨71, _⟩ => ⟨S128, .i32⟩
  | .hbm, ⟨72, _⟩ => ⟨S128, .i32⟩
  | .hbm, ⟨73, _⟩ => ⟨S_, .i32⟩
  | .hbm, ⟨74, _⟩ => ⟨S128, .i32⟩
  | .hbm, ⟨75, _⟩ => ⟨S128, .i1⟩
  | .hbm, ⟨76, _⟩ => ⟨S_, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S128, .f32⟩
  | .hbm, ⟨81, _⟩ => ⟨S1x128, .f32⟩
  | .hbm, ⟨82, _⟩ => ⟨S1x64x128, .f32⟩
  | .hbm, ⟨83, _⟩ => ⟨S1x64x128, .f32⟩
  | .hbm, ⟨84, _⟩ => ⟨S2x64x128, .f32⟩
  | .hbm, ⟨85, _⟩ => ⟨S1x128, .f32⟩
  | .hbm, ⟨86, _⟩ => ⟨S64x128, .f32⟩
  | .hbm, ⟨87, _⟩ => ⟨S64x128, .f32⟩
  | .hbm, ⟨88, _⟩ => ⟨S1x128, .f32⟩
  | .hbm, ⟨89, _⟩ => ⟨S64x128, .f32⟩
  | .hbm, ⟨90, _⟩ => ⟨S64x128, .f32⟩
  | .hbm, ⟨91, _⟩ => ⟨S1x64x128, .f32⟩
  | .hbm, ⟨92, _⟩ => ⟨S1x64x128, .f32⟩
  | .hbm, ⟨93, _⟩ => ⟨S1x64x128, .f32⟩
  | .hbm, ⟨94, _⟩ => ⟨S1x64x128, .f32⟩
  | .hbm, ⟨95, _⟩ => ⟨S4x64x128, .f32⟩
  | .hbm, ⟨96, _⟩ => ⟨S16384x512, .bf16⟩
  | .hbm, ⟨97, _⟩ => ⟨S16384x1024, .bf16⟩
  | .hbm, ⟨98, _⟩ => ⟨S16384x512, .bf16⟩
  | .hbm, ⟨99, _⟩ => ⟨S16384x512, .bf16⟩
  | .hbm, ⟨100, _⟩ => ⟨S16384x512, .bf16⟩
  | .hbm, ⟨101, _⟩ => ⟨S64x8x512, .f32⟩
  | .hbm, ⟨102, _⟩ => ⟨S1024x1024, .bf16⟩
  | .hbm, ⟨103, _⟩ => ⟨S1024x2816, .bf16⟩
  | .hbm, ⟨104, _⟩ => ⟨S1024x2816, .bf16⟩
  | .hbm, ⟨105, _⟩ => ⟨S2816x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x2560, .f32⟩
  | .local _ .vmem, ⟨3, _⟩ => ⟨S2x16x128, .f32⟩
  | .local _ .vmem, ⟨4, _⟩ => ⟨S2x16x128, .f32⟩
  | .local _ .vmem, ⟨5, _⟩ => ⟨S4x64x128, .f32⟩
  | .local _ .vmem, ⟨6, _⟩ => ⟨S1x512, .f32⟩
  | .local _ .vmem, ⟨7, _⟩ => ⟨S1x512, .f32⟩
  | .local _ .vmem, ⟨8, _⟩ => ⟨S64x1024, .f32⟩
  | .local _ .vmem, ⟨9, _⟩ => ⟨S64x1024, .f32⟩
  | .local _ .vmem, ⟨10, _⟩ => ⟨S64x2816, .f32⟩
  | .local _ .vmem, ⟨11, _⟩ => ⟨S64x2816, .f32⟩
  | .local _ .vmem, ⟨12, _⟩ => ⟨S64x2816, .f32⟩
  | .local _ .vmem, ⟨13, _⟩ => ⟨S64x2816, .f32⟩
  | .local _ .vmem, ⟨14, _⟩ => ⟨S176x1024, .f32⟩
  | .local _ .vmem, ⟨15, _⟩ => ⟨S176x1024, .f32⟩
  | .local _ .vmem, ⟨16, _⟩ => ⟨S1024x512, .bf16⟩
  | .local _ .vmem, ⟨17, _⟩ => ⟨S1024x512, .bf16⟩
  | .local _ .vmem, ⟨18, _⟩ => ⟨S1024x1024, .bf16⟩
  | .local _ .vmem, ⟨19, _⟩ => ⟨S1024x1024, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | .local _ .vmem, ⟨24, _⟩ => ⟨S1024x512, .bf16⟩
  | .local _ .vmem, ⟨25, _⟩ => ⟨S1024x512, .bf16⟩
  | .local _ .vmem, ⟨26, _⟩ => ⟨S4x8x512, .f32⟩
  | .local _ .vmem, ⟨27, _⟩ => ⟨S4x8x512, .f32⟩
  | .local _ .vmem, ⟨28, _⟩ => ⟨S64x1024, .bf16⟩
  | .local _ .vmem, ⟨29, _⟩ => ⟨S64x1024, .bf16⟩
  | .local _ .vmem, ⟨30, _⟩ => ⟨S64x2816, .bf16⟩
  | .local _ .vmem, ⟨31, _⟩ => ⟨S64x2816, .bf16⟩
  | .local _ .vmem, ⟨32, _⟩ => ⟨S64x2816, .bf16⟩
  | .local _ .vmem, ⟨33, _⟩ => ⟨S64x2816, .bf16⟩
  | .local _ .vmem, ⟨34, _⟩ => ⟨S176x1024, .bf16⟩
  | .local _ .vmem, ⟨35, _⟩ => ⟨S176x1024, .bf16⟩
  | .local _ .vmem, ⟨36, _⟩ => ⟨S1024x2560, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_4 : Ref sig .tc := ⟨.hbm, 51, rfl⟩
abbrev main_call0_v0 : Ref sig .tc := ⟨.hbm, 52, rfl⟩
abbrev main_call0_c : Ref sig .tc := ⟨.hbm, 53, rfl⟩
abbrev main_call0_v1 : Ref sig .tc := ⟨.hbm, 54, rfl⟩
abbrev main_call0_c_0 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_c_1 : Ref sig .tc := ⟨.hbm, 59, rfl⟩
abbrev main_call0_v5 : Ref sig .tc := ⟨.hbm, 60, rfl⟩
abbrev main_call0_v6 : Ref sig .tc := ⟨.hbm, 61, rfl⟩
abbrev main_call0_c_2 : Ref sig .tc := ⟨.hbm, 62, rfl⟩
abbrev main_call0_v7 : Ref sig .tc := ⟨.hbm, 63, rfl⟩
abbrev main_call0_v8 : Ref sig .tc := ⟨.hbm, 64, rfl⟩
abbrev main_call0_c_3 : Ref sig .tc := ⟨.hbm, 65, rfl⟩
abbrev main_call0_v9 : Ref sig .tc := ⟨.hbm, 66, rfl⟩
abbrev main_call0_v10 : Ref sig .tc := ⟨.hbm, 67, rfl⟩
abbrev main_call0_v11 : Ref sig .tc := ⟨.hbm, 68, rfl⟩
abbrev main_call0_v12 : Ref sig .tc := ⟨.hbm, 69, rfl⟩
abbrev main_call0_v13 : Ref sig .tc := ⟨.hbm, 70, rfl⟩
abbrev main_call0_v14 : Ref sig .tc := ⟨.hbm, 71, rfl⟩
abbrev main_v37 : Ref sig .tc := ⟨.hbm, 72, rfl⟩
abbrev main_c_5 : Ref sig .tc := ⟨.hbm, 73, rfl⟩
abbrev main_v38 : Ref sig .tc := ⟨.hbm, 74, rfl⟩
abbrev main_v39 : Ref sig .tc := ⟨.hbm, 75, rfl⟩
abbrev main_cst_6 : Ref sig .tc := ⟨.hbm, 76, rfl⟩
abbrev main_cst_7 : Ref sig .tc := ⟨.hbm, 77, rfl⟩
abbrev main_call1_v0 : Ref sig .tc := ⟨.hbm, 78, rfl⟩
abbrev main_call1_v1 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56_0 : Ref sig .tc := ⟨.hbm, 96, rfl⟩
abbrev main_v56_1 : Ref sig .tc := ⟨.hbm, 97, rfl⟩
abbrev main_v56_2 : Ref sig .tc := ⟨.hbm, 98, rfl⟩
abbrev main_v56_3 : Ref sig .tc := ⟨.hbm, 99, rfl⟩
abbrev main_v56_4 : Ref sig .tc := ⟨.hbm, 100, rfl⟩
abbrev main_v56_5 : Ref sig .tc := ⟨.hbm, 101, rfl⟩
abbrev main_v56_6 : Ref sig .tc := ⟨.hbm, 102, rfl⟩
abbrev main_v56_7 : Ref sig .tc := ⟨.hbm, 103, rfl⟩
abbrev main_v56_8 : Ref sig .tc := ⟨.hbm, 104, rfl⟩
abbrev main_v56_9 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_scratch0 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x8x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S64x2816 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S64x2816 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S176x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference2Ideal.lean ====
abbrev S16384x1024 : Shape := ⟨2, ![16384, 1024]⟩
abbrev S1024x2560 : Shape := ⟨2, ![1024, 2560]⟩
abbrev S1x512 : Shape := ⟨2, ![1, 512]⟩
abbrev S1024x1024 : Shape := ⟨2, ![1024, 1024]⟩
abbrev S1024x2816 : Shape := ⟨2, ![1024, 2816]⟩
abbrev S2816x1024 : Shape := ⟨2, ![2816, 1024]⟩
abbrev S16384x2560 : Shape := ⟨2, ![16384, 2560]⟩
abbrev S16384x512 : Shape := ⟨2, ![16384, 512]⟩
abbrev S4096 : Shape := ⟨1, ![4096]⟩
abbrev S4x4096x8x64 : Shape := ⟨4, ![4, 4096, 8, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x1x64 : Shape := ⟨3, ![4096, 1, 64]⟩
abbrev S4x4096x8x32 : Shape := ⟨4, ![4, 4096, 8, 32]⟩
abbrev S1x4096x1x64 : Shape := ⟨4, ![1, 4096, 1, 64]⟩
abbrev S64x256x512 : Shape := ⟨3, ![64, 256, 512]⟩
abbrev S64x512 : Shape := ⟨2, ![64, 512]⟩
abbrev S64 : Shape := ⟨1, ![64]⟩
abbrev S1x64 : Shape := ⟨2, ![1, 64]⟩
abbrev S4x4096x4x64 : Shape := ⟨4, ![4, 4096, 4, 64]⟩
abbrev S4x4096x4x256 : Shape := ⟨4, ![4, 4096, 4, 256]⟩
abbrev S16384x8x64 : Shape := ⟨3, ![16384, 8, 64]⟩
abbrev S8x64 : Shape := ⟨2, ![8, 64]⟩
abbrev S16384x8 : Shape := ⟨2, ![16384, 8]⟩
abbrev S16384x8x1 : Shape := ⟨3, ![16384, 8, 1]⟩
abbrev S1x8x64 : Shape := ⟨3, ![1, 8, 64]⟩
abbrev S64x1x512 : Shape := ⟨3, ![64, 1, 512]⟩
abbrev S64x8x512 : Shape := ⟨3, ![64, 8, 512]⟩

abbrev nBuf : Space → Nat
  | .hbm => 190
  | .vmem => 0
  | .smem => 0
  | _ => 0

abbrev hbmTy0_0 (i : Nat) : BufTy := match i % 128 with
  | 0 => ⟨S16384x1024, .f32⟩
  | 1 => ⟨S1024x2560, .f32⟩
  | 2 => ⟨S1x512, .f32⟩
  | 3 => ⟨S1x512, .f32⟩
  | 4 => ⟨S1024x1024, .f32⟩
  | 5 => ⟨S1024x2816, .f32⟩
  | 6 => ⟨S1024x2816, .f32⟩
  | 7 => ⟨S2816x1024, .f32⟩
  | 8 => ⟨S16384x2560, .f32⟩
  | 9 => ⟨S16384x512, .f32⟩
  | 10 => ⟨S16384x512, .f32⟩
  | 11 => ⟨S16384x512, .f32⟩
  | 12 => ⟨S16384x512, .f32⟩
  | 13 => ⟨S16384x512, .f32⟩
  | 14 => ⟨S4096, .i32⟩
  | 15 => ⟨S4x4096x8x64, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S32, .f32⟩
  | 24 => ⟨S_, .f32⟩
  | 25 => ⟨S32, .f32⟩
  | 26 => ⟨S32, .f32⟩
  | 27 => ⟨S_, .f32⟩
  | 28 => ⟨S32, .f32⟩
  | 29 => ⟨S32, .f32⟩
  | 30 => ⟨S4096, .f32⟩
  | 31 => ⟨S4096x1, .f32⟩
  | 32 => ⟨S1x32, .f32⟩
  | 33 => ⟨S4096x32, .f32⟩
  | 34 => ⟨S4096x32, .f32⟩
  | 35 => ⟨S4096x32, .f32⟩
  | 36 => ⟨S4096x64, .f32⟩
  | 37 => ⟨S4096x1x64, .f32⟩
  | 38 => ⟨S4x4096x8x32, .f32⟩
  | 39 => ⟨S4x4096x8x32, .f32⟩
  | 40 => ⟨S4x4096x8x32, .f32⟩
  | 41 => ⟨S4x4096x8x64, .f32⟩
  | 42 => ⟨S4096x1x64, .f32⟩
  | 43 => ⟨S1x4096x1x64, .f32⟩
  | 44 => ⟨S4x4096x8x64, .f32⟩
  | 45 => ⟨S4x4096x8x64, .f32⟩
  | 46 => ⟨S4096x1x64, .f32⟩
  | 47 => ⟨S1x4096x1x64, .f32⟩
  | 48 => ⟨S4x4096x8x64, .f32⟩
  | 49 => ⟨S4x4096x8x64, .f32⟩
  | 50 => ⟨S4x4096x8x64, .f32⟩
  | 51 => ⟨S_, .f32⟩
  | 52 => ⟨S4x4096x8x64, .f32⟩
  | 53 => ⟨S4x4096x8x64, .f32⟩
  | 54 => ⟨S4x4096x8x64, .f32⟩
  | 55 => ⟨S32, .f32⟩
  | 56 => ⟨S_, .f32⟩
  | 57 => ⟨S32, .f32⟩
  | 58 => ⟨S32, .f32⟩
  | 59 => ⟨S_, .f32⟩
  | 60 => ⟨S32, .f32⟩
  | 61 => ⟨S32, .f32⟩
  | 62 => ⟨S32, .f32⟩
  | 63 => ⟨S_, .f32⟩
  | 64 => ⟨S32, .f32⟩
  | 65 => ⟨S32, .f32⟩
  | 66 => ⟨S_, .f32⟩
  | 67 => ⟨S32, .f32⟩
  | 68 => ⟨S32, .f32⟩
  | 69 => ⟨S4096, .f32⟩
  | 70 => ⟨S4096x1, .f32⟩
  | 71 => ⟨S1x32, .f32⟩
  | 72 => ⟨S4096x32, .f32⟩
  | 73 => ⟨S4096x32, .f32⟩
  | 74 => ⟨S4096x32, .f32⟩
  | 75 => ⟨S4096x64, .f32⟩
  | 76 => ⟨S4096x1x64, .f32⟩
  | 77 => ⟨S4x4096x8x32, .f32⟩
  | 78 => ⟨S4x4096x8x32, .f32⟩
  | 79 => ⟨S4x4096x8x32, .f32⟩
  | 80 => ⟨S4x4096x8x64, .f32⟩
  | 81 => ⟨S4096x1x64, .f32⟩
  | 82 => ⟨S1x4096x1x64, .f32⟩
  | 83 => ⟨S4x4096x8x64, .f32⟩
  | 84 => ⟨S4x4096x8x64, .f32⟩
  | 85 => ⟨S4096x1x64, .f32⟩
  | 86 => ⟨S1x4096x1x64, .f32⟩
  | 87 => ⟨S4x4096x8x64, .f32⟩
  | 88 => ⟨S4x4096x8x64, .f32⟩
  | 89 => ⟨S4x4096x8x64, .f32⟩
  | 90 => ⟨S64x256x512, .f32⟩
  | 91 => ⟨S_, .f32⟩
  | 92 => ⟨S64x512, .f32⟩
  | 93 => ⟨S_, .f32⟩
  | 94 => ⟨S64x512, .f32⟩
  | 95 => ⟨S64x512, .f32⟩
  | 96 => ⟨S64, .i32⟩
  | 97 => ⟨S1x64, .i32⟩
  | 98 => ⟨S_, .i32⟩
  | 99 => ⟨S_, .i32⟩
  | 100 => ⟨S4096, .i32⟩
  | 101 => ⟨S4096, .i32⟩
  | 102 => ⟨S4096, .i32⟩
  | 103 => ⟨S_, .i32⟩
  | 104 => ⟨S4096, .i32⟩
  | 105 => ⟨S4096, .i1⟩
  | 106 => ⟨S4096, .i32⟩
  | 107 => ⟨S4096, .i32⟩
  | 108 => ⟨S_, .i32⟩
  | 109 => ⟨S4096, .i32⟩
  | 110 => ⟨S4096, .i1⟩
  | 111 => ⟨S4096, .i1⟩
  | 112 => ⟨S_, .i32⟩
  | 113 => ⟨S4096, .i32⟩
  | 114 => ⟨S4096, .i32⟩
  | 115 => ⟨S4096, .i32⟩
  | 116 => ⟨S4096x1, .i32⟩
  | 117 => ⟨S4096x64, .i32⟩
  | 118 => ⟨S4096x64, .i32⟩
  | 119 => ⟨S4096x64, .i1⟩
  | 120 => ⟨S4096x64, .f32⟩
  | 121 => ⟨S1x4096x1x64, .f32⟩
  | 122 => ⟨S4x4096x4x64, .f32⟩
  | 123 => ⟨S4x4096x4x64, .f32⟩
  | 124 => ⟨S4x4096x4x64, .f32⟩
  | 125 => ⟨S4x4096x4x256, .f32⟩
  | 126 => ⟨S_, .f32⟩
  | 127 => ⟨S16384x512, .f32⟩
  | _ => ⟨S16384x1024, .f32⟩

abbrev hbmTy0_1 (i : Nat) : BufTy := match i % 128 with
  | 0 => ⟨S16384x512, .f32⟩
  | 1 => ⟨S16384x512, .f32⟩
  | 2 => ⟨S_, .f32⟩
  | 3 => ⟨S16384x512, .f32⟩
  | 4 => ⟨S16384x512, .f32⟩
  | 5 => ⟨S16384x512, .f32⟩
  | 6 => ⟨S16384x512, .f32⟩
  | 7 => ⟨S16384x8x64, .f32⟩
  | 8 => ⟨S8x64, .f32⟩
  | 9 => ⟨S8x64, .f32⟩
  | 10 => ⟨S_, .f32⟩
  | 11 => ⟨S16384x8, .f32⟩
  | 12 => ⟨S16384x8x1, .f32⟩
  | 13 => ⟨S_, .f32⟩
  | 14 => ⟨S16384x8x1, .f32⟩
  | 15 => ⟨S16384x8x1, .f32⟩
  | 16 => ⟨S16384x8x64, .f32⟩
  | 17 => ⟨S16384x8x64, .f32⟩
  | 18 => ⟨S16384x8x64, .f32⟩
  | 19 => ⟨S_, .f32⟩
  | 20 => ⟨S16384x8, .f32⟩
  | 21 => ⟨S16384x8x1, .f32⟩
  | 22 => ⟨S_, .f32⟩
  | 23 => ⟨S16384x8x1, .f32⟩
  | 24 => ⟨S16384x8x1, .f32⟩
  | 25 => ⟨S16384x8x64, .f32⟩
  | 26 => ⟨S16384x8x64, .f32⟩
  | 27 => ⟨S_, .f32⟩
  | 28 => ⟨S16384x8x1, .f32⟩
  | 29 => ⟨S16384x8x1, .f32⟩
  | 30 => ⟨S16384x8x1, .f32⟩
  | 31 => ⟨S16384x8x64, .f32⟩
  | 32 => ⟨S16384x8x64, .f32⟩
  | 33 => ⟨S1x8x64, .f32⟩
  | 34 => ⟨S16384x8x64, .f32⟩
  | 35 => ⟨S16384x8x64, .f32⟩
  | 36 => ⟨S1x8x64, .f32⟩
  | 37 => ⟨S16384x8x64, .f32⟩
  | 38 => ⟨S16384x8x64, .f32⟩
  | 39 => ⟨S16384x512, .f32⟩
  | 40 => ⟨S16384x512, .bf16⟩
  | 41 => ⟨S16384x1024, .f32⟩
  | 42 => ⟨S16384x1024, .bf16⟩
  | 43 => ⟨S16384x512, .bf16⟩
  | 44 => ⟨S_, .f32⟩
  | 45 => ⟨S16384x512, .f32⟩
  | 46 => ⟨S16384x512, .f32⟩
  | 47 => ⟨S16384x512, .f32⟩
  | 48 => ⟨S_, .f32⟩
  | 49 => ⟨S16384x512, .f32⟩
  | 50 => ⟨S16384x512, .f32⟩
  | 51 => ⟨S16384x512, .f32⟩
  | 52 => ⟨S16384x512, .f32⟩
  | 53 => ⟨S16384x512, .bf16⟩
  | 54 => ⟨S16384x512, .f32⟩
  | 55 => ⟨S16384x512, .bf16⟩
  | 56 => ⟨S64x1x512, .f32⟩
  | 57 => ⟨S64x8x512, .f32⟩
  | 58 => ⟨S1024x1024, .bf16⟩
  | 59 => ⟨S1024x2816, .bf16⟩
  | 60 => ⟨S1024x2816, .bf16⟩
  | 61 => ⟨S2816x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_4 : Ref sig .tc := ⟨.hbm, 56, rfl⟩
abbrev main_v43 : Ref sig .tc := ⟨.hbm, 57, rfl⟩
abbrev main_v44 : Ref sig .tc := ⟨.hbm, 58, rfl⟩
abbrev main_cst_5 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_8 : Ref sig .tc := ⟨.hbm, 91, rfl⟩
abbrev main_v74 : Ref sig .tc := ⟨.hbm, 92, rfl⟩
abbrev main_cst_9 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_c : Ref sig .tc := ⟨.hbm, 98, rfl⟩
abbrev main_call0_v0 : Ref sig .tc := ⟨.hbm, 99, rfl⟩
abbrev main_call0_v1 : Ref sig .tc := ⟨.hbm, 100, rfl⟩
abbrev main_call0_v2 : Ref sig .tc := ⟨.hbm, 101, rfl⟩
abbrev main_call0_v3 : Ref sig .tc := ⟨.hbm, 102, rfl⟩
abbrev main_call0_v4 : Ref sig .tc := ⟨.hbm, 103, rfl⟩
abbrev main_call0_v5 : Ref sig .tc := ⟨.hbm, 104, rfl⟩
abbrev main_call0_v6 : Ref sig .tc := ⟨.hbm, 105, rfl⟩
abbrev main_call0_v7 : Ref sig .tc := ⟨.hbm, 106, rfl⟩
abbrev main_call0_v8 : Ref sig .tc := ⟨.hbm, 107, rfl⟩
abbrev main_call0_c : Ref sig .tc := ⟨.hbm, 108, rfl⟩
abbrev main_call0_v9 : Ref sig .tc := ⟨.hbm, 109, rfl⟩
abbrev main_call0_v10 : Ref sig .tc := ⟨.hbm, 110, rfl⟩
abbrev main_call0_v11 : Ref sig .tc := ⟨.hbm, 111, rfl⟩
abbrev main_call0_c_0 : Ref sig .tc := ⟨.hbm, 112, rfl⟩
abbrev main_call0_v12 : Ref sig .tc := ⟨.hbm, 113, rfl⟩
abbrev main_call0_v13 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_10 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_11 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_12 : Ref sig .tc := ⟨.hbm, 138, rfl⟩
abbrev main_v100 : Ref sig .tc := ⟨.hbm, 139, rfl⟩
abbrev main_v101 : Ref sig .tc := ⟨.hbm, 140, rfl⟩
abbrev main_cst_13 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_14 : Ref sig .tc := ⟨.hbm, 147, rfl⟩
abbrev main_v107 : Ref sig .tc := ⟨.hbm, 148, rfl⟩
abbrev main_v108 : Ref sig .tc := ⟨.hbm, 149, rfl⟩
abbrev main_cst_15 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_cst_16 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_cst_17 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_cst_18 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩

abbrev nD : Nat := 1
abbrev τ : Topo := Topo.v7x

variable {F : FTy → Type} [FloatOps F]
-- ==== Proof.BitsRunB.lean ====
module

public import proofs.«01_k».proof.Proof.Gen.Kernel.Frame
public import proofs.«01_k».proof.Proof.Gen.Kernel.Skeleton

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Whether the point is the grid's first. -/
abbrev cond0_0 (i : grid0.Coords) : Prop :=
  (Scalar.cmpi .ne (Scalar.extui (Scalar.cmpi .eq (BitVec.ofNat 32 (i 0).val) 0#32)) 0#32) = 1#1

/-- The tile of this point is read from slot `t % 2` of the two-slot buffer. -/
theorem k0_off1_eq : ∀ i : grid0.Coords, k0_off1 i = ![(i 0).val % 2, 0, 0] := by decide +kernel

/-- The upper half of the next point's tile is written into the other slot. -/
theorem k0_off2_eq : ∀ i : grid0.Coords, k0_off2 i = ![1 - (i 0).val % 2, 0, 0] := by decide +kernel

/-- The lower half of the next point's tile is written into the other slot. -/
theorem k0_off3_eq : ∀ i : grid0.Coords, k0_off3 i = ![1 - (i 0).val % 2, 256, 0] := by decide +kernel

instance closedOff_k0_off1 (i : grid0.Coords) : ClosedOff (k0_off1 i) := ⟨![(i 0).val % 2, 0, 0], k0_off1_eq i⟩
instance closedOff_k0_off2 (i : grid0.Coords) : ClosedOff (k0_off2 i) := ⟨![1 - (i 0).val % 2, 0, 0], k0_off2_eq i⟩
instance closedOff_k0_off3 (i : grid0.Coords) : ClosedOff (k0_off3 i) := ⟨![1 - (i 0).val % 2, 256, 0], k0_off3_eq i⟩

set_option maxHeartbeats 3744000 in
/-- The body at a point other than the first: from the inputs' staging buffers at their contents
    and every other buffer at anything, the body runs and hands all of them back, the inputs' unchanged. -/
theorem bodyRunB (c : Dev nD) (i : grid0.Coords)
    (arg1 : Memref sig .tc .vmem S512x512 .bf16) (harg1 : arg1.IsWhole) (arg2 : Memref sig .tc .vmem S512x512 .bf16) (harg2 : arg2.IsWhole)
    (arg3 : Memref sig .tc .vmem S512x512 .bf16) (harg3 : arg3.IsWhole) (arg4 : Memref sig .tc .vmem S512x1024 .f32) (harg4 : arg4.IsWhole)
    (arg5 : Memref sig .tc .vmem S512x512 .bf16) (harg5 : arg5.IsWhole) (arg6 : Memref sig .tc .vmem S512x512 .bf16) (harg6 : arg6.IsWhole)
    (arg7 : Memref sig .tc .vmem S512x512 .bf16) (harg7 : arg7.IsWhole) (arg8 : Memref sig .tc .vmem S512x1024 .f32) (harg8 : arg8.IsWhole)
    (arg9 : Memref sig .tc .vmem S8x128x128 .f32) (harg9 : arg9.IsWhole) (arg10 : Memref sig .tc .vmem S128x512 .f32) (harg10 : arg10.IsWhole)
    (arg11 : Memref sig .tc .vmem S1x512 .f32) (harg11 : arg11.IsWhole) (arg12 : Memref sig .tc .vmem S1x512 .f32) (harg12 : arg12.IsWhole)
    (arg13 : Memref sig .tc .vmem S1024x1024 .bf16) (harg13 : arg13.IsWhole) (arg14 : Memref sig .tc .vmem S1x1024 .f32) (harg14 : arg14.IsWhole)
    (arg15 : Memref sig .tc .vmem S1x1024 .f32) (harg15 : arg15.IsWhole) (arg16 : Memref sig .tc .vmem S1024x2816 .bf16) (harg16 : arg16.IsWhole)
    (arg17 : Memref sig .tc .vmem S1024x2816 .bf16) (harg17 : arg17.IsWhole) (arg18 : Memref sig .tc .vmem S2816x1024 .bf16) (harg18 : arg18.IsWhole)
    (arg19 : Memref sig .tc .vmem S1x1024 .f32) (harg19 : arg19.IsWhole) (arg20 : Memref sig .tc .vmem S1x1024 .f32) (harg20 : arg20.IsWhole)
    (arg21 : Memref sig .tc .vmem S512x1024 .f32) (harg21 : arg21.IsWhole) (arg22 : Memref sig .tc .vmem S2x512x1024 .f32) (harg22 : arg22.IsWhole)
    (arg23 : Memref sig .tc .vmem S512x512 .f32) (harg23 : arg23.IsWhole) (arg24 : Memref sig .tc .vmem S512x1024 .f32) (harg24 : arg24.IsWhole)
    (hc : ¬cond0_0 i)
    (x0 : Vec F S512x512 .bf16) (x1 : Vec F S512x512 .bf16) (x2 : Vec F S512x512 .bf16) (x3 : Vec F S512x1024 .f32)
    (x4 : Vec F S512x512 .bf16) (x5 : Vec F S512x512 .bf16) (x6 : Vec F S512x512 .bf16) (x7 : Vec F S512x1024 .f32)
    (x8 : Vec F S8x128x128 .f32) (x9 : Vec F S128x512 .f32) (x10 : Vec F S1x512 .f32) (x11 : Vec F S1x512 .f32)
    (x12 : Vec F S1024x1024 .bf16) (x13 : Vec F S1x1024 .f32) (x14 : Vec F S1x1024 .f32) (x15 : Vec F S1024x2816 .bf16)
    (x16 : Vec F S1024x2816 .bf16) (x17 : Vec F S2816x1024 .bf16) (x18 : Vec F S1x1024 .f32) (x19 : Vec F S1x1024 .f32) :
    ∀ (E : Set ℕ) (K : PUnit → sProp 𝕄),
      iprop(owns (c : Thread nD τ) arg1 fullShare x0 ∗ owns (c : Thread nD τ) arg2 fullShare x1 ∗ owns (c : Thread nD τ) arg3 fullShare x2 ∗
        owns (c : Thread nD τ) arg4 fullShare x3 ∗ owns (c : Thread nD τ) arg5 fullShare x4 ∗ owns (c : Thread nD τ) arg6 fullShare x5 ∗
        owns (c : Thread nD τ) arg7 fullShare x6 ∗ owns (c : Thread nD τ) arg8 fullShare x7 ∗ owns (c : Thread nD τ) arg9 fullShare x8 ∗
        owns (c : Thread nD τ) arg10 fullShare x9 ∗ owns (c : Thread nD τ) arg11 fullShare x10 ∗ owns (c : Thread nD τ) arg12 fullShare x11 ∗
        owns (c : Thread nD τ) arg13 fullShare x12 ∗ owns (c : Thread nD τ) arg14 fullShare x13 ∗ owns (c : Thread nD τ) arg15 fullShare x14 ∗
        owns (c : Thread nD τ) arg16 fullShare x15 ∗ owns (c : Thread nD τ) arg17 fullShare x16 ∗ owns (c : Thread nD τ) arg18 fullShare x17 ∗
        owns (c : Thread nD τ) arg19 fullShare x18 ∗ owns (c : Thread nD τ) arg20 fullShare x19 ∗ (∃ d, owns (c : Thread nD τ) arg21 fullShare d) ∗
        (∃ d, owns (c : Thread nD τ) arg22 fullShare d) ∗ (∃ d, owns (c : Thread nD τ) arg23 fullShare d) ∗ (∃ d, owns (c : Thread nD τ) arg24 fullShare d)
          ∗ (iprop(owns (c : Thread nD τ) arg1 fullShare x0 ∗ owns (c : Thread nD τ) arg2 fullShare x1 ∗ owns (c : Thread nD τ) arg3 fullShare x2 ∗
            owns (c : Thread nD τ) arg4 fullShare x3 ∗ owns (c : Thread nD τ) arg5 fullShare x4 ∗ owns (c : Thread nD τ) arg6 fullShare x5 ∗
            owns (c : Thread nD τ) arg7 fullShare x6 ∗ owns (c : Thread nD τ) arg8 fullShare x7 ∗ owns (c : Thread nD τ) arg9 fullShare x8 ∗
            owns (c : Thread nD τ) arg10 fullShare x9 ∗ owns (c : Thread nD τ) arg11 fullShare x10 ∗ owns (c : Thread nD τ) arg12 fullShare x11 ∗
            owns (c : Thread nD τ) arg13 fullShare x12 ∗ owns (c : Thread nD τ) arg14 fullShare x13 ∗ owns (c : Thread nD τ) arg15 fullShare x14 ∗
            owns (c : Thread nD τ) arg16 fullShare x15 ∗ owns (c : Thread nD τ) arg17 fullShare x16 ∗ owns (c : Thread nD τ) arg18 fullShare x17 ∗
            owns (c : Thread nD τ) arg19 fullShare x18 ∗ owns (c : Thread nD τ) arg20 fullShare x19 ∗ (∃ d, owns (c : Thread nD τ) arg21 fullShare d) ∗
            (∃ d, owns (c : Thread nD τ) arg22 fullShare d) ∗ (∃ d, owns (c : Thread nD τ) arg23 fullShare d) ∗ (∃ d, owns (c : Thread nD τ) arg24 fullShare d)) -∗ K ⟨⟩))
        ⊢ wp frame (wpE (defs₀ (F := F)) Variants.none c none) E
            (cc0_mixer_out_ffn i arg1 harg1 arg2 harg2 arg3 harg3 arg4 harg4 arg5 harg5 arg6 harg6 arg7 harg7 arg8 harg8
              arg9 harg9 arg10 harg10 arg11 harg11 arg12 harg12 arg13 harg13 arg14 harg14 arg15 harg15 arg16 harg16
              arg17 harg17 arg18 harg18 arg19 harg19 arg20 harg20 arg21 harg21 arg22 harg22 arg23 harg23 arg24 harg24) K := by
  intro E K
  simp only [cc0_mixer_out_ffn_eq_skeleton]; unfold cc0_mixer_out_ffn_skel
  simp only [k0_part14_eq_skeleton, k0_part15_eq_skeleton, k0_part16_eq_skeleton, k0_part17_eq_skeleton, k0_part18_eq_skeleton,
      k0_part19_eq_skeleton, k0_part20_eq_skeleton, k0_part21_eq_skeleton, k0_part22_eq_skeleton, k0_part23_eq_skeleton,
      k0_part24_eq_skeleton, k0_part25_eq_skeleton, k0_part26_eq_skeleton, k0_part27_eq_skeleton, k0_part28_eq_skeleton,
      k0_part29_eq_skeleton, k0_part30_eq_skeleton, k0_part31_eq_skeleton, k0_part32_eq_skeleton, k0_part33_eq_skeleton,
      k0_part34_eq_skeleton, k0_part1_eq_skeleton, k0_part2_eq_skeleton, k0_part3_eq_skeleton, k0_part4_eq_skeleton,
      k0_part5_eq_skeleton, k0_part6_eq_skeleton, k0_part7_eq_skeleton, k0_part8_eq_skeleton, k0_part9_eq_skeleton,
      k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
      ⟨%f6, %hf6, H6⟩, ⟨%f7, %hf7, H7⟩, ⟨%f8, %hf8, H8⟩, ⟨%f9, %hf9, H9⟩, ⟨%f10, %hf10, H10⟩, ⟨%f11, %hf11, H11⟩,
      ⟨%f12, %hf12, H12⟩, ⟨%f13, %hf13, H13⟩, ⟨%f14, %hf14, H14⟩, ⟨%f15, %hf15, H15⟩, ⟨%f16, %hf16, H16⟩, ⟨%f17, %hf17, H17⟩,
      ⟨%f18, %hf18, H18⟩, ⟨%f19, %hf19, H19⟩, ⟨%d20, %f20, -, H20⟩, ⟨%d21, %f21, -, H21⟩, ⟨%d22, %f22, -, H22⟩, ⟨%d23, %f23, -, H23⟩,
      Hk⟩
  obtain rfl := harg1.eq_unread hf0; obtain rfl := harg2.eq_unread hf1; obtain rfl := harg3.eq_unread hf2; obtain rfl := harg4.eq_unread hf3;
      obtain rfl := harg5.eq_unread hf4; obtain rfl := harg6.eq_unread hf5; obtain rfl := harg7.eq_unread hf6; obtain rfl := harg8.eq_unread hf7;
      obtain rfl := harg9.eq_unread hf8; obtain rfl := harg10.eq_unread hf9; obtain rfl := harg11.eq_unread hf10; obtain rfl := harg12.eq_unread hf11;
      obtain rfl := harg13.eq_unread hf12; obtain rfl := harg14.eq_unread hf13; obtain rfl := harg15.eq_unread hf14; obtain rfl := harg16.eq_unread hf15;
      obtain rfl := harg17.eq_unread hf16; obtain rfl := harg18.eq_unread hf17; obtain rfl := harg19.eq_unread hf18; obtain rfl := harg20.eq_unread hf19
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _; isplitr; · ipureintro; exact harg18.read_unread _
    iexact H17
  isplitl [H18]
  · iexists _; isplitr; · ipureintro; exact harg19.read_unread _
    iexact H18
  isplitl [H19]
  · iexists _; isplitr; · ipureintro; exact harg20.read_unread _
    iexact H19
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  iexists _, _; isplitr; swap; · iexact H23
  ipureintro; rfl

end Cert.Kernel.Gen

end
-- ==== Proof.BitsRunA.lean ====
module

public import proofs.«01_k».proof.Proof.BitsRunB

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3744000 in
/-- The body at the first point: from the inputs' staging buffers at their contents
    and every other buffer at anything, the body runs and hands all of them back, the inputs' unchanged. -/
theorem bodyRunA (c : Dev nD) (i : grid0.Coords)
    (arg1 : Memref sig .tc .vmem S512x512 .bf16) (harg1 : arg1.IsWhole) (arg2 : Memref sig .tc .vmem S512x512 .bf16) (harg2 : arg2.IsWhole)
    (arg3 : Memref sig .tc .vmem S512x512 .bf16) (harg3 : arg3.IsWhole) (arg4 : Memref sig .tc .vmem S512x1024 .f32) (harg4 : arg4.IsWhole)
    (arg5 : Memref sig .tc .vmem S512x512 .bf16) (harg5 : arg5.IsWhole) (arg6 : Memref sig .tc .vmem S512x512 .bf16) (harg6 : arg6.IsWhole)
    (arg7 : Memref sig .tc .vmem S512x512 .bf16) (harg7 : arg7.IsWhole) (arg8 : Memref sig .tc .vmem S512x1024 .f32) (harg8 : arg8.IsWhole)
    (arg9 : Memref sig .tc .vmem S8x128x128 .f32) (harg9 : arg9.IsWhole) (arg10 : Memref sig .tc .vmem S128x512 .f32) (harg10 : arg10.IsWhole)
    (arg11 : Memref sig .tc .vmem S1x512 .f32) (harg11 : arg11.IsWhole) (arg12 : Memref sig .tc .vmem S1x512 .f32) (harg12 : arg12.IsWhole)
    (arg13 : Memref sig .tc .vmem S1024x1024 .bf16) (harg13 : arg13.IsWhole) (arg14 : Memref sig .tc .vmem S1x1024 .f32) (harg14 : arg14.IsWhole)
    (arg15 : Memref sig .tc .vmem S1x1024 .f32) (harg15 : arg15.IsWhole) (arg16 : Memref sig .tc .vmem S1024x2816 .bf16) (harg16 : arg16.IsWhole)
    (arg17 : Memref sig .tc .vmem S1024x2816 .bf16) (harg17 : arg17.IsWhole) (arg18 : Memref sig .tc .vmem S2816x1024 .bf16) (harg18 : arg18.IsWhole)
    (arg19 : Memref sig .tc .vmem S1x1024 .f32) (harg19 : arg19.IsWhole) (arg20 : Memref sig .tc .vmem S1x1024 .f32) (harg20 : arg20.IsWhole)
    (arg21 : Memref sig .tc .vmem S512x1024 .f32) (harg21 : arg21.IsWhole) (arg22 : Memref sig .tc .vmem S2x512x1024 .f32) (harg22 : arg22.IsWhole)
    (arg23 : Memref sig .tc .vmem S512x512 .f32) (harg23 : arg23.IsWhole) (arg24 : Memref sig .tc .vmem S512x1024 .f32) (harg24 : arg24.IsWhole)
    (hc : cond0_0 i)
    (x0 : Vec F S512x512 .bf16) (x1 : Vec F S512x512 .bf16) (x2 : Vec F S512x512 .bf16) (x3 : Vec F S512x1024 .f32)
    (x4 : Vec F S512x512 .bf16) (x5 : Vec F S512x512 .bf16) (x6 : Vec F S512x512 .bf16) (x7 : Vec F S512x1024 .f32)
    (x8 : Vec F S8x128x128 .f32) (x9 : Vec F S128x512 .f32) (x10 : Vec F S1x512 .f32) (x11 : Vec F S1x512 .f32)
    (x12 : Vec F S1024x1024 .bf16) (x13 : Vec F S1x1024 .f32) (x14 : Vec F S1x1024 .f32) (x15 : Vec F S1024x2816 .bf16)
    (x16 : Vec F S1024x2816 .bf16) (x17 : Vec F S2816x1024 .bf16) (x18 : Vec F S1x1024 .f32) (x19 : Vec F S1x1024 .f32) :
    ∀ (E : Set ℕ) (K : PUnit → sProp 𝕄),
      iprop(owns (c : Thread nD τ) arg1 fullShare x0 ∗ owns (c : Thread nD τ) arg2 fullShare x1 ∗ owns (c : Thread nD τ) arg3 fullShare x2 ∗
        owns (c : Thread nD τ) arg4 fullShare x3 ∗ owns (c : Thread nD τ) arg5 fullShare x4 ∗ owns (c : Thread nD τ) arg6 fullShare x5 ∗
        owns (c : Thread nD τ) arg7 fullShare x6 ∗ owns (c : Thread nD τ) arg8 fullShare x7 ∗ owns (c : Thread nD τ) arg9 fullShare x8 ∗
        owns (c : Thread nD τ) arg10 fullShare x9 ∗ owns (c : Thread nD τ) arg11 fullShare x10 ∗ owns (c : Thread nD τ) arg12 fullShare x11 ∗
        owns (c : Thread nD τ) arg13 fullShare x12 ∗ owns (c : Thread nD τ) arg14 fullShare x13 ∗ owns (c : Thread nD τ) arg15 fullShare x14 ∗
        owns (c : Thread nD τ) arg16 fullShare x15 ∗ owns (c : Thread nD τ) arg17 fullShare x16 ∗ owns (c : Thread nD τ) arg18 fullShare x17 ∗
        owns (c : Thread nD τ) arg19 fullShare x18 ∗ owns (c : Thread nD τ) arg20 fullShare x19 ∗ (∃ d, owns (c : Thread nD τ) arg21 fullShare d) ∗
        (∃ d, owns (c : Thread nD τ) arg22 fullShare d) ∗ (∃ d, owns (c : Thread nD τ) arg23 fullShare d) ∗ (∃ d, owns (c : Thread nD τ) arg24 fullShare d)
          ∗ (iprop(owns (c : Thread nD τ) arg1 fullShare x0 ∗ owns (c : Thread nD τ) arg2 fullShare x1 ∗ owns (c : Thread nD τ) arg3 fullShare x2 ∗
            owns (c : Thread nD τ) arg4 fullShare x3 ∗ owns (c : Thread nD τ) arg5 fullShare x4 ∗ owns (c : Thread nD τ) arg6 fullShare x5 ∗
            owns (c : Thread nD τ) arg7 fullShare x6 ∗ owns (c : Thread nD τ) arg8 fullShare x7 ∗ owns (c : Thread nD τ) arg9 fullShare x8 ∗
            owns (c : Thread nD τ) arg10 fullShare x9 ∗ owns (c : Thread nD τ) arg11 fullShare x10 ∗ owns (c : Thread nD τ) arg12 fullShare x11 ∗
            owns (c : Thread nD τ) arg13 fullShare x12 ∗ owns (c : Thread nD τ) arg14 fullShare x13 ∗ owns (c : Thread nD τ) arg15 fullShare x14 ∗
            owns (c : Thread nD τ) arg16 fullShare x15 ∗ owns (c : Thread nD τ) arg17 fullShare x16 ∗ owns (c : Thread nD τ) arg18 fullShare x17 ∗
            owns (c : Thread nD τ) arg19 fullShare x18 ∗ owns (c : Thread nD τ) arg20 fullShare x19 ∗ (∃ d, owns (c : Thread nD τ) arg21 fullShare d) ∗
            (∃ d, owns (c : Thread nD τ) arg22 fullShare d) ∗ (∃ d, owns (c : Thread nD τ) arg23 fullShare d) ∗ (∃ d, owns (c : Thread nD τ) arg24 fullShare d)) -∗ K ⟨⟩))
        ⊢ wp frame (wpE (defs₀ (F := F)) Variants.none c none) E
            (cc0_mixer_out_ffn i arg1 harg1 arg2 harg2 arg3 harg3 arg4 harg4 arg5 harg5 arg6 harg6 arg7 harg7 arg8 harg8
              arg9 harg9 arg10 harg10 arg11 harg11 arg12 harg12 arg13 harg13 arg14 harg14 arg15 harg15 arg16 harg16
              arg17 harg17 arg18 harg18 arg19 harg19 arg20 harg20 arg21 harg21 arg22 harg22 arg23 harg23 arg24 harg24) K := by
  intro E K
  simp only [cc0_mixer_out_ffn_eq_skeleton]; unfold cc0_mixer_out_ffn_skel
  simp only [k0_part14_eq_skeleton, k0_part15_eq_skeleton, k0_part16_eq_skeleton, k0_part17_eq_skeleton, k0_part18_eq_skeleton,
      k0_part19_eq_skeleton, k0_part20_eq_skeleton, k0_part21_eq_skeleton, k0_part22_eq_skeleton, k0_part23_eq_skeleton,
      k0_part24_eq_skeleton, k0_part25_eq_skeleton, k0_part26_eq_skeleton, k0_part27_eq_skeleton, k0_part28_eq_skeleton,
      k0_part29_eq_skeleton, k0_part30_eq_skeleton, k0_part31_eq_skeleton, k0_part32_eq_skeleton, k0_part33_eq_skeleton,
      k0_part34_eq_skeleton, k0_part1_eq_skeleton, k0_part2_eq_skeleton, k0_part3_eq_skeleton, k0_part4_eq_skeleton,
      k0_part5_eq_skeleton, k0_part6_eq_skeleton, k0_part7_eq_skeleton, k0_part8_eq_skeleton, k0_part9_eq_skeleton,
      k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
      ⟨%f6, %hf6, H6⟩, ⟨%f7, %hf7, H7⟩, ⟨%f8, %hf8, H8⟩, ⟨%f9, %hf9, H9⟩, ⟨%f10, %hf10, H10⟩, ⟨%f11, %hf11, H11⟩,
      ⟨%f12, %hf12, H12⟩, ⟨%f13, %hf13, H13⟩, ⟨%f14, %hf14, H14⟩, ⟨%f15, %hf15, H15⟩, ⟨%f16, %hf16, H16⟩, ⟨%f17, %hf17, H17⟩,
      ⟨%f18, %hf18, H18⟩, ⟨%f19, %hf19, H19⟩, ⟨%d20, %f20, -, H20⟩, ⟨%d21, %f21, -, H21⟩, ⟨%d22, %f22, -, H22⟩, ⟨%d23, %f23, -, H23⟩,
      Hk⟩
  obtain rfl := harg1.eq_unread hf0; obtain rfl := harg2.eq_unread hf1; obtain rfl := harg3.eq_unread hf2; obtain rfl := harg4.eq_unread hf3;
      obtain rfl := harg5.eq_unread hf4; obtain rfl := harg6.eq_unread hf5; obtain rfl := harg7.eq_unread hf6; obtain rfl := harg8.eq_unread hf7;
      obtain rfl := harg9.eq_unread hf8; obtain rfl := harg10.eq_unread hf9; obtain rfl := harg11.eq_unread hf10; obtain rfl := harg12.eq_unread hf11;
      obtain rfl := harg13.eq_unread hf12; obtain rfl := harg14.eq_unread hf13; obtain rfl := harg15.eq_unread hf14; obtain rfl := harg16.eq_unread hf15;
      obtain rfl := harg17.eq_unread hf16; obtain rfl := harg18.eq_unread hf17; obtain rfl := harg19.eq_unread hf18; obtain rfl := harg20.eq_unread hf19
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _; isplitr; · ipureintro; exact harg18.read_unread _
    iexact H17
  isplitl [H18]
  · iexists _; isplitr; · ipureintro; exact harg19.read_unread _
    iexact H18
  isplitl [H19]
  · iexists _; isplitr; · ipureintro; exact harg20.read_unread _
    iexact H19
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  iexists _, _; isplitr; swap; · iexact H23
  ipureintro; rfl

end Cert.Kernel.Gen

end
-- ==== Proof.BitsFrame.lean ====
module

public import proofs.«01_k».proof.Proof.BitsRunA
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The staging buffers, the scratch buffers and the branch condition -/

/-- Each window's current staging buffer at point `t`, and its wholeness. -/
abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x128x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1024x1024 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1024 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1024x2816 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1024x2816 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S2816x1024 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x1024 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x1024 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S512x1024 .f32 := win0_20.stage (cfg0.slots t 20)
abbrev hs0_20 (t : Fin cfg0.N) : (ms0_20 t).IsWhole := hstage0_20 ((cfg0.slots t 20).cast nbuf0_20)
/-- The three scratch buffers: the two mixed tiles, the gated half and the feed-forward accumulator. -/
abbrev scM0_0 : Memref sig .tc .vmem S2x512x1024 .f32 := Memref.whole cc0_scratch0
abbrev scM0_1 : Memref sig .tc .vmem S512x512 .f32 := Memref.whole cc0_scratch1
abbrev scM0_2 : Memref sig .tc .vmem S512x1024 .f32 := Memref.whole cc0_scratch2

/-- The body's first condition holds at the first point only. -/
theorem hcond0_0 (t : Fin cfg0.N) : cond0_0 (grid0.coords t) ↔ t.val = 0 := by
  have ht : t.val < 32 := Nat.lt_of_lt_of_eq t.isLt N_0
  have e0 : (grid0.coords t 0).val = t.val / 1 % 32 := Pipeline.Grid.coords_val t 0 (by decide) rfl
  simp only [cond0_0, e0]
  have : t.val / 1 % 32 = t.val := by omega
  rw [this]
  word_cmp

/-- The class's invariant, buffer by buffer. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d)) ∗ (∃ r, prngReg c r)) := by
  unfold Pipeline.ΦA; rw [scopedRest0_eq]; simp only [scM0_0, scM0_1, scM0_2, owns_whole]; try rfl
/-! ## The proof data: nothing is named of the output or of the scratch buffers -/

/-- The output window is the one nothing is stated of. -/
def forgets0 : Fin 21 → Bool := fun w => w.val == 20

/-- The proof data on core `c`: the arrays as the region finds them, each input's buffer left at its block, windows
    that share an array at the shares the library cuts it in. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, h⟩ => Pipeline.Dat.unnamed (cfg := cfg0) ⟨20, h⟩ t
    | ⟨_ + 21, h⟩ => absurd h (Nat.not_lt.2 (Nat.le_add_left _ _))
  Φ _ := Pipeline.ΦA spec0 c
  q w := Pipeline.shareOf spec0 w
  owed _ := 0

/-- The proof data's arrays are the region-entry contents. -/
theorem A_eq (c : Dev nD) (w : Fin cfg0.W) : (dats m 0 c).A w = V m c (Pipeline.arrRef spec0 w) := by
  dsimp only [dats]

/-- What the body leaves in each input's buffer is its block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]

/-- Each input's buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ (∃ d, owns (c : Thread nD τ) (ms0_20 t) fullShare d))

set_option maxHeartbeats 4000000 in
/-- The body at any point: by its run at the first point or by its run at the others. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9,
    before0_10, before0_11, before0_12, before0_13, before0_14, before0_15, before0_16, before0_17, before0_18, before0_19]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9,
    after0_10, after0_11, after0_12, after0_13, after0_14, after0_15, after0_16, after0_17, after0_18, after0_19]
  rw [show (dats m 0 c).Φ t.castSucc = Pipeline.ΦA spec0 c from rfl, PhiA0_eq]
  by_cases h0 : cond0_0 (grid0.coords t)
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply (bodyRunA c (grid0.coords t) _ _ _ _ _ _ _ _ _ _ _ _ _ _ _ _ _ _ _ _ _ _ _ _ _ _ _ _ _ _ _ _ _ _ _ _ _ _ _ _ _ _ _ _ _ _ _ _ h0
      (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t)
      (iblk m c 16 t) (iblk m c 17 t) (iblk m c 18 t) (iblk m c 19 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexists _; iexact H20
    isplitl [HS0]; · iexact HS0
    isplitl [HS1]; · iexact HS1
    isplitl [HS2]; · iexact HS2
    iintro ⟨H0, H1, H2, H3, H4, H5, H6, H7, H8, H9, H10, H11, H12, H13, H14, H15, H16, H17, H18, H19, H20, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply (bodyRunB c (grid0.coords t) _ _ _ _ _ _ _ _ _ _ _ _ _ _ _ _ _ _ _ _ _ _ _ _ _ _ _ _ _ _ _ _ _ _ _ _ _ _ _ _ _ _ _ _ _ _ _ _ h0
      (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t)
      (iblk m c 16 t) (iblk m c 17 t) (iblk m c 18 t) (iblk m c 19 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexists _; iexact H20
    isplitl [HS0]; · iexact HS0
    isplitl [HS1]; · iexact HS1
    isplitl [HS2]; · iexact HS2
    iintro ⟨H0, H1, H2, H3, H4, H5, H6, H7, H8, H9, H10, H11, H12, H13, H14, H15, H16, H17, H18, H19, H20, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- Every execution of @main ends, with the inputs' arrays unchanged and every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

set_option maxHeartbeats 1260000 in
/-- The frame: every execution of @main ends, every argument array unchanged and every semaphore counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  (θ_run defs _ _).mono (fun r h => ⟨fun c => ⟨(Pipeline.RDat.FramePost.arr_in h.1 c 4 rfl).trans ((A_eq m c 4).trans (V_main_arg0 m c)),
      (Pipeline.RDat.FramePost.arr_in h.1 c 5 rfl).trans ((A_eq m c 5).trans (V_main_arg1 m c)),
      (Pipeline.RDat.FramePost.arr_in h.1 c 6 rfl).trans ((A_eq m c 6).trans (V_main_arg2 m c)),
      (Pipeline.RDat.FramePost.arr_in h.1 c 7 rfl).trans ((A_eq m c 7).trans (V_main_arg3 m c)),
      (Pipeline.RDat.FramePost.arr_in h.1 c 8 rfl).trans ((A_eq m c 8).trans (V_main_arg4 m c)),
      ((h.1 c).2 main_arg5 (Pipeline.mem_restRefs_of main_arg5 (by decide) (by decide))).trans (V_main_arg5 m c),
      (Pipeline.RDat.FramePost.arr_in h.1 c 10 rfl).trans ((A_eq m c 10).trans (V_main_arg6 m c)),
      (Pipeline.RDat.FramePost.arr_in h.1 c 11 rfl).trans ((A_eq m c 11).trans (V_main_arg7 m c)),
      (Pipeline.RDat.FramePost.arr_in h.1 c 12 rfl).trans ((A_eq m c 12).trans (V_main_arg8 m c)),
      (Pipeline.RDat.FramePost.arr_in h.1 c 13 rfl).trans ((A_eq m c 13).trans (V_main_arg9 m c)),
      (Pipeline.RDat.FramePost.arr_in h.1 c 14 rfl).trans ((A_eq m c 14).trans (V_main_arg10 m c)),
      (Pipeline.RDat.FramePost.arr_in h.1 c 15 rfl).trans ((A_eq m c 15).trans (V_main_arg11 m c)),
      (Pipeline.RDat.FramePost.arr_in h.1 c 16 rfl).trans ((A_eq m c 16).trans (V_main_arg12 m c)),
      (Pipeline.RDat.FramePost.arr_in h.1 c 17 rfl).trans ((A_eq m c 17).trans (V_main_arg13 m c)),
      (Pipeline.RDat.FramePost.arr_in h.1 c 18 rfl).trans ((A_eq m c 18).trans (V_main_arg14 m c)),
      (Pipeline.RDat.FramePost.arr_in h.1 c 19 rfl).trans ((A_eq m c 19).trans (V_main_arg15 m c))⟩, h.2⟩) (run_main_quiescent m ρ)

end Cert.Kernel.Gen

end
-- ==== Proof.IdealRunB.lean ====
module

public import proofs.«01_k».proof.Proof.Gen.KernelIdeal.Frame
public import proofs.«01_k».proof.Proof.Gen.KernelIdeal.Skeleton

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Whether the point is the grid's first. -/
abbrev cond0_0 (i : grid0.Coords) : Prop :=
  (Scalar.cmpi .ne (Scalar.extui (Scalar.cmpi .eq (BitVec.ofNat 32 (i 0).val) 0#32)) 0#32) = 1#1

/-- The tile of this point is read from slot `t % 2` of the two-slot buffer. -/
theorem k0_off1_eq : ∀ i : grid0.Coords, k0_off1 i = ![(i 0).val % 2, 0, 0] := by decide +kernel

/-- The upper half of the next point's tile is written into the other slot. -/
theorem k0_off2_eq : ∀ i : grid0.Coords, k0_off2 i = ![1 - (i 0).val % 2, 0, 0] := by decide +kernel

/-- The lower half of the next point's tile is written into the other slot. -/
theorem k0_off3_eq : ∀ i : grid0.Coords, k0_off3 i = ![1 - (i 0).val % 2, 256, 0] := by decide +kernel

instance closedOff_k0_off1 (i : grid0.Coords) : ClosedOff (k0_off1 i) := ⟨![(i 0).val % 2, 0, 0], k0_off1_eq i⟩
instance closedOff_k0_off2 (i : grid0.Coords) : ClosedOff (k0_off2 i) := ⟨![1 - (i 0).val % 2, 0, 0], k0_off2_eq i⟩
instance closedOff_k0_off3 (i : grid0.Coords) : ClosedOff (k0_off3 i) := ⟨![1 - (i 0).val % 2, 256, 0], k0_off3_eq i⟩

set_option maxHeartbeats 3744000 in
/-- The body at a point other than the first: from the inputs' staging buffers at their contents
    and the two-slot buffer at `s`, the body runs to the output's buffer and the two-slot buffer with the pieces
    named here written into them (last first). -/
def bodyRunB (c : Dev nD) (i : grid0.Coords)
    (arg1 : Memref sig .tc .vmem S512x512 .bf16) (harg1 : arg1.IsWhole) (arg2 : Memref sig .tc .vmem S512x512 .bf16) (harg2 : arg2.IsWhole)
    (arg3 : Memref sig .tc .vmem S512x512 .bf16) (harg3 : arg3.IsWhole) (arg4 : Memref sig .tc .vmem S512x1024 .f32) (harg4 : arg4.IsWhole)
    (arg5 : Memref sig .tc .vmem S512x512 .bf16) (harg5 : arg5.IsWhole) (arg6 : Memref sig .tc .vmem S512x512 .bf16) (harg6 : arg6.IsWhole)
    (arg7 : Memref sig .tc .vmem S512x512 .bf16) (harg7 : arg7.IsWhole) (arg8 : Memref sig .tc .vmem S512x1024 .f32) (harg8 : arg8.IsWhole)
    (arg9 : Memref sig .tc .vmem S8x128x128 .f32) (harg9 : arg9.IsWhole) (arg10 : Memref sig .tc .vmem S128x512 .f32) (harg10 : arg10.IsWhole)
    (arg11 : Memref sig .tc .vmem S1x512 .f32) (harg11 : arg11.IsWhole) (arg12 : Memref sig .tc .vmem S1x512 .f32) (harg12 : arg12.IsWhole)
    (arg13 : Memref sig .tc .vmem S1024x1024 .bf16) (harg13 : arg13.IsWhole) (arg14 : Memref sig .tc .vmem S1x1024 .f32) (harg14 : arg14.IsWhole)
    (arg15 : Memref sig .tc .vmem S1x1024 .f32) (harg15 : arg15.IsWhole) (arg16 : Memref sig .tc .vmem S1024x2816 .bf16) (harg16 : arg16.IsWhole)
    (arg17 : Memref sig .tc .vmem S1024x2816 .bf16) (harg17 : arg17.IsWhole) (arg18 : Memref sig .tc .vmem S2816x1024 .bf16) (harg18 : arg18.IsWhole)
    (arg19 : Memref sig .tc .vmem S1x1024 .f32) (harg19 : arg19.IsWhole) (arg20 : Memref sig .tc .vmem S1x1024 .f32) (harg20 : arg20.IsWhole)
    (arg21 : Memref sig .tc .vmem S512x1024 .f32) (harg21 : arg21.IsWhole) (arg22 : Memref sig .tc .vmem S2x512x1024 .f32) (harg22 : arg22.IsWhole)
    (arg23 : Memref sig .tc .vmem S512x512 .f32) (harg23 : arg23.IsWhole) (arg24 : Memref sig .tc .vmem S512x1024 .f32) (harg24 : arg24.IsWhole)
    (hc : ¬cond0_0 i)
    (x0 : Vec F S512x512 .bf16) (x1 : Vec F S512x512 .bf16) (x2 : Vec F S512x512 .bf16) (x3 : Vec F S512x1024 .f32)
    (x4 : Vec F S512x512 .bf16) (x5 : Vec F S512x512 .bf16) (x6 : Vec F S512x512 .bf16) (x7 : Vec F S512x1024 .f32)
    (x8 : Vec F S8x128x128 .f32) (x9 : Vec F S128x512 .f32) (x10 : Vec F S1x512 .f32) (x11 : Vec F S1x512 .f32)
    (x12 : Vec F S1024x1024 .bf16) (x13 : Vec F S1x1024 .f32) (x14 : Vec F S1x1024 .f32) (x15 : Vec F S1024x2816 .bf16)
    (x16 : Vec F S1024x2816 .bf16) (x17 : Vec F S2816x1024 .bf16) (x18 : Vec F S1x1024 .f32) (x19 : Vec F S1x1024 .f32) (s : Vec F S2x512x1024 .f32) :
    Σ' (L20 : List (View.Piece (Elt F) S512x1024 .f32)), { LS : List (View.Piece (Elt F) S2x512x1024 .f32) //
    ∀ (E : Set ℕ) (K : PUnit → sProp 𝕄),
      iprop(owns (c : Thread nD τ) arg1 fullShare x0 ∗ owns (c : Thread nD τ) arg2 fullShare x1 ∗ owns (c : Thread nD τ) arg3 fullShare x2 ∗
        owns (c : Thread nD τ) arg4 fullShare x3 ∗ owns (c : Thread nD τ) arg5 fullShare x4 ∗ owns (c : Thread nD τ) arg6 fullShare x5 ∗
        owns (c : Thread nD τ) arg7 fullShare x6 ∗ owns (c : Thread nD τ) arg8 fullShare x7 ∗ owns (c : Thread nD τ) arg9 fullShare x8 ∗
        owns (c : Thread nD τ) arg10 fullShare x9 ∗ owns (c : Thread nD τ) arg11 fullShare x10 ∗ owns (c : Thread nD τ) arg12 fullShare x11 ∗
        owns (c : Thread nD τ) arg13 fullShare x12 ∗ owns (c : Thread nD τ) arg14 fullShare x13 ∗ owns (c : Thread nD τ) arg15 fullShare x14 ∗
        owns (c : Thread nD τ) arg16 fullShare x15 ∗ owns (c : Thread nD τ) arg17 fullShare x16 ∗ owns (c : Thread nD τ) arg18 fullShare x17 ∗
        owns (c : Thread nD τ) arg19 fullShare x18 ∗ owns (c : Thread nD τ) arg20 fullShare x19 ∗ (∃ d, owns (c : Thread nD τ) arg21 fullShare d) ∗
        owns (c : Thread nD τ) arg22 fullShare s ∗ (∃ d, owns (c : Thread nD τ) arg23 fullShare d) ∗ (∃ d, owns (c : Thread nD τ) arg24 fullShare d)
          ∗ (iprop(owns (c : Thread nD τ) arg1 fullShare x0 ∗ owns (c : Thread nD τ) arg2 fullShare x1 ∗ owns (c : Thread nD τ) arg3 fullShare x2 ∗
            owns (c : Thread nD τ) arg4 fullShare x3 ∗ owns (c : Thread nD τ) arg5 fullShare x4 ∗ owns (c : Thread nD τ) arg6 fullShare x5 ∗
            owns (c : Thread nD τ) arg7 fullShare x6 ∗ owns (c : Thread nD τ) arg8 fullShare x7 ∗ owns (c : Thread nD τ) arg9 fullShare x8 ∗
            owns (c : Thread nD τ) arg10 fullShare x9 ∗ owns (c : Thread nD τ) arg11 fullShare x10 ∗ owns (c : Thread nD τ) arg12 fullShare x11 ∗
            owns (c : Thread nD τ) arg13 fullShare x12 ∗ owns (c : Thread nD τ) arg14 fullShare x13 ∗ owns (c : Thread nD τ) arg15 fullShare x14 ∗
            owns (c : Thread nD τ) arg16 fullShare x15 ∗ owns (c : Thread nD τ) arg17 fullShare x16 ∗ owns (c : Thread nD τ) arg18 fullShare x17 ∗
            owns (c : Thread nD τ) arg19 fullShare x18 ∗ owns (c : Thread nD τ) arg20 fullShare x19 ∗ (∃ f, arg21.view.loc (c : Thread nD τ) ↦[arg21.view.set]{fullShare} arg21.view.writes (Elt F) f L20) ∗
            (arg22.view.loc (c : Thread nD τ) ↦[arg22.view.set]{fullShare} arg22.view.writes (Elt F) (harg22.unread s) LS) ∗ (∃ d, owns (c : Thread nD τ) arg23 fullShare d) ∗ (∃ d, owns (c : Thread nD τ) arg24 fullShare d)) -∗ K ⟨⟩))
        ⊢ wp frame (wpE (defs₀ (F := F)) Variants.none c none) E
            (cc0_mixer_out_ffn i arg1 harg1 arg2 harg2 arg3 harg3 arg4 harg4 arg5 harg5 arg6 harg6 arg7 harg7 arg8 harg8
              arg9 harg9 arg10 harg10 arg11 harg11 arg12 harg12 arg13 harg13 arg14 harg14 arg15 harg15 arg16 harg16
              arg17 harg17 arg18 harg18 arg19 harg19 arg20 harg20 arg21 harg21 arg22 harg22 arg23 harg23 arg24 harg24) K } := by
  refine ⟨?_, ?_, fun E K => ?run⟩
  case run =>
    simp only [cc0_mixer_out_ffn_eq_skeleton]; unfold cc0_mixer_out_ffn_skel
    simp only [k0_part14_eq_skeleton, k0_part15_eq_skeleton, k0_part16_eq_skeleton, k0_part17_eq_skeleton, k0_part18_eq_skeleton,
        k0_part19_eq_skeleton, k0_part20_eq_skeleton, k0_part21_eq_skeleton, k0_part22_eq_skeleton, k0_part23_eq_skeleton,
        k0_part24_eq_skeleton, k0_part25_eq_skeleton, k0_part26_eq_skeleton, k0_part27_eq_skeleton, k0_part28_eq_skeleton,
        k0_part29_eq_skeleton, k0_part30_eq_skeleton, k0_part31_eq_skeleton, k0_part32_eq_skeleton, k0_part33_eq_skeleton,
        k0_part34_eq_skeleton, k0_part1_eq_skeleton, k0_part2_eq_skeleton, k0_part3_eq_skeleton, k0_part4_eq_skeleton,
        k0_part5_eq_skeleton, k0_part6_eq_skeleton, k0_part7_eq_skeleton, k0_part8_eq_skeleton, k0_part9_eq_skeleton,
        k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩,
        ⟨%f6, %hf6, H6⟩, ⟨%f7, %hf7, H7⟩, ⟨%f8, %hf8, H8⟩, ⟨%f9, %hf9, H9⟩, ⟨%f10, %hf10, H10⟩, ⟨%f11, %hf11, H11⟩,
        ⟨%f12, %hf12, H12⟩, ⟨%f13, %hf13, H13⟩, ⟨%f14, %hf14, H14⟩, ⟨%f15, %hf15, H15⟩, ⟨%f16, %hf16, H16⟩, ⟨%f17, %hf17, H17⟩,
        ⟨%f18, %hf18, H18⟩, ⟨%f19, %hf19, H19⟩, ⟨%d20, %f20, -, H20⟩, ⟨%f21, %hf21, H21⟩, ⟨%d22, %f22, -, H22⟩, ⟨%d23, %f23, -, H23⟩,
        Hk⟩
    obtain rfl := harg1.eq_unread hf0; obtain rfl := harg2.eq_unread hf1; obtain rfl := harg3.eq_unread hf2; obtain rfl := harg4.eq_unread hf3;
        obtain rfl := harg5.eq_unread hf4; obtain rfl := harg6.eq_unread hf5; obtain rfl := harg7.eq_unread hf6; obtain rfl := harg8.eq_unread hf7;
        obtain rfl := harg9.eq_unread hf8; obtain rfl := harg10.eq_unread hf9; obtain rfl := harg11.eq_unread hf10; obtain rfl := harg12.eq_unread hf11;
        obtain rfl := harg13.eq_unread hf12; obtain rfl := harg14.eq_unread hf13; obtain rfl := harg15.eq_unread hf14; obtain rfl := harg16.eq_unread hf15;
        obtain rfl := harg17.eq_unread hf16; obtain rfl := harg18.eq_unread hf17; obtain rfl := harg19.eq_unread hf18; obtain rfl := harg20.eq_unread hf19;
        obtain rfl := harg22.eq_unread hf21
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]; · iexists _; iexact H20
    isplitl [H21]; · iexact H21
    isplitl [H22]
    · iexists _, _; isplitr; swap; · iexact H22
      ipureintro; rfl
    iexists _, _; isplitr; swap; · iexact H23
    ipureintro; rfl

end Cert.KernelIdeal.Gen

end
-- ==== Proof.Spec.lean ====
module

public import Idealize.ShloMosaic.Lib.Pointwise

@[expose] public section

noncomputable section

/-! What both programs compute, row by row, over the extended reals. A row of the layer's result needs the
    attention row, the gate's row, the residual row and the weights; the gate needs the rows of its chunk of 128. -/

namespace Cert.Spec

open Idealize.ShloMosaic

/-- The residual weight `2 ^ 0.25` as the nearest float. -/
abbrev alpha : EReal := Ideal.ofBits .f32 1066940400#32

/-- A row over its root mean square, times the weights. -/
def rms (v g : Fin 512 → EReal) (j : Fin 512) : EReal :=
  v j * Ideal.rsqrt (Ideal.div (∑ k, v k * v k) (Ideal.ofBits .f32 1140850688#32) + Ideal.ofBits .f32 897988541#32) * g j

/-- A row's mean. -/
def mean (v : Fin 1024 → EReal) : EReal := Ideal.div (∑ k, v k) (Ideal.ofBits .f32 1149239296#32)

/-- A row's layer norm with weights `g` and offsets `b`. -/
def ln (v g b : Fin 1024 → EReal) (j : Fin 1024) : EReal :=
  (v j - mean v) * Ideal.rsqrt (Ideal.div (∑ k, (v k - mean v) * (v k - mean v)) (Ideal.ofBits .f32 1149239296#32)
    + Ideal.ofBits .f32 925353388#32) * g j + b j

/-- One entry of the gate's output: `u` times the causal mix of the chunk's column `z` plus the bias. -/
def gate (u bias : EReal) (z w : Fin 128 → EReal) (i : Fin 128) : EReal :=
  u * ((∑ k : Fin 128, if k.val ≤ i.val then z k * w k else 0) + bias)

/-- The residual row plus the projection of the two normalised halves. -/
def mixed (a g : Fin 512 → EReal) (x : Fin 1024 → EReal) (wo : Fin 1024 → Fin 1024 → EReal) (c : Fin 1024) : EReal :=
  alpha * x c + ((∑ k : Fin 512, a k * wo ⟨k.val, by omega⟩ c) + ∑ k : Fin 512, g k * wo ⟨512 + k.val, by omega⟩ c)

/-- One hidden unit of the FFN: `silu` of the gate projection times the up projection. -/
def hidden (x : Fin 1024 → EReal) (wg wu : Fin 1024 → Fin 2816 → EReal) (k : Fin 2816) : EReal :=
  Ideal.div (∑ l, x l * wg l k) (1 + Ideal.exp (-(∑ l, x l * wg l k))) * ∑ l, x l * wu l k

/-- The FFN's row. -/
def ffn (x : Fin 1024 → EReal) (wg wu : Fin 1024 → Fin 2816 → EReal) (wd : Fin 2816 → Fin 1024 → EReal) (c : Fin 1024) :
    EReal := ∑ k, hidden x wg wu k * wd k c

/-- The row after the mixer, its projection and the first norm. -/
def x1 (a g ag gg : Fin 512 → EReal) (x : Fin 1024 → EReal) (wo : Fin 1024 → Fin 1024 → EReal)
    (lg lb : Fin 1024 → EReal) : Fin 1024 → EReal :=
  ln (mixed (rms a ag) (rms g gg) x wo) lg lb

/-- The layer's row from the row after the first norm. -/
def out (x : Fin 1024 → EReal) (wg wu : Fin 1024 → Fin 2816 → EReal) (wd : Fin 2816 → Fin 1024 → EReal)
    (lg lb : Fin 1024 → EReal) : Fin 1024 → EReal :=
  ln (fun c => alpha * x c + ffn x wg wu wd c) lg lb

end Cert.Spec

end
-- ==== Proof.Tile.lean ====
module

public import proofs.«01_k».proof.Proof.IdealRunB
public import proofs.«01_k».proof.Proof.Spec

@[expose] public section

set_option maxRecDepth 16384

noncomputable section

namespace Cert.KernelIdeal.Gen

open Idealize.ShloMosaic Idealize.ShloMosaic.TcCoe

/-- Row `r` of a rank-2 vector. -/
abbrev row {m n : ℕ} {t : EltTy} (v : Vec Ideal ⟨2, ![m, n]⟩ t) (r : Fin m) : Fin n → Elt Ideal t := fun k => v (ix2 r k)

/-- The pre-norm sum, centred. -/
theorem pay119_apply (y : FVec Ideal S256x1024 .f32) (x : Vec Ideal S256x1024 .f32) (r : Fin 256) (c : Fin 1024) :
    k0_pay119 y x (ix2 r c) = (Spec.alpha * x (ix2 r c) + y (ix2 r c) : EReal)
      - Spec.mean (fun k => (Spec.alpha * x (ix2 r k) + y (ix2 r k) : EReal)) := by
  pointwise [k0_pay119]
  rfl

/-- The sum of the centred squares. -/
theorem pay120_apply (y : FVec Ideal S256x1024 .f32) (x : Vec Ideal S256x1024 .f32) (r : Fin 256) (c : Fin 1) :
    k0_pay120 y x (ix2 r c) = (∑ k, (k0_pay119 y x (ix2 r k) * k0_pay119 y x (ix2 r k) : EReal)) := by
  pointwise [k0_pay120, k0_pay119]

/-- The norm's last step. -/
theorem pay122_apply (g b : Vec Ideal S1x1024 .f32) (d : FVec Ideal S256x1024 .f32) (q : FVec Ideal S256x1 .f32)
    (z : Fin 1) (r : Fin 256) (c : Fin 1024) :
    k0_pay122 g b d q k0_pay121 (ix3 z r c)
      = (d (ix2 r c) * Ideal.rsqrt (Ideal.div (q (ix2 r 0)) (Ideal.ofBits .f32 1149239296#32)
          + Ideal.ofBits .f32 925353388#32) * g (ix2 0 c) + b (ix2 0 c) : EReal) := by
  pointwise [k0_pay122, k0_pay121]

/-- The normalised attention rows. -/
theorem pay82_apply (a : Vec Ideal S256x512 .bf16) (g : Vec Ideal S1x512 .f32) (r : Fin 256) (j : Fin 512) :
    k0_pay82 a g (ix2 r j) = Spec.rms (row a r) (row g 0) j := by
  pointwise [k0_pay82]
  rfl

/-- The normalised gate rows. -/
theorem pay84_apply (a : Vec Ideal S256x512 .f32) (g : Vec Ideal S1x512 .f32) (r : Fin 256) (j : Fin 512) :
    k0_pay84 a g (k0_pay83 a) (ix2 r j) = Spec.rms (row a r) (row g 0) j := by
  pointwise [k0_pay84, k0_pay83]
  rfl

/-- The projection of the two normalised halves, columns `0–511` and `512–1023` from the four loads. -/
theorem pay115_apply (a g : FVec Ideal S256x512 .bf16) (w00 w10 w01 w11 : Vec Ideal S512x512 .bf16) (r : Fin 256)
    (c : Fin 1024) :
    k0_pay115 a g (k0_pay113 a g w00 w10) w01 w11 (ix2 r c)
      = if h : c.val < 512 then (∑ k : Fin 512, (a (ix2 r k) * w00 (ix2 k ⟨c.val, h⟩) : EReal))
            + (∑ k : Fin 512, (g (ix2 r k) * w10 (ix2 k ⟨c.val, h⟩) : EReal))
        else (∑ k : Fin 512, (a (ix2 r k) * w01 (ix2 k ⟨c.val - 512, by omega⟩) : EReal))
            + (∑ k : Fin 512, (g (ix2 r k) * w11 (ix2 k ⟨c.val - 512, by omega⟩) : EReal)) := by
  pointwise [k0_pay115, k0_pay113]
  trace_state
/-- A subtile's stored rows: both norms of the halves, the projection with the residual, and the first norm. -/
def tail (a : Vec Ideal S256x512 .bf16) (sg : Vec Ideal S256x512 .f32) (ag gg : Vec Ideal S1x512 .f32)
    (w00 w10 w01 w11 : Vec Ideal S512x512 .bf16) (x : Vec Ideal S256x1024 .f32) (lg lb : Vec Ideal S1x1024 .f32) :
    FVec Ideal S1x256x1024 .f32 :=
  let y := k0_pay115 (k0_pay82 a ag) (k0_pay84 sg gg (k0_pay83 sg))
    (k0_pay113 (k0_pay82 a ag) (k0_pay84 sg gg (k0_pay83 sg)) w00 w10) w01 w11
  k0_pay122 lg lb (k0_pay119 y x) (k0_pay120 y x) k0_pay121

/-- The stored rows are the rows of the specification. -/
theorem tail_apply (a : Vec Ideal S256x512 .bf16) (sg : Vec Ideal S256x512 .f32) (ag gg : Vec Ideal S1x512 .f32)
    (w : Vec Ideal S1024x1024 .bf16) (x : Vec Ideal S256x1024 .f32) (lg lb : Vec Ideal S1x1024 .f32)
    (i00 i10 i01 i11) (z : Fin 1) (r : Fin 256) (c : Fin 1024) :
    tail a sg ag gg (View.ld w (Rect.unit ![0, 0] S512x512.size i00)) (View.ld w (Rect.unit ![512, 0] S512x512.size i10))
        (View.ld w (Rect.unit ![0, 512] S512x512.size i01)) (View.ld w (Rect.unit ![512, 512] S512x512.size i11)) x lg lb
        (ix3 z r c)
      = Spec.x1 (row a r) (row sg r) (row ag 0) (row gg 0) (row x r) (row w) (row lg 0) (row lb 0) c := by
  have hm : ∀ c : Fin 1024, k0_pay115 (k0_pay82 a ag) (k0_pay84 sg gg (k0_pay83 sg))
        (k0_pay113 (k0_pay82 a ag) (k0_pay84 sg gg (k0_pay83 sg)) (View.ld w (Rect.unit ![0, 0] S512x512.size i00))
          (View.ld w (Rect.unit ![512, 0] S512x512.size i10))) (View.ld w (Rect.unit ![0, 512] S512x512.size i01))
        (View.ld w (Rect.unit ![512, 512] S512x512.size i11)) (ix2 r c)
      = (∑ k : Fin 512, (Spec.rms (row a r) (row ag 0) k * w (ix2 ⟨k.val, by omega⟩ c) : EReal))
        + ∑ k : Fin 512, (Spec.rms (row sg r) (row gg 0) k * w (ix2 ⟨512 + k.val, by omega⟩ c) : EReal) := by
    intro c
    rw [pay115_apply]
    simp only [pay82_apply, pay84_apply]
    split_ifs with h
    · pointwise
    · pointwise
      simp only [show 512 + (c.val - 512) = c.val by omega]
  unfold tail
  simp only [pay122_apply, pay120_apply, pay119_apply, hm]
  rfl

end Cert.KernelIdeal.Gen

end
-- ==== Proof.Gate.lean ====
module

public import proofs.«01_k».proof.Proof.Tile

@[expose] public section

set_option maxRecDepth 16384

noncomputable section

namespace Cert.KernelIdeal.Gen

open Idealize.ShloMosaic Idealize.ShloMosaic.TcCoe

/-- The gate's tile: entry `(i, j)` from the chunk of 128 rows that holds row `i` and the head that holds column `j`. -/
def gateT (u z : Vec Ideal S512x512 .bf16) (w : Vec Ideal S8x128x128 .f32) (bias : Vec Ideal S128x512 .f32)
    (i j : Fin 512) : EReal :=
  Spec.gate (u (ix2 i j)) (bias (ix2 ⟨i.val % 128, Nat.mod_lt _ (by omega)⟩ j))
    (fun k => z (ix2 ⟨i.val / 128 * 128 + k.val, by omega⟩ j))
    (fun k => w (ix3 ⟨j.val / 64, by omega⟩ ⟨i.val % 128, Nat.mod_lt _ (by omega)⟩ k)) ⟨i.val % 128, Nat.mod_lt _ (by omega)⟩

/-- The kernel's product for a pair of heads is the one of the head that holds the column: the other's half is zero. -/
theorem pair_sum (P Q : Fin 128 → EReal) (i l : Fin 128) :
    (∑ x : Fin 128, Scalar.select (IntOp.cmpi .slt (BitVec.ofNat 32 l.val) 64#32)
        (Scalar.select (IntOp.cmpi .sle (BitVec.ofNat 32 x.val) (BitVec.ofNat 32 i.val)) (P x) 0) (0 : EReal))
      + (∑ x : Fin 128, Scalar.select (IntOp.cmpi .slt (BitVec.ofNat 32 l.val) 64#32) (0 : EReal)
        (Scalar.select (IntOp.cmpi .sle (BitVec.ofNat 32 x.val) (BitVec.ofNat 32 i.val)) (Q x) 0))
      = ∑ x : Fin 128, if x.val ≤ i.val then (if l.val < 64 then P x else Q x) else 0 := by
  have hl : (IntOp.cmpi .slt (BitVec.ofNat 32 l.val) 64#32 = 1#1) ↔ l.val < 64 := by revert l; decide +kernel
  have hx : ∀ x : Fin 128, (IntOp.cmpi .sle (BitVec.ofNat 32 x.val) (BitVec.ofNat 32 i.val) = 1#1) ↔ x.val ≤ i.val := by
    revert i; decide +kernel
  by_cases h : l.val < 64 <;> simp [Scalar.select, hl, hx, h]

/-- A unit-stride box's index from its offset. -/
theorem unit_emb {s : Shape} (off size : Fin s.rank → ℕ) (inb) (x : (Rect.unit off size inb).shape.Idx) (a : Fin s.rank) :
    ((Rect.unit off size inb).emb x a).val = off a + (x a).val := by
  show off a + 1 * (x a).val = _
  omega

/-- A stored piece's entry is the gate's, given where its rows, columns and heads lie. -/
theorem gate_piece (u z : Vec Ideal S512x512 .bf16) (w : Vec Ideal S8x128x128 .f32) (bias : Vec Ideal S128x512 .f32)
    (i l : Fin 128) (R : Fin 128 → Fin 512) (C : Fin 512) (W0 W1 : Fin 8) (I J : Fin 512) (hI : I.val = (R i).val := by rw [unit_emb]; simp)
    (hJ : J.val = C.val := by rw [unit_emb]; simp) (hR : ∀ x, (R i).val / 128 * 128 + x.val = (R x).val := by intro x; dsimp only; omega)
    (hi : (R i).val % 128 = i.val := by dsimp only; omega)
    (h0 : l.val < 64 → C.val / 64 = W0.val := by intro h; simp; omega)
    (h1 : ¬ l.val < 64 → C.val / 64 = W1.val := by intro h; simp; omega) :
    (u (ix2 (R i) C) * ((∑ x : Fin 128, Scalar.select (IntOp.cmpi .slt (BitVec.ofNat 32 l.val) 64#32)
          (Scalar.select (IntOp.cmpi .sle (BitVec.ofNat 32 x.val) (BitVec.ofNat 32 i.val))
            (w (ix3 W0 i x) * z (ix2 (R x) C)) 0) 0)
      + (∑ x : Fin 128, Scalar.select (IntOp.cmpi .slt (BitVec.ofNat 32 l.val) 64#32) 0
        (Scalar.select (IntOp.cmpi .sle (BitVec.ofNat 32 x.val) (BitVec.ofNat 32 i.val))
            (w (ix3 W1 i x) * z (ix2 (R x) C)) 0)) + bias (ix2 i C)) : EReal) = gateT u z w bias I J := by
  obtain rfl : I = R i := Fin.ext hI
  obtain rfl : J = C := Fin.ext hJ
  rw [pair_sum (fun x => w (ix3 W0 i x) * z (ix2 (R x) J)) (fun x => w (ix3 W1 i x) * z (ix2 (R x) J))]
  unfold gateT Spec.gate
  have e : (⟨(R i).val % 128, Nat.mod_lt _ (by omega)⟩ : Fin 128) = i := Fin.ext hi
  have ez : ∀ x : Fin 128, (⟨(R i).val / 128 * 128 + x.val, by omega⟩ : Fin 512) = R x := fun x => Fin.ext (hR x)
  simp only [e, ez]
  by_cases h : l.val < 64
  · have ew : (⟨J.val / 64, by omega⟩ : Fin 8) = W0 := Fin.ext (h0 h)
    simp only [h, if_true, ew, EReal.mul_comm, hi]
  · have ew : (⟨J.val / 64, by omega⟩ : Fin 8) = W1 := Fin.ext (h1 h)
    simp only [h, if_false, ew, EReal.mul_comm, hi]

/-- The upper half of the gate's tile is stored piece by piece as `gateT` says. -/
theorem gate_lo (c : Dev nD) (arg2 : Memref sig .tc .vmem S512x512 .bf16) (harg2 : arg2.IsWhole)
    (arg3 : Memref sig .tc .vmem S512x512 .bf16) (harg3 : arg3.IsWhole)
    (arg9 : Memref sig .tc .vmem S8x128x128 .f32) (harg9 : arg9.IsWhole)
    (arg10 : Memref sig .tc .vmem S128x512 .f32) (harg10 : arg10.IsWhole)
    (u z : Vec Ideal S512x512 .bf16) (w : Vec Ideal S8x128x128 .f32) (bias : Vec Ideal S128x512 .f32) :
    ∀ p ∈ bodyRunB.sl.H22_8 c arg2 harg2 arg3 harg3 arg9 harg9 arg10 harg10 u z w bias, ∀ x : p.1.shape.Idx,
      p.2 x = gateT u z w bias (p.1.emb x 0) (p.1.emb x 1) := by
  unfold bodyRunB.sl.H22_8 bodyRunB.sl.r_7
  simp only [View.readAt_eq_ld, Memref.IsWhole.read_unread, List.forall_mem_cons]
  refine ⟨?_, ?_, ?_, ?_, ?_, ?_, ?_, ?_, by simp⟩
  all_goals
    intro x
    idx_vars x
    simp only [bodyRunB.sl.r_7, bodyRunB.sl.r_8, bodyRunB.sl.r_9, bodyRunB.sl.r_10, bodyRunB.sl.r_11, bodyRunB.sl.r_12,
      bodyRunB.sl.r_13, bodyRunB.sl.r_14, bodyRunB.sl.r_15, bodyRunB.sl.r_16, bodyRunB.sl.r_17, bodyRunB.sl.r,
      bodyRunB.sl.r_1, bodyRunB.sl.r_2, bodyRunB.sl.r_3, bodyRunB.sl.r_4, View.readAt_eq_ld, Memref.IsWhole.read_unread]
    pointwise [k0_pay81, k0_pay80, k0_pay79, k0_pay78, k0_pay77, k0_pay76, k0_pay75, k0_pay74, k0_pay73, k0_pay72, k0_pay71,
      k0_pay70, k0_pay69, k0_pay68, k0_pay67, k0_pay66, k0_pay65, k0_pay64, k0_pay63, k0_pay59, k0_pay58, k0_pay57, k0_pay56,
      k0_pay55, k0_pay54, bodyRunB.sl.v13, bodyRunB.sl.v14, k0_pay53]
  · exact gate_piece u z w bias x0 x1 (fun x => ⟨128 + x.val, by omega⟩) ⟨384 + x1.val, by omega⟩ 6 7 _ _
  · exact gate_piece u z w bias x0 x1 (fun x => ⟨x.val, by omega⟩) ⟨384 + x1.val, by omega⟩ 6 7 _ _
  · exact gate_piece u z w bias x0 x1 (fun x => ⟨128 + x.val, by omega⟩) ⟨256 + x1.val, by omega⟩ 4 5 _ _
  · exact gate_piece u z w bias x0 x1 (fun x => ⟨x.val, by omega⟩) ⟨256 + x1.val, by omega⟩ 4 5 _ _
  · exact gate_piece u z w bias x0 x1 (fun x => ⟨128 + x.val, by omega⟩) ⟨128 + x1.val, by omega⟩ 2 3 _ _
  · exact gate_piece u z w bias x0 x1 (fun x => ⟨x.val, by omega⟩) ⟨128 + x1.val, by omega⟩ 2 3 _ _
  · exact gate_piece u z w bias x0 x1 (fun x => ⟨128 + x.val, by omega⟩) ⟨x1.val, by omega⟩ 0 1 _ _
  · exact gate_piece u z w bias x0 x1 (fun x => ⟨x.val, by omega⟩) ⟨x1.val, by omega⟩ 0 1 _ _

/-- The pieces of the lower half of the gate's tile, last first. -/
abbrev hiPieces (c : Dev nD) (arg2 : Memref sig .tc .vmem S512x512 .bf16) (harg2 : arg2.IsWhole)
    (arg3 : Memref sig .tc .vmem S512x512 .bf16) (harg3 : arg3.IsWhole)
    (arg9 : Memref sig .tc .vmem S8x128x128 .f32) (harg9 : arg9.IsWhole)
    (arg10 : Memref sig .tc .vmem S128x512 .f32) (harg10 : arg10.IsWhole)
    (u z : Vec Ideal S512x512 .bf16) (w : Vec Ideal S8x128x128 .f32) (bias : Vec Ideal S128x512 .f32) :
    List (View.Piece (Elt Ideal) S512x512 .f32) :=
  (bodyRunB.sl.H22_16 c arg2 harg2 arg3 harg3 arg9 harg9 arg10 harg10 u z w bias).take 8

/-- The lower half of the gate's tile is stored piece by piece as `gateT` says. -/
theorem gate_hi (c : Dev nD) (arg2 : Memref sig .tc .vmem S512x512 .bf16) (harg2 : arg2.IsWhole)
    (arg3 : Memref sig .tc .vmem S512x512 .bf16) (harg3 : arg3.IsWhole)
    (arg9 : Memref sig .tc .vmem S8x128x128 .f32) (harg9 : arg9.IsWhole)
    (arg10 : Memref sig .tc .vmem S128x512 .f32) (harg10 : arg10.IsWhole)
    (u z : Vec Ideal S512x512 .bf16) (w : Vec Ideal S8x128x128 .f32) (bias : Vec Ideal S128x512 .f32) :
    ∀ p ∈ hiPieces c arg2 harg2 arg3 harg3 arg9 harg9 arg10 harg10 u z w bias, ∀ x : p.1.shape.Idx,
      p.2 x = gateT u z w bias (p.1.emb x 0) (p.1.emb x 1) := by
  unfold hiPieces bodyRunB.sl.H22_16
  simp only [View.readAt_eq_ld, Memref.IsWhole.read_unread, List.forall_mem_cons, List.take_succ_cons, List.take_zero]
  refine ⟨?_, ?_, ?_, ?_, ?_, ?_, ?_, ?_, by simp⟩
  all_goals
    intro x
    idx_vars x
    simp only [bodyRunB.sl.r_22, bodyRunB.sl.r_23, bodyRunB.sl.r_24, bodyRunB.sl.r_25, bodyRunB.sl.r_26, bodyRunB.sl.r_27,
      bodyRunB.sl.r_28, bodyRunB.sl.r, bodyRunB.sl.r_1, bodyRunB.sl.r_2, bodyRunB.sl.r_3, bodyRunB.sl.r_4,
      View.readAt_eq_ld, Memref.IsWhole.read_unread]
    pointwise [k0_pay107, k0_pay106, k0_pay105, k0_pay104, k0_pay103, k0_pay102, k0_pay101, k0_pay100, k0_pay99, k0_pay98,
      k0_pay97, k0_pay96, k0_pay95, k0_pay94, k0_pay93, k0_pay92, k0_pay91, k0_pay90, k0_pay89, k0_pay88, k0_pay87, k0_pay86,
      k0_pay59, k0_pay58, k0_pay57, k0_pay56, k0_pay55, k0_pay54, bodyRunB.sl.v13, bodyRunB.sl.v14, k0_pay53]
  · exact gate_piece u z w bias x0 x1 (fun x => ⟨384 + x.val, by omega⟩) ⟨384 + x1.val, by omega⟩ 6 7 _ _
  · exact gate_piece u z w bias x0 x1 (fun x => ⟨256 + x.val, by omega⟩) ⟨384 + x1.val, by omega⟩ 6 7 _ _
  · exact gate_piece u z w bias x0 x1 (fun x => ⟨384 + x.val, by omega⟩) ⟨256 + x1.val, by omega⟩ 4 5 _ _
  · exact gate_piece u z w bias x0 x1 (fun x => ⟨256 + x.val, by omega⟩) ⟨256 + x1.val, by omega⟩ 4 5 _ _
  · exact gate_piece u z w bias x0 x1 (fun x => ⟨384 + x.val, by omega⟩) ⟨128 + x1.val, by omega⟩ 2 3 _ _
  · exact gate_piece u z w bias x0 x1 (fun x => ⟨256 + x.val, by omega⟩) ⟨128 + x1.val, by omega⟩ 2 3 _ _
  · exact gate_piece u z w bias x0 x1 (fun x => ⟨384 + x.val, by omega⟩) ⟨x1.val, by omega⟩ 0 1 _ _
  · exact gate_piece u z w bias x0 x1 (fun x => ⟨256 + x.val, by omega⟩) ⟨x1.val, by omega⟩ 0 1 _ _

/-- What the upper half of the gate's buffer holds once its pieces are stored, whatever it held before. -/
theorem gate_read_lo (v : View sig .tc .vmem S512x512 .f32) (f : v.ty.Contents (Elt Ideal)) (c : Dev nD) (arg2 : Memref sig .tc .vmem S512x512 .bf16) (harg2 : arg2.IsWhole)
    (arg3 : Memref sig .tc .vmem S512x512 .bf16) (harg3 : arg3.IsWhole)
    (arg9 : Memref sig .tc .vmem S8x128x128 .f32) (harg9 : arg9.IsWhole)
    (arg10 : Memref sig .tc .vmem S128x512 .f32) (harg10 : arg10.IsWhole)
    (u z : Vec Ideal S512x512 .bf16) (w : Vec Ideal S8x128x128 .f32) (bias : Vec Ideal S128x512 .f32)
    (i j : Fin 512) (hi : i.val < 256) :
    v.read (Elt Ideal) (v.writes (Elt Ideal) f (bodyRunB.sl.H22_8 c arg2 harg2 arg3 harg3 arg9 harg9 arg10 harg10 u z w bias))
      (ix2 i j) = gateT u z w bias i j := by
  refine View.read_writes_apply_of_pieces v f (fun y => gateT u z w bias (y 0) (y 1)) _
    (gate_lo c arg2 harg2 arg3 harg3 arg9 harg9 arg10 harg10 u z w bias) (ix2 i j) ?_
  unfold bodyRunB.sl.H22_8
  simp only [List.exists_mem_cons_iff, Rect.mem_set_unit, Fin.forall_fin_two]
  simp
  omega

/-- What the lower half of the gate's buffer holds once its pieces are stored, whatever it held before. -/
theorem gate_read_hi (v : View sig .tc .vmem S512x512 .f32) (f : v.ty.Contents (Elt Ideal)) (c : Dev nD) (arg2 : Memref sig .tc .vmem S512x512 .bf16) (harg2 : arg2.IsWhole)
    (arg3 : Memref sig .tc .vmem S512x512 .bf16) (harg3 : arg3.IsWhole)
    (arg9 : Memref sig .tc .vmem S8x128x128 .f32) (harg9 : arg9.IsWhole)
    (arg10 : Memref sig .tc .vmem S128x512 .f32) (harg10 : arg10.IsWhole)
    (u z : Vec Ideal S512x512 .bf16) (w : Vec Ideal S8x128x128 .f32) (bias : Vec Ideal S128x512 .f32)
    (i j : Fin 512) (hi : 256 ≤ i.val) :
    v.read (Elt Ideal) (v.writes (Elt Ideal) f (hiPieces c arg2 harg2 arg3 harg3 arg9 harg9 arg10 harg10 u z w bias))
      (ix2 i j) = gateT u z w bias i j := by
  refine View.read_writes_apply_of_pieces v f (fun y => gateT u z w bias (y 0) (y 1)) _
    (gate_hi c arg2 harg2 arg3 harg3 arg9 harg9 arg10 harg10 u z w bias) (ix2 i j) ?_
  unfold hiPieces bodyRunB.sl.H22_16
  simp only [List.exists_mem_cons_iff, Rect.mem_set_unit, Fin.forall_fin_two, List.take_succ_cons, List.take_zero]
  simp
  omega

end Cert.KernelIdeal.Gen

end
-- ==== Proof.Ffn.lean ====
module

public import proofs.«01_k».proof.Proof.Tile

@[expose] public section

set_option maxRecDepth 16384

noncomputable section

namespace Cert.KernelIdeal.Gen

open Idealize.ShloMosaic Idealize.ShloMosaic.TcCoe

/-- The FFN's accumulator after its eleven chunks of 256 hidden units, from the rows `xv` and the weights. -/
def accV (xv : Vec Ideal S1x512x1024 .f32) (wg wu : Vec Ideal S1024x2816 .bf16) (wd : Vec Ideal S2816x1024 .bf16) :
    FVec Ideal S512x1024 .f32 :=
  let x : FVec Ideal S512x1024 .bf16 := k0_pay60 xv
  let a0 := k0_pay62 x (k0_pay61 xv (View.ld wg (Rect.unit ![0, 0] S1024x256.size inb_S1024x2816_S1024x256_0_0)))
    (View.ld wu (Rect.unit ![0, 0] S1024x256.size inb_S1024x2816_S1024x256_0_0))
    (View.ld wd (Rect.unit ![0, 0] S256x1024.size inb_S2816x1024_S256x1024_0_0))
  let a1 := k0_pay85 x (View.ld wg (Rect.unit ![0, 256] S1024x256.size inb_S1024x2816_S1024x256_0_256))
    (View.ld wu (Rect.unit ![0, 256] S1024x256.size inb_S1024x2816_S1024x256_0_256))
    (View.ld wd (Rect.unit ![256, 0] S256x1024.size inb_S2816x1024_S256x1024_256_0)) a0
  let a2 := k0_pay112 (k0_pay111 x (View.ld wg (Rect.unit ![0, 512] S1024x256.size inb_S1024x2816_S1024x256_0_512))
    (View.ld wu (Rect.unit ![0, 512] S1024x256.size inb_S1024x2816_S1024x256_0_512)))
    (View.ld wd (Rect.unit ![512, 0] S256x1024.size inb_S2816x1024_S256x1024_512_0)) a1
  let a3 := k0_pay114 x (View.ld wg (Rect.unit ![0, 768] S1024x256.size inb_S1024x2816_S1024x256_0_768))
    (View.ld wu (Rect.unit ![0, 768] S1024x256.size inb_S1024x2816_S1024x256_0_768))
    (View.ld wd (Rect.unit ![768, 0] S256x1024.size inb_S2816x1024_S256x1024_768_0)) a2
  let a4 := k0_pay116 x (View.ld wg (Rect.unit ![0, 1024] S1024x256.size inb_S1024x2816_S1024x256_0_1024))
    (View.ld wu (Rect.unit ![0, 1024] S1024x256.size inb_S1024x2816_S1024x256_0_1024))
    (View.ld wd (Rect.unit ![1024, 0] S256x1024.size inb_S2816x1024_S256x1024_1024_0)) a3
  let a5 := k0_pay118 x (View.ld wg (Rect.unit ![0, 1280] S1024x256.size inb_S1024x2816_S1024x256_0_1280))
    (View.ld wu (Rect.unit ![0, 1280] S1024x256.size inb_S1024x2816_S1024x256_0_1280))
    (View.ld wd (Rect.unit ![1280, 0] S256x1024.size inb_S2816x1024_S256x1024_1280_0)) a4
  let a6 := k0_pay123 x (View.ld wg (Rect.unit ![0, 1536] S1024x256.size inb_S1024x2816_S1024x256_0_1536))
    (View.ld wu (Rect.unit ![0, 1536] S1024x256.size inb_S1024x2816_S1024x256_0_1536))
    (View.ld wd (Rect.unit ![1536, 0] S256x1024.size inb_S2816x1024_S256x1024_1536_0)) a5
  let a7 := k0_pay125 x (View.ld wg (Rect.unit ![0, 1792] S1024x256.size inb_S1024x2816_S1024x256_0_1792))
    (View.ld wu (Rect.unit ![0, 1792] S1024x256.size inb_S1024x2816_S1024x256_0_1792))
    (View.ld wd (Rect.unit ![1792, 0] S256x1024.size inb_S2816x1024_S256x1024_1792_0)) a6
  let a8 := k0_pay131 (k0_pay130 x (View.ld wg (Rect.unit ![0, 2048] S1024x256.size inb_S1024x2816_S1024x256_0_2048))
    (View.ld wu (Rect.unit ![0, 2048] S1024x256.size inb_S1024x2816_S1024x256_0_2048))
    (View.ld wd (Rect.unit ![2048, 0] S256x1024.size inb_S2816x1024_S256x1024_2048_0)) a7)
  let a9 := k0_pay132 x (View.ld wg (Rect.unit ![0, 2304] S1024x256.size inb_S1024x2816_S1024x256_0_2304))
    (View.ld wu (Rect.unit ![0, 2304] S1024x256.size inb_S1024x2816_S1024x256_0_2304))
    (View.ld wd (Rect.unit ![2304, 0] S256x1024.size inb_S2816x1024_S256x1024_2304_0)) a8
  k0_pay134 (k0_pay133 x (View.ld wg (Rect.unit ![0, 2560] S1024x256.size inb_S1024x2816_S1024x256_0_2560))
    (View.ld wu (Rect.unit ![0, 2560] S1024x256.size inb_S1024x2816_S1024x256_0_2560)))
    (View.ld wd (Rect.unit ![2560, 0] S256x1024.size inb_S2816x1024_S256x1024_2560_0)) a9

/-- A sum of eleven terms, from the left. -/
theorem sum_eleven (f : Fin 11 → EReal) :
    ∑ j, f j = f 0 + f 1 + f 2 + f 3 + f 4 + f 5 + f 6 + f 7 + f 8 + f 9 + f 10 := by
  simp only [Fin.sum_univ_castSucc, Fin.sum_univ_zero, zero_add]
  rfl

/-- The accumulator is the FFN of the rows. -/
theorem accV_apply (xv : Vec Ideal S1x512x1024 .f32) (wg wu : Vec Ideal S1024x2816 .bf16) (wd : Vec Ideal S2816x1024 .bf16)
    (r : Fin 512) (c : Fin 1024) :
    accV xv wg wu wd (ix2 r c) = Spec.ffn (fun k => xv (ix3 0 r k)) (row wg) (row wu) (row wd) c := by
  pointwise [accV, k0_pay60, k0_pay61, k0_pay62, k0_pay85, k0_pay111, k0_pay112, k0_pay114, k0_pay116, k0_pay118, k0_pay123,
    k0_pay125, k0_pay130, k0_pay131, k0_pay132, k0_pay133, k0_pay134]
  unfold Spec.ffn
  rw [Fin.sum_univ_tiles (N := 2816) 11 256 (by norm_num)]
  rw [sum_eleven]
  simp only [Spec.hidden, row, zero_sub]
  iterate 10 refine congr (congrArg HAdd.hAdd ?_) (by rfl)
  refine Finset.sum_congr rfl fun x _ => ?_
  have hx : ∀ h, (⟨(0 : Fin 11).val * 256 + x.val, h⟩ : Fin 2816) = ⟨x.val, by omega⟩ := fun h => Fin.ext (by simp)
  simp only [hx]

/-- The output's rows: the residual sum normalised. -/
theorem pay135_apply (xv : Vec Ideal S1x512x1024 .f32) (a : FVec Ideal S512x1024 .f32) (g b : Vec Ideal S1x1024 .f32)
    (r : Fin 512) (c : Fin 1024) :
    k0_pay135 xv a g b (ix2 r c)
      = Spec.ln (fun k => (Spec.alpha * xv (ix3 0 r k) + a (ix2 r k) : EReal)) (row g 0) (row b 0) c := by
  pointwise [k0_pay135]
  rfl

/-- The output's rows are the rows of the specification. -/
theorem out_apply (xv : Vec Ideal S1x512x1024 .f32) (wg wu : Vec Ideal S1024x2816 .bf16) (wd : Vec Ideal S2816x1024 .bf16)
    (g b : Vec Ideal S1x1024 .f32) (r : Fin 512) (c : Fin 1024) :
    k0_pay135 xv (accV xv wg wu wd) g b (ix2 r c)
      = Spec.out (fun k => xv (ix3 0 r k)) (row wg) (row wu) (row wd) (row g 0) (row b 0) c := by
  rw [pay135_apply]
  simp only [accV_apply]
  rfl

end Cert.KernelIdeal.Gen

end
-- ==== Proof.Slots.lean ====
module

public import proofs.«01_k».proof.Proof.Gate
public import proofs.«01_k».proof.Proof.Ffn
public import Idealize.ShloMosaic.Lib.WritesUnit

@[expose] public section

set_option maxRecDepth 16384

noncomputable section

namespace Cert.KernelIdeal.Gen

open Idealize.ShloMosaic Idealize.ShloMosaic.TcCoe

/-- A load of whole rows, row by row. -/
theorem row_ld {M N m : ℕ} {t : EltTy} (x : Vec Ideal ⟨2, ![M, N]⟩ t) (n : ℕ)
    (inb : ∀ a : Fin 2, (![n, 0] : Fin 2 → ℕ) a + (![m, N] : Fin 2 → ℕ) a ≤ (![M, N] : Fin 2 → ℕ) a) (r : Fin m)
    (R : Fin M) (hR : R.val = n + r.val) :
    row (View.ld (S := ⟨2, ![M, N]⟩) x (Rect.unit ![n, 0] ![m, N] inb)) r = row x R := by
  funext k
  refine congrArg x (funext fun a => Fin.ext ?_)
  refine (unit_emb (s := ⟨2, ![M, N]⟩) _ _ inb (ix2 r k) a).trans ?_
  fin_cases a
  · exact hR.symm
  · exact Nat.zero_add _

/-- A load of a whole vector. -/
theorem ld_whole {S : Shape} {t : EltTy} (x : Vec Ideal S t) (off : Fin S.rank → ℕ) (inb : ∀ a, off a + S.size a ≤ S.size a) :
    View.ld x (Rect.unit off S.size inb) = x := by
  funext y
  refine congrArg x (funext fun a => Fin.ext ?_)
  refine (unit_emb _ _ inb y a).trans ?_
  have := inb a
  omega

/-- The specification's rows of a tile after the first norm, from the tile's blocks. -/
def x1T (x0 x1 x2 : Vec Ideal S512x512 .bf16) (x3 : Vec Ideal S512x1024 .f32) (x8 : Vec Ideal S8x128x128 .f32)
    (x9 : Vec Ideal S128x512 .f32) (x10 x11 : Vec Ideal S1x512 .f32) (x12 : Vec Ideal S1024x1024 .bf16)
    (x13 x14 : Vec Ideal S1x1024 .f32) (r : Fin 512) : Fin 1024 → EReal :=
  Spec.x1 (row x0 r) (gateT x1 x2 x8 x9 r) (row x10 0) (row x11 0) (row x3 r) (row x12) (row x13 0) (row x14 0)

/-- The stored subtile that starts at row `n`, from its loads. -/
theorem tail_tile (x0 x1 x2 : Vec Ideal S512x512 .bf16) (x3 : Vec Ideal S512x1024 .f32) (x8 : Vec Ideal S8x128x128 .f32)
    (x9 : Vec Ideal S128x512 .f32) (x10 x11 : Vec Ideal S1x512 .f32) (x12 : Vec Ideal S1024x1024 .bf16)
    (x13 x14 : Vec Ideal S1x1024 .f32) (sg : Vec Ideal S256x512 .f32) (n : ℕ) (hn : n ≤ 256) (i0 i3 i10 i11 i13 i14 j00 j10 j01 j11)
    (z : Fin 1) (r : Fin 256) (c : Fin 1024)
    (hsg : ∀ j, sg (ix2 r j) = gateT x1 x2 x8 x9 ⟨n + r.val, by omega⟩ j) :
    tail (View.ld x0 (Rect.unit ![n, 0] S256x512.size i0)) sg (View.ld x10 (Rect.unit ![0, 0] S1x512.size i10))
      (View.ld x11 (Rect.unit ![0, 0] S1x512.size i11)) (View.ld x12 (Rect.unit ![0, 0] S512x512.size j00))
      (View.ld x12 (Rect.unit ![512, 0] S512x512.size j10)) (View.ld x12 (Rect.unit ![0, 512] S512x512.size j01))
      (View.ld x12 (Rect.unit ![512, 512] S512x512.size j11)) (View.ld x3 (Rect.unit ![n, 0] S256x1024.size i3))
      (View.ld x13 (Rect.unit ![0, 0] S1x1024.size i13)) (View.ld x14 (Rect.unit ![0, 0] S1x1024.size i14)) (ix3 z r c)
      = x1T x0 x1 x2 x3 x8 x9 x10 x11 x12 x13 x14 ⟨n + r.val, by omega⟩ c := by
  rw [ld_whole x10, ld_whole x11, ld_whole x13, ld_whole x14, tail_apply,
    row_ld x0 n i0 r ⟨n + r.val, by omega⟩ rfl, row_ld x3 n i3 r ⟨n + r.val, by omega⟩ rfl,
    show row sg r = gateT x1 x2 x8 x9 ⟨n + r.val, by omega⟩ from funext hsg]
  rfl

/-- The slot the point reads. -/
def slot (i : grid0.Coords) : Fin 2 := ⟨(i 0).val % 2, Nat.mod_lt _ (by omega)⟩

/-- The slot the point writes. -/
def other (i : grid0.Coords) : Fin 2 := ⟨1 - (i 0).val % 2, by omega⟩

/-- One slot of the two-slot buffer. -/
def slotV (s : Vec Ideal S2x512x1024 .f32) (p : Fin 2) : Vec Ideal S1x512x1024 .f32 := fun y => s (ix3 p (y 1) (y 2))

/-- The point's load of its slot. -/
theorem ld_slot (i : grid0.Coords) (s : Vec Ideal S2x512x1024 .f32) (inb) :
    View.ld s (Rect.unit (k0_off1 i) S1x512x1024.size inb) = slotV s (slot i) := by
  funext y
  refine congrArg s (funext fun a => Fin.ext ?_)
  refine (unit_emb _ _ inb y a).trans ?_
  refine (congrArg (· + (y a).val) (congrFun (k0_off1_eq i) a)).trans ?_
  have h0 : (y 0).val < 1 := (y 0).isLt
  fin_cases a
  · show (i 0).val % 2 + (y 0).val = (i 0).val % 2
    omega
  · exact Nat.zero_add _
  · exact Nat.zero_add _

/-- A write of the other slot's rows leaves the slot the point reads. -/
theorem slot_skip (v : View sig .tc .vmem S2x512x1024 .f32) (f : v.ty.Contents (Elt Ideal)) (i : grid0.Coords) (off : Fin 3 → ℕ)
    (n : ℕ) (hoff : off = ![1 - (i 0).val % 2, n, 0]) (inb) (w) (L : List (View.Piece (Elt Ideal) S2x512x1024 .f32)) :
    slotV (v.read (Elt Ideal) (v.writes (Elt Ideal) f (⟨Rect.unit off S1x256x1024.size inb, w⟩ :: L))) (slot i)
      = slotV (v.read (Elt Ideal) (v.writes (Elt Ideal) f L)) (slot i) := by
  funext y
  refine View.read_writes_cons_unit_of_not_mem v f inb w L _ hoff 0 ?_
  show (i 0).val % 2 < 1 - (i 0).val % 2 ∨ 1 - (i 0).val % 2 + 1 ≤ (i 0).val % 2
  omega

/-- Two stores of the halves of a slot leave the slot at what they store. -/
theorem slot_halves (v : View sig .tc .vmem S2x512x1024 .f32) (f : v.ty.Contents (Elt Ideal)) (off off' : Fin 3 → ℕ)
    (p : Fin 2) (hoff : off = ![p.val, 256, 0]) (hoff' : off' = ![p.val, 0, 0]) (inb inb') (w w')
    (L : List (View.Piece (Elt Ideal) S2x512x1024 .f32)) (G : Fin 512 → Fin 1024 → EReal)
    (hw : ∀ r : Fin 256, ∀ c, w (ix3 0 r c) = G ⟨256 + r.val, by omega⟩ c)
    (hw' : ∀ r : Fin 256, ∀ c, w' (ix3 0 r c) = G ⟨0 + r.val, by omega⟩ c) (r : Fin 512) (c : Fin 1024) :
    v.read (Elt Ideal) (v.writes (Elt Ideal) f (⟨Rect.unit off S1x256x1024.size inb, w⟩
      :: ⟨Rect.unit off' S1x256x1024.size inb', w'⟩ :: L)) (ix3 p r c) = G r c := by
  by_cases h : 256 ≤ r.val
  · rw [View.read_writes_cons_unit_of_mem v f inb w _ (ix3 p r c)
      (ix3 (0 : Fin 1) (⟨r.val - 256, by omega⟩ : Fin 256) c) hoff ?_]
    · refine (hw ⟨r.val - 256, by omega⟩ c).trans (congrArg (G · c) (Fin.ext ?_))
      show 256 + (r.val - 256) = r.val
      omega
    · intro a
      fin_cases a
      · rfl
      · show r.val = 256 + (r.val - 256)
        omega
      · exact (Nat.zero_add _).symm
  · rw [View.read_writes_cons_unit_of_not_mem v f inb w _ (ix3 p r c) hoff 1 (Or.inl (by show r.val < 256; omega)),
      View.read_writes_cons_unit_of_mem v f inb' w' _ (ix3 p r c)
      (ix3 (0 : Fin 1) (⟨r.val, by omega⟩ : Fin 256) c) hoff' ?_]
    · refine (hw' ⟨r.val, by omega⟩ c).trans (congrArg (G · c) (Fin.ext ?_))
      exact Nat.zero_add _
    · intro a
      fin_cases a
      · rfl
      · exact (Nat.zero_add _).symm
      · exact (Nat.zero_add _).symm

end Cert.KernelIdeal.Gen

end
-- ==== Proof.StepB.lean ====
module

public import proofs.«01_k».proof.Proof.Slots
public import Idealize.ShloMosaic.Lib.VecWindow

@[expose] public section

set_option maxRecDepth 16384

noncomputable section

namespace Cert.KernelIdeal.Gen

open Idealize.ShloMosaic Idealize.ShloMosaic.TcCoe

/-- At a point other than the first the accumulator is the FFN of the slot the point reads. -/
theorem accB (c : Dev nD) (i : grid0.Coords)
    (arg1 : Memref sig .tc .vmem S512x512 .bf16) (harg1 : arg1.IsWhole) (arg2 : Memref sig .tc .vmem S512x512 .bf16) (harg2 : arg2.IsWhole)
    (arg3 : Memref sig .tc .vmem S512x512 .bf16) (harg3 : arg3.IsWhole) (arg4 : Memref sig .tc .vmem S512x1024 .f32) (harg4 : arg4.IsWhole)
    (arg5 : Memref sig .tc .vmem S512x512 .bf16) (harg5 : arg5.IsWhole) (arg6 : Memref sig .tc .vmem S512x512 .bf16) (harg6 : arg6.IsWhole)
    (arg7 : Memref sig .tc .vmem S512x512 .bf16) (harg7 : arg7.IsWhole) (arg8 : Memref sig .tc .vmem S512x1024 .f32) (harg8 : arg8.IsWhole)
    (arg9 : Memref sig .tc .vmem S8x128x128 .f32) (harg9 : arg9.IsWhole) (arg10 : Memref sig .tc .vmem S128x512 .f32) (harg10 : arg10.IsWhole)
    (arg11 : Memref sig .tc .vmem S1x512 .f32) (harg11 : arg11.IsWhole) (arg12 : Memref sig .tc .vmem S1x512 .f32) (harg12 : arg12.IsWhole)
    (arg13 : Memref sig .tc .vmem S1024x1024 .bf16) (harg13 : arg13.IsWhole) (arg14 : Memref sig .tc .vmem S1x1024 .f32) (harg14 : arg14.IsWhole)
    (arg15 : Memref sig .tc .vmem S1x1024 .f32) (harg15 : arg15.IsWhole) (arg16 : Memref sig .tc .vmem S1024x2816 .bf16) (harg16 : arg16.IsWhole)
    (arg17 : Memref sig .tc .vmem S1024x2816 .bf16) (harg17 : arg17.IsWhole) (arg18 : Memref sig .tc .vmem S2816x1024 .bf16) (harg18 : arg18.IsWhole)
    (arg19 : Memref sig .tc .vmem S1x1024 .f32) (harg19 : arg19.IsWhole) (arg20 : Memref sig .tc .vmem S1x1024 .f32) (harg20 : arg20.IsWhole)
    (arg21 : Memref sig .tc .vmem S512x1024 .f32) (harg21 : arg21.IsWhole) (arg22 : Memref sig .tc .vmem S2x512x1024 .f32) (harg22 : arg22.IsWhole)
    (arg23 : Memref sig .tc .vmem S512x512 .f32) (harg23 : arg23.IsWhole) (arg24 : Memref sig .tc .vmem S512x1024 .f32) (harg24 : arg24.IsWhole)

    (x0 : Vec Ideal S512x512 .bf16) (x1 : Vec Ideal S512x512 .bf16) (x2 : Vec Ideal S512x512 .bf16) (x3 : Vec Ideal S512x1024 .f32)
    (x4 : Vec Ideal S512x512 .bf16) (x5 : Vec Ideal S512x512 .bf16) (x6 : Vec Ideal S512x512 .bf16) (x7 : Vec Ideal S512x1024 .f32)
    (x8 : Vec Ideal S8x128x128 .f32) (x9 : Vec Ideal S128x512 .f32) (x10 : Vec Ideal S1x512 .f32) (x11 : Vec Ideal S1x512 .f32)
    (x12 : Vec Ideal S1024x1024 .bf16) (x13 : Vec Ideal S1x1024 .f32) (x14 : Vec Ideal S1x1024 .f32) (x15 : Vec Ideal S1024x2816 .bf16)
    (x16 : Vec Ideal S1024x2816 .bf16) (x17 : Vec Ideal S2816x1024 .bf16) (x18 : Vec Ideal S1x1024 .f32) (x19 : Vec Ideal S1x1024 .f32) (s : Vec Ideal S2x512x1024 .f32) :
    bodyRunB.sl.v748 c i arg16 harg16 arg17 harg17 arg18 harg18 arg22 harg22 arg24 x15 x16 x17 s = accV (slotV s (slot i)) x15 x16 x17 := by
  rw [← ld_slot i s (k0_off1_inb i)]
  unfold bodyRunB.sl.v748 bodyRunB.sl.H23_11 bodyRunB.sl.r_44
  rw [View.readCov_full]
  unfold bodyRunB.sl.v738 bodyRunB.sl.H23_10
  rw [View.readCov_full]
  unfold bodyRunB.sl.v719 bodyRunB.sl.H23_9 bodyRunB.sl.r_43
  rw [View.readCov_full]
  unfold bodyRunB.sl.v700 bodyRunB.sl.H23_8
  rw [View.readCov_full]
  unfold bodyRunB.sl.v650 bodyRunB.sl.H23_7
  rw [View.readCov_full]
  unfold bodyRunB.sl.v625 bodyRunB.sl.H23_6
  rw [View.readCov_full]
  unfold bodyRunB.sl.v575 bodyRunB.sl.H23_5
  rw [View.readCov_full]
  unfold bodyRunB.sl.v551 bodyRunB.sl.H23_4
  rw [View.readCov_full]
  unfold bodyRunB.sl.v526 bodyRunB.sl.H23_3 bodyRunB.sl.r_32
  rw [View.readCov_full]
  unfold bodyRunB.sl.v502 bodyRunB.sl.H23_2
  rw [View.readCov_full]
  unfold bodyRunB.sl.v292 bodyRunB.sl.H23_1
  rw [View.readCov_full]
  simp only [bodyRunB.sl.r_6, bodyRunB.sl.r_5, View.readAt_eq_ld, Memref.IsWhole.read_unread]
  rfl

/-- The two subtiles a point other than the first stores into the slot it does not read. -/
theorem storesB (c : Dev nD) (i : grid0.Coords)
    (arg1 : Memref sig .tc .vmem S512x512 .bf16) (harg1 : arg1.IsWhole) (arg2 : Memref sig .tc .vmem S512x512 .bf16) (harg2 : arg2.IsWhole)
    (arg3 : Memref sig .tc .vmem S512x512 .bf16) (harg3 : arg3.IsWhole) (arg4 : Memref sig .tc .vmem S512x1024 .f32) (harg4 : arg4.IsWhole)
    (arg5 : Memref sig .tc .vmem S512x512 .bf16) (harg5 : arg5.IsWhole) (arg6 : Memref sig .tc .vmem S512x512 .bf16) (harg6 : arg6.IsWhole)
    (arg7 : Memref sig .tc .vmem S512x512 .bf16) (harg7 : arg7.IsWhole) (arg8 : Memref sig .tc .vmem S512x1024 .f32) (harg8 : arg8.IsWhole)
    (arg9 : Memref sig .tc .vmem S8x128x128 .f32) (harg9 : arg9.IsWhole) (arg10 : Memref sig .tc .vmem S128x512 .f32) (harg10 : arg10.IsWhole)
    (arg11 : Memref sig .tc .vmem S1x512 .f32) (harg11 : arg11.IsWhole) (arg12 : Memref sig .tc .vmem S1x512 .f32) (harg12 : arg12.IsWhole)
    (arg13 : Memref sig .tc .vmem S1024x1024 .bf16) (harg13 : arg13.IsWhole) (arg14 : Memref sig .tc .vmem S1x1024 .f32) (harg14 : arg14.IsWhole)
    (arg15 : Memref sig .tc .vmem S1x1024 .f32) (harg15 : arg15.IsWhole) (arg16 : Memref sig .tc .vmem S1024x2816 .bf16) (harg16 : arg16.IsWhole)
    (arg17 : Memref sig .tc .vmem S1024x2816 .bf16) (harg17 : arg17.IsWhole) (arg18 : Memref sig .tc .vmem S2816x1024 .bf16) (harg18 : arg18.IsWhole)
    (arg19 : Memref sig .tc .vmem S1x1024 .f32) (harg19 : arg19.IsWhole) (arg20 : Memref sig .tc .vmem S1x1024 .f32) (harg20 : arg20.IsWhole)
    (arg21 : Memref sig .tc .vmem S512x1024 .f32) (harg21 : arg21.IsWhole) (arg22 : Memref sig .tc .vmem S2x512x1024 .f32) (harg22 : arg22.IsWhole)
    (arg23 : Memref sig .tc .vmem S512x512 .f32) (harg23 : arg23.IsWhole) (arg24 : Memref sig .tc .vmem S512x1024 .f32) (harg24 : arg24.IsWhole)

    (x0 : Vec Ideal S512x512 .bf16) (x1 : Vec Ideal S512x512 .bf16) (x2 : Vec Ideal S512x512 .bf16) (x3 : Vec Ideal S512x1024 .f32)
    (x4 : Vec Ideal S512x512 .bf16) (x5 : Vec Ideal S512x512 .bf16) (x6 : Vec Ideal S512x512 .bf16) (x7 : Vec Ideal S512x1024 .f32)
    (x8 : Vec Ideal S8x128x128 .f32) (x9 : Vec Ideal S128x512 .f32) (x10 : Vec Ideal S1x512 .f32) (x11 : Vec Ideal S1x512 .f32)
    (x12 : Vec Ideal S1024x1024 .bf16) (x13 : Vec Ideal S1x1024 .f32) (x14 : Vec Ideal S1x1024 .f32) (x15 : Vec Ideal S1024x2816 .bf16)
    (x16 : Vec Ideal S1024x2816 .bf16) (x17 : Vec Ideal S2816x1024 .bf16) (x18 : Vec Ideal S1x1024 .f32) (x19 : Vec Ideal S1x1024 .f32) (s : Vec Ideal S2x512x1024 .f32) (v : View sig .tc .vmem S2x512x1024 .f32) (f : v.ty.Contents (Elt Ideal)) (r : Fin 512) (k : Fin 1024) :
    v.read (Elt Ideal) (v.writes (Elt Ideal) f
      (bodyRunB.sl.H21_2 c i arg1 harg1 arg2 harg2 arg3 harg3 arg4 harg4 arg9 harg9 arg10 harg10 arg11 harg11 arg12 harg12 arg13 harg13 arg14 harg14 arg15 harg15 arg23 x0 x1 x2 x3 x8 x9 x10 x11 x12 x13 x14)) (ix3 (other i) r k)
      = x1T x0 x1 x2 x3 x8 x9 x10 x11 x12 x13 x14 r k := by
  unfold bodyRunB.sl.H21_2
  refine slot_halves v f _ _ (other i) (k0_off3_eq i) (k0_off2_eq i) _ _ _ _ [] (x1T x0 x1 x2 x3 x8 x9 x10 x11 x12 x13 x14) ?_ ?_ r k
  · intro r c'
    refine Eq.trans ?_ (tail_tile x0 x1 x2 x3 x8 x9 x10 x11 x12 x13 x14
      (bodyRunB.sl.v473 c arg2 harg2 arg3 harg3 arg9 harg9 arg10 harg10 arg23 x1 x2 x8 x9) 256 (by omega)
      inb_S512x512_S256x512_256_0 inb_S512x1024_S256x1024_256_0 inb_S1x512_S1x512_0_0 inb_S1x512_S1x512_0_0
      inb_S1x1024_S1x1024_0_0 inb_S1x1024_S1x1024_0_0 inb_S1024x1024_S512x512_0_0 inb_S1024x1024_S512x512_512_0
      inb_S1024x1024_S512x512_0_512 inb_S1024x1024_S512x512_512_512 0 r c' ?_)
    · simp only [bodyRunB.sl.r_41, bodyRunB.sl.r_42, bodyRunB.sl.r_36, bodyRunB.sl.r_37, bodyRunB.sl.r_40, bodyRunB.sl.r_35,
        bodyRunB.sl.r_31, bodyRunB.sl.r_30, bodyRunB.sl.r_29, View.readAt_eq_ld, Memref.IsWhole.read_unread]
      rfl
    · intro j
      refine Eq.trans ?_ (gate_read_hi arg23.view (arg23.view.writes (Elt Ideal) arg23.view.junk
        (bodyRunB.sl.H22_8 c arg2 harg2 arg3 harg3 arg9 harg9 arg10 harg10 x1 x2 x8 x9)) c arg2 harg2 arg3 harg3 arg9 harg9 arg10 harg10 x1 x2 x8 x9 ⟨256 + r.val, by omega⟩ j
        (Nat.le_add_right _ _))
      rw [← View.writes_append]
      refine congrArg (arg23.view.read (Elt Ideal) _) (funext fun a => Fin.ext ?_)
      refine (unit_emb _ _ _ (ix2 r j) a).trans ?_
      fin_cases a
      · rfl
      · exact Nat.zero_add _
  · intro r c'
    refine Eq.trans ?_ (tail_tile x0 x1 x2 x3 x8 x9 x10 x11 x12 x13 x14
      (bodyRunB.sl.v263 c arg2 harg2 arg3 harg3 arg9 harg9 arg10 harg10 arg23 x1 x2 x8 x9) 0 (by omega)
      inb_S512x512_S256x512_0_0 inb_S512x1024_S256x1024_0_0 inb_S1x512_S1x512_0_0 inb_S1x512_S1x512_0_0
      inb_S1x1024_S1x1024_0_0 inb_S1x1024_S1x1024_0_0 inb_S1024x1024_S512x512_0_0 inb_S1024x1024_S512x512_512_0
      inb_S1024x1024_S512x512_0_512 inb_S1024x1024_S512x512_512_512 0 r c' ?_)
    · simp only [bodyRunB.sl.r_38, bodyRunB.sl.r_39, bodyRunB.sl.r_36, bodyRunB.sl.r_37, bodyRunB.sl.r_34, bodyRunB.sl.r_33,
        bodyRunB.sl.r_18, bodyRunB.sl.r_19, bodyRunB.sl.r_20, bodyRunB.sl.r_21, View.readAt_eq_ld, Memref.IsWhole.read_unread]
      rfl
    · intro j
      refine Eq.trans ?_ (gate_read_lo arg23.view arg23.view.junk c arg2 harg2 arg3 harg3 arg9 harg9 arg10 harg10 x1 x2 x8 x9 ⟨0 + r.val, by omega⟩ j
        (by show 0 + r.val < 256; omega))
      refine congrArg (arg23.view.read (Elt Ideal) _) (funext fun a => Fin.ext ?_)
      refine (unit_emb _ _ _ (ix2 r j) a).trans ?_
      fin_cases a
      · rfl
      · exact Nat.zero_add _

/-- What a point other than the first leaves in the output's buffer. -/
theorem outB (c : Dev nD) (i : grid0.Coords)
    (arg1 : Memref sig .tc .vmem S512x512 .bf16) (harg1 : arg1.IsWhole) (arg2 : Memref sig .tc .vmem S512x512 .bf16) (harg2 : arg2.IsWhole)
    (arg3 : Memref sig .tc .vmem S512x512 .bf16) (harg3 : arg3.IsWhole) (arg4 : Memref sig .tc .vmem S512x1024 .f32) (harg4 : arg4.IsWhole)
    (arg5 : Memref sig .tc .vmem S512x512 .bf16) (harg5 : arg5.IsWhole) (arg6 : Memref sig .tc .vmem S512x512 .bf16) (harg6 : arg6.IsWhole)
    (arg7 : Memref sig .tc .vmem S512x512 .bf16) (harg7 : arg7.IsWhole) (arg8 : Memref sig .tc .vmem S512x1024 .f32) (harg8 : arg8.IsWhole)
    (arg9 : Memref sig .tc .vmem S8x128x128 .f32) (harg9 : arg9.IsWhole) (arg10 : Memref sig .tc .vmem S128x512 .f32) (harg10 : arg10.IsWhole)
    (arg11 : Memref sig .tc .vmem S1x512 .f32) (harg11 : arg11.IsWhole) (arg12 : Memref sig .tc .vmem S1x512 .f32) (harg12 : arg12.IsWhole)
    (arg13 : Memref sig .tc .vmem S1024x1024 .bf16) (harg13 : arg13.IsWhole) (arg14 : Memref sig .tc .vmem S1x1024 .f32) (harg14 : arg14.IsWhole)
    (arg15 : Memref sig .tc .vmem S1x1024 .f32) (harg15 : arg15.IsWhole) (arg16 : Memref sig .tc .vmem S1024x2816 .bf16) (harg16 : arg16.IsWhole)
    (arg17 : Memref sig .tc .vmem S1024x2816 .bf16) (harg17 : arg17.IsWhole) (arg18 : Memref sig .tc .vmem S2816x1024 .bf16) (harg18 : arg18.IsWhole)
    (arg19 : Memref sig .tc .vmem S1x1024 .f32) (harg19 : arg19.IsWhole) (arg20 : Memref sig .tc .vmem S1x1024 .f32) (harg20 : arg20.IsWhole)
    (arg21 : Memref sig .tc .vmem S512x1024 .f32) (harg21 : arg21.IsWhole) (arg22 : Memref sig .tc .vmem S2x512x1024 .f32) (harg22 : arg22.IsWhole)
    (arg23 : Memref sig .tc .vmem S512x512 .f32) (harg23 : arg23.IsWhole) (arg24 : Memref sig .tc .vmem S512x1024 .f32) (harg24 : arg24.IsWhole)
    (hc : ¬cond0_0 i)
    (x0 : Vec Ideal S512x512 .bf16) (x1 : Vec Ideal S512x512 .bf16) (x2 : Vec Ideal S512x512 .bf16) (x3 : Vec Ideal S512x1024 .f32)
    (x4 : Vec Ideal S512x512 .bf16) (x5 : Vec Ideal S512x512 .bf16) (x6 : Vec Ideal S512x512 .bf16) (x7 : Vec Ideal S512x1024 .f32)
    (x8 : Vec Ideal S8x128x128 .f32) (x9 : Vec Ideal S128x512 .f32) (x10 : Vec Ideal S1x512 .f32) (x11 : Vec Ideal S1x512 .f32)
    (x12 : Vec Ideal S1024x1024 .bf16) (x13 : Vec Ideal S1x1024 .f32) (x14 : Vec Ideal S1x1024 .f32) (x15 : Vec Ideal S1024x2816 .bf16)
    (x16 : Vec Ideal S1024x2816 .bf16) (x17 : Vec Ideal S2816x1024 .bf16) (x18 : Vec Ideal S1x1024 .f32) (x19 : Vec Ideal S1x1024 .f32) (s : Vec Ideal S2x512x1024 .f32) (f : arg21.view.ty.Contents (Elt Ideal)) (r : Fin 512) (k : Fin 1024) :
    arg21.view.read (Elt Ideal) (arg21.view.writes (Elt Ideal) f (bodyRunB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc x0 x1 x2 x3 x4 x5 x6 x7 x8 x9 x10 x11 x12 x13 x14 x15 x16 x17 x18 x19 s).1) (ix2 r k)
      = Spec.out (fun k => s (ix3 (slot i) r k)) (row x15) (row x16) (row x17) (row x18 0) (row x19 0) k := by
  have hv : bodyRunB.sl.v744 c i arg1 harg1 arg2 harg2 arg3 harg3 arg4 harg4 arg9 harg9 arg10 harg10 arg11 harg11 arg12 harg12 arg13 harg13 arg14 harg14 arg15 harg15 arg22 harg22 arg23 x0 x1 x2 x3 x8 x9 x10 x11 x12 x13 x14 s
      = slotV s (slot i) := by
    unfold bodyRunB.sl.v744
    rw [View.readAt_eq_ld, ld_slot]
    unfold bodyRunB.sl.H21_2
    rw [slot_skip _ _ i _ 256 (k0_off3_eq i), slot_skip _ _ i _ 0 (k0_off2_eq i), View.writes_nil,
      Memref.IsWhole.read_unread]
  have hl : (bodyRunB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc x0 x1 x2 x3 x4 x5 x6 x7 x8 x9 x10 x11 x12 x13 x14 x15 x16 x17 x18 x19 s).1 = [⟨Rect.unit ![0, 0] S512x1024.size inb_S512x1024_S512x1024_0_0,
      bodyRunB.sl.r_45 c i arg1 harg1 arg2 harg2 arg3 harg3 arg4 harg4 arg9 harg9 arg10 harg10 arg11 harg11 arg12 harg12 arg13 harg13 arg14 harg14 arg15 harg15 arg16 harg16 arg17 harg17 arg18 harg18 arg19 harg19 arg20 harg20 arg22 harg22 arg23 arg24 x0 x1 x2 x3 x8 x9 x10 x11 x12 x13 x14 x15 x16 x17 x18 x19 s⟩] := rfl
  rw [hl, View.read_writes_full]
  unfold bodyRunB.sl.r_45
  rw [hv, accB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 s]
  simp only [View.readAt_eq_ld, Memref.IsWhole.read_unread]
  rw [ld_whole x18, ld_whole x19, out_apply]
  rfl

/-- What a point other than the first leaves in the slot it does not read. -/
theorem nextB (c : Dev nD) (i : grid0.Coords)
    (arg1 : Memref sig .tc .vmem S512x512 .bf16) (harg1 : arg1.IsWhole) (arg2 : Memref sig .tc .vmem S512x512 .bf16) (harg2 : arg2.IsWhole)
    (arg3 : Memref sig .tc .vmem S512x512 .bf16) (harg3 : arg3.IsWhole) (arg4 : Memref sig .tc .vmem S512x1024 .f32) (harg4 : arg4.IsWhole)
    (arg5 : Memref sig .tc .vmem S512x512 .bf16) (harg5 : arg5.IsWhole) (arg6 : Memref sig .tc .vmem S512x512 .bf16) (harg6 : arg6.IsWhole)
    (arg7 : Memref sig .tc .vmem S512x512 .bf16) (harg7 : arg7.IsWhole) (arg8 : Memref sig .tc .vmem S512x1024 .f32) (harg8 : arg8.IsWhole)
    (arg9 : Memref sig .tc .vmem S8x128x128 .f32) (harg9 : arg9.IsWhole) (arg10 : Memref sig .tc .vmem S128x512 .f32) (harg10 : arg10.IsWhole)
    (arg11 : Memref sig .tc .vmem S1x512 .f32) (harg11 : arg11.IsWhole) (arg12 : Memref sig .tc .vmem S1x512 .f32) (harg12 : arg12.IsWhole)
    (arg13 : Memref sig .tc .vmem S1024x1024 .bf16) (harg13 : arg13.IsWhole) (arg14 : Memref sig .tc .vmem S1x1024 .f32) (harg14 : arg14.IsWhole)
    (arg15 : Memref sig .tc .vmem S1x1024 .f32) (harg15 : arg15.IsWhole) (arg16 : Memref sig .tc .vmem S1024x2816 .bf16) (harg16 : arg16.IsWhole)
    (arg17 : Memref sig .tc .vmem S1024x2816 .bf16) (harg17 : arg17.IsWhole) (arg18 : Memref sig .tc .vmem S2816x1024 .bf16) (harg18 : arg18.IsWhole)
    (arg19 : Memref sig .tc .vmem S1x1024 .f32) (harg19 : arg19.IsWhole) (arg20 : Memref sig .tc .vmem S1x1024 .f32) (harg20 : arg20.IsWhole)
    (arg21 : Memref sig .tc .vmem S512x1024 .f32) (harg21 : arg21.IsWhole) (arg22 : Memref sig .tc .vmem S2x512x1024 .f32) (harg22 : arg22.IsWhole)
    (arg23 : Memref sig .tc .vmem S512x512 .f32) (harg23 : arg23.IsWhole) (arg24 : Memref sig .tc .vmem S512x1024 .f32) (harg24 : arg24.IsWhole)
    (hc : ¬cond0_0 i)
    (x0 : Vec Ideal S512x512 .bf16) (x1 : Vec Ideal S512x512 .bf16) (x2 : Vec Ideal S512x512 .bf16) (x3 : Vec Ideal S512x1024 .f32)
    (x4 : Vec Ideal S512x512 .bf16) (x5 : Vec Ideal S512x512 .bf16) (x6 : Vec Ideal S512x512 .bf16) (x7 : Vec Ideal S512x1024 .f32)
    (x8 : Vec Ideal S8x128x128 .f32) (x9 : Vec Ideal S128x512 .f32) (x10 : Vec Ideal S1x512 .f32) (x11 : Vec Ideal S1x512 .f32)
    (x12 : Vec Ideal S1024x1024 .bf16) (x13 : Vec Ideal S1x1024 .f32) (x14 : Vec Ideal S1x1024 .f32) (x15 : Vec Ideal S1024x2816 .bf16)
    (x16 : Vec Ideal S1024x2816 .bf16) (x17 : Vec Ideal S2816x1024 .bf16) (x18 : Vec Ideal S1x1024 .f32) (x19 : Vec Ideal S1x1024 .f32) (s : Vec Ideal S2x512x1024 .f32) (r : Fin 512) (k : Fin 1024) :
    arg22.view.read (Elt Ideal) (arg22.view.writes (Elt Ideal) (harg22.unread s) (bodyRunB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc x0 x1 x2 x3 x4 x5 x6 x7 x8 x9 x10 x11 x12 x13 x14 x15 x16 x17 x18 x19 s).2.1) (ix3 (other i) r k)
      = x1T x0 x1 x2 x3 x8 x9 x10 x11 x12 x13 x14 r k :=
  storesB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 s arg22.view (harg22.unread s) r k

end Cert.KernelIdeal.Gen

end
-- ==== Proof.StepA.lean ====
module

public import proofs.«01_k».proof.Proof.IdealRunA
public import proofs.«01_k».proof.Proof.Slots
public import Idealize.ShloMosaic.Lib.VecWindow

@[expose] public section

set_option maxRecDepth 16384

noncomputable section

namespace Cert.KernelIdeal.Gen

open Idealize.ShloMosaic Idealize.ShloMosaic.TcCoe

/-- The two subtiles of the first tile, stored into slot 0. -/
theorem firstA (c : Dev nD) (i : grid0.Coords)
    (arg1 : Memref sig .tc .vmem S512x512 .bf16) (harg1 : arg1.IsWhole) (arg2 : Memref sig .tc .vmem S512x512 .bf16) (harg2 : arg2.IsWhole)
    (arg3 : Memref sig .tc .vmem S512x512 .bf16) (harg3 : arg3.IsWhole) (arg4 : Memref sig .tc .vmem S512x1024 .f32) (harg4 : arg4.IsWhole)
    (arg5 : Memref sig .tc .vmem S512x512 .bf16) (harg5 : arg5.IsWhole) (arg6 : Memref sig .tc .vmem S512x512 .bf16) (harg6 : arg6.IsWhole)
    (arg7 : Memref sig .tc .vmem S512x512 .bf16) (harg7 : arg7.IsWhole) (arg8 : Memref sig .tc .vmem S512x1024 .f32) (harg8 : arg8.IsWhole)
    (arg9 : Memref sig .tc .vmem S8x128x128 .f32) (harg9 : arg9.IsWhole) (arg10 : Memref sig .tc .vmem S128x512 .f32) (harg10 : arg10.IsWhole)
    (arg11 : Memref sig .tc .vmem S1x512 .f32) (harg11 : arg11.IsWhole) (arg12 : Memref sig .tc .vmem S1x512 .f32) (harg12 : arg12.IsWhole)
    (arg13 : Memref sig .tc .vmem S1024x1024 .bf16) (harg13 : arg13.IsWhole) (arg14 : Memref sig .tc .vmem S1x1024 .f32) (harg14 : arg14.IsWhole)
    (arg15 : Memref sig .tc .vmem S1x1024 .f32) (harg15 : arg15.IsWhole) (arg16 : Memref sig .tc .vmem S1024x2816 .bf16) (harg16 : arg16.IsWhole)
    (arg17 : Memref sig .tc .vmem S1024x2816 .bf16) (harg17 : arg17.IsWhole) (arg18 : Memref sig .tc .vmem S2816x1024 .bf16) (harg18 : arg18.IsWhole)
    (arg19 : Memref sig .tc .vmem S1x1024 .f32) (harg19 : arg19.IsWhole) (arg20 : Memref sig .tc .vmem S1x1024 .f32) (harg20 : arg20.IsWhole)
    (arg21 : Memref sig .tc .vmem S512x1024 .f32) (harg21 : arg21.IsWhole) (arg22 : Memref sig .tc .vmem S2x512x1024 .f32) (harg22 : arg22.IsWhole)
    (arg23 : Memref sig .tc .vmem S512x512 .f32) (harg23 : arg23.IsWhole) (arg24 : Memref sig .tc .vmem S512x1024 .f32) (harg24 : arg24.IsWhole)

    (x0 : Vec Ideal S512x512 .bf16) (x1 : Vec Ideal S512x512 .bf16) (x2 : Vec Ideal S512x512 .bf16) (x3 : Vec Ideal S512x1024 .f32)
    (x4 : Vec Ideal S512x512 .bf16) (x5 : Vec Ideal S512x512 .bf16) (x6 : Vec Ideal S512x512 .bf16) (x7 : Vec Ideal S512x1024 .f32)
    (x8 : Vec Ideal S8x128x128 .f32) (x9 : Vec Ideal S128x512 .f32) (x10 : Vec Ideal S1x512 .f32) (x11 : Vec Ideal S1x512 .f32)
    (x12 : Vec Ideal S1024x1024 .bf16) (x13 : Vec Ideal S1x1024 .f32) (x14 : Vec Ideal S1x1024 .f32) (x15 : Vec Ideal S1024x2816 .bf16)
    (x16 : Vec Ideal S1024x2816 .bf16) (x17 : Vec Ideal S2816x1024 .bf16) (x18 : Vec Ideal S1x1024 .f32) (x19 : Vec Ideal S1x1024 .f32) (s : Vec Ideal S2x512x1024 .f32) (v : View sig .tc .vmem S2x512x1024 .f32) (f : v.ty.Contents (Elt Ideal)) (r : Fin 512) (k : Fin 1024) :
    v.read (Elt Ideal) (v.writes (Elt Ideal) f (bodyRunA.sl.H21_2 c arg5 harg5 arg6 harg6 arg7 harg7 arg8 harg8 arg9 harg9 arg10 harg10 arg11 harg11 arg12 harg12 arg13 harg13 arg14 harg14 arg15 harg15 arg23 x4 x5 x6 x7 x8 x9 x10 x11 x12 x13 x14)) (ix3 0 r k) = x1T x4 x5 x6 x7 x8 x9 x10 x11 x12 x13 x14 r k := by
  unfold bodyRunA.sl.H21_2
  refine slot_halves v f _ _ 0 rfl rfl _ _ _ _ [] (x1T x4 x5 x6 x7 x8 x9 x10 x11 x12 x13 x14) ?_ ?_ r k
  · intro r c'
    refine Eq.trans ?_ (tail_tile x4 x5 x6 x7 x8 x9 x10 x11 x12 x13 x14
      (bodyRunA.sl.v1193 c arg6 harg6 arg7 harg7 arg9 harg9 arg10 harg10 arg23 x5 x6 x8 x9) 256 (by omega)
      inb_S512x512_S256x512_256_0 inb_S512x1024_S256x1024_256_0 inb_S1x512_S1x512_0_0 inb_S1x512_S1x512_0_0
      inb_S1x1024_S1x1024_0_0 inb_S1x1024_S1x1024_0_0 inb_S1024x1024_S512x512_0_0 inb_S1024x1024_S512x512_512_0
      inb_S1024x1024_S512x512_0_512 inb_S1024x1024_S512x512_512_512 0 r c' ?_)
    · simp only [bodyRunA.sl.r_35, bodyRunA.sl.r_36, bodyRunA.sl.r_31, bodyRunA.sl.r_32, bodyRunA.sl.r_30, bodyRunA.sl.r_29, bodyRunA.sl.r_28, bodyRunA.sl.r_27, bodyRunA.sl.r_18, View.readAt_eq_ld, Memref.IsWhole.read_unread]
      rfl
    · intro j
      refine Eq.trans ?_ (gate_read_hi arg23.view (arg23.view.writes (Elt Ideal) arg23.view.junk
        (bodyRunB.sl.H22_8 c arg6 harg6 arg7 harg7 arg9 harg9 arg10 harg10 x5 x6 x8 x9)) c arg6 harg6 arg7 harg7 arg9 harg9 arg10 harg10 x5 x6 x8 x9 ⟨256 + r.val, by omega⟩ j (Nat.le_add_right _ _))
      rw [← View.writes_append]
      refine congrArg (arg23.view.read (Elt Ideal) _) (funext fun a => Fin.ext ?_)
      refine (unit_emb _ _ _ (ix2 r j) a).trans ?_
      fin_cases a
      · rfl
      · exact Nat.zero_add _
  · intro r c'
    refine Eq.trans ?_ (tail_tile x4 x5 x6 x7 x8 x9 x10 x11 x12 x13 x14
      (bodyRunA.sl.v1002 c arg6 harg6 arg7 harg7 arg9 harg9 arg10 harg10 arg23 x5 x6 x8 x9) 0 (by omega)
      inb_S512x512_S256x512_0_0 inb_S512x1024_S256x1024_0_0 inb_S1x512_S1x512_0_0 inb_S1x512_S1x512_0_0
      inb_S1x1024_S1x1024_0_0 inb_S1x1024_S1x1024_0_0 inb_S1024x1024_S512x512_0_0 inb_S1024x1024_S512x512_512_0
      inb_S1024x1024_S512x512_0_512 inb_S1024x1024_S512x512_512_512 0 r c' ?_)
    · simp only [bodyRunA.sl.r_33, bodyRunA.sl.r_34, bodyRunA.sl.r_31, bodyRunA.sl.r_32, bodyRunA.sl.r_17, bodyRunA.sl.r_18, bodyRunA.sl.r_19, bodyRunA.sl.r_20, View.readAt_eq_ld, Memref.IsWhole.read_unread]
      rfl
    · intro j
      refine Eq.trans ?_ (gate_read_lo arg23.view arg23.view.junk c arg6 harg6 arg7 harg7 arg9 harg9 arg10 harg10 x5 x6 x8 x9 ⟨0 + r.val, by omega⟩ j
        (by show 0 + r.val < 256; omega))
      refine congrArg (arg23.view.read (Elt Ideal) _) (funext fun a => Fin.ext ?_)
      refine (unit_emb _ _ _ (ix2 r j) a).trans ?_
      fin_cases a
      · rfl
      · exact Nat.zero_add _

/-- The two subtiles of the next tile, stored into the slot the point does not read. -/
theorem storesA (c : Dev nD) (i : grid0.Coords)
    (arg1 : Memref sig .tc .vmem S512x512 .bf16) (harg1 : arg1.IsWhole) (arg2 : Memref sig .tc .vmem S512x512 .bf16) (harg2 : arg2.IsWhole)
    (arg3 : Memref sig .tc .vmem S512x512 .bf16) (harg3 : arg3.IsWhole) (arg4 : Memref sig .tc .vmem S512x1024 .f32) (harg4 : arg4.IsWhole)
    (arg5 : Memref sig .tc .vmem S512x512 .bf16) (harg5 : arg5.IsWhole) (arg6 : Memref sig .tc .vmem S512x512 .bf16) (harg6 : arg6.IsWhole)
    (arg7 : Memref sig .tc .vmem S512x512 .bf16) (harg7 : arg7.IsWhole) (arg8 : Memref sig .tc .vmem S512x1024 .f32) (harg8 : arg8.IsWhole)
    (arg9 : Memref sig .tc .vmem S8x128x128 .f32) (harg9 : arg9.IsWhole) (arg10 : Memref sig .tc .vmem S128x512 .f32) (harg10 : arg10.IsWhole)
    (arg11 : Memref sig .tc .vmem S1x512 .f32) (harg11 : arg11.IsWhole) (arg12 : Memref sig .tc .vmem S1x512 .f32) (harg12 : arg12.IsWhole)
    (arg13 : Memref sig .tc .vmem S1024x1024 .bf16) (harg13 : arg13.IsWhole) (arg14 : Memref sig .tc .vmem S1x1024 .f32) (harg14 : arg14.IsWhole)
    (arg15 : Memref sig .tc .vmem S1x1024 .f32) (harg15 : arg15.IsWhole) (arg16 : Memref sig .tc .vmem S1024x2816 .bf16) (harg16 : arg16.IsWhole)
    (arg17 : Memref sig .tc .vmem S1024x2816 .bf16) (harg17 : arg17.IsWhole) (arg18 : Memref sig .tc .vmem S2816x1024 .bf16) (harg18 : arg18.IsWhole)
    (arg19 : Memref sig .tc .vmem S1x1024 .f32) (harg19 : arg19.IsWhole) (arg20 : Memref sig .tc .vmem S1x1024 .f32) (harg20 : arg20.IsWhole)
    (arg21 : Memref sig .tc .vmem S512x1024 .f32) (harg21 : arg21.IsWhole) (arg22 : Memref sig .tc .vmem S2x512x1024 .f32) (harg22 : arg22.IsWhole)
    (arg23 : Memref sig .tc .vmem S512x512 .f32) (harg23 : arg23.IsWhole) (arg24 : Memref sig .tc .vmem S512x1024 .f32) (harg24 : arg24.IsWhole)

    (x0 : Vec Ideal S512x512 .bf16) (x1 : Vec Ideal S512x512 .bf16) (x2 : Vec Ideal S512x512 .bf16) (x3 : Vec Ideal S512x1024 .f32)
    (x4 : Vec Ideal S512x512 .bf16) (x5 : Vec Ideal S512x512 .bf16) (x6 : Vec Ideal S512x512 .bf16) (x7 : Vec Ideal S512x1024 .f32)
    (x8 : Vec Ideal S8x128x128 .f32) (x9 : Vec Ideal S128x512 .f32) (x10 : Vec Ideal S1x512 .f32) (x11 : Vec Ideal S1x512 .f32)
    (x12 : Vec Ideal S1024x1024 .bf16) (x13 : Vec Ideal S1x1024 .f32) (x14 : Vec Ideal S1x1024 .f32) (x15 : Vec Ideal S1024x2816 .bf16)
    (x16 : Vec Ideal S1024x2816 .bf16) (x17 : Vec Ideal S2816x1024 .bf16) (x18 : Vec Ideal S1x1024 .f32) (x19 : Vec Ideal S1x1024 .f32) (s : Vec Ideal S2x512x1024 .f32) (v : View sig .tc .vmem S2x512x1024 .f32) (f : v.ty.Contents (Elt Ideal)) (r : Fin 512) (k : Fin 1024) :
    v.read (Elt Ideal) (v.writes (Elt Ideal) f (bodyRunA.sl.H21_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg23 x0 x1 x2 x3 x4 x5 x6 x7 x8 x9 x10 x11 x12 x13 x14)) (ix3 (other i) r k) = x1T x0 x1 x2 x3 x8 x9 x10 x11 x12 x13 x14 r k := by
  unfold bodyRunA.sl.H21_4
  refine slot_halves v f _ _ (other i) (k0_off3_eq i) (k0_off2_eq i) _ _ _ _ _ (x1T x0 x1 x2 x3 x8 x9 x10 x11 x12 x13 x14) ?_ ?_ r k
  · intro r c'
    refine Eq.trans ?_ (tail_tile x0 x1 x2 x3 x8 x9 x10 x11 x12 x13 x14
      (bodyRunA.sl.v473 c arg2 harg2 arg3 harg3 arg6 harg6 arg7 harg7 arg9 harg9 arg10 harg10 arg23 x1 x2 x5 x6 x8 x9) 256 (by omega)
      inb_S512x512_S256x512_256_0 inb_S512x1024_S256x1024_256_0 inb_S1x512_S1x512_0_0 inb_S1x512_S1x512_0_0
      inb_S1x1024_S1x1024_0_0 inb_S1x1024_S1x1024_0_0 inb_S1024x1024_S512x512_0_0 inb_S1024x1024_S512x512_512_0
      inb_S1024x1024_S512x512_0_512 inb_S1024x1024_S512x512_512_512 0 r c' ?_)
    · simp only [bodyRunA.sl.r_75, bodyRunA.sl.r_76, bodyRunA.sl.r_31, bodyRunA.sl.r_32, bodyRunA.sl.r_74, bodyRunA.sl.r_71, bodyRunA.sl.r_67, bodyRunA.sl.r_66, bodyRunA.sl.r_65, View.readAt_eq_ld, Memref.IsWhole.read_unread]
      rfl
    · intro j
      refine Eq.trans ?_ (gate_read_hi arg23.view (arg23.view.writes (Elt Ideal) arg23.view.junk
        (bodyRunA.sl.H22_24 c arg2 harg2 arg3 harg3 arg6 harg6 arg7 harg7 arg9 harg9 arg10 harg10 x1 x2 x5 x6 x8 x9)) c arg2 harg2 arg3 harg3 arg9 harg9 arg10 harg10 x1 x2 x8 x9 ⟨256 + r.val, by omega⟩ j (Nat.le_add_right _ _))
      rw [← View.writes_append]
      refine congrArg (arg23.view.read (Elt Ideal) _) (funext fun a => Fin.ext ?_)
      refine (unit_emb _ _ _ (ix2 r j) a).trans ?_
      fin_cases a
      · rfl
      · exact Nat.zero_add _
  · intro r c'
    refine Eq.trans ?_ (tail_tile x0 x1 x2 x3 x8 x9 x10 x11 x12 x13 x14
      (bodyRunA.sl.v263 c arg2 harg2 arg3 harg3 arg6 harg6 arg7 harg7 arg9 harg9 arg10 harg10 arg23 x1 x2 x5 x6 x8 x9) 0 (by omega)
      inb_S512x512_S256x512_0_0 inb_S512x1024_S256x1024_0_0 inb_S1x512_S1x512_0_0 inb_S1x512_S1x512_0_0
      inb_S1x1024_S1x1024_0_0 inb_S1x1024_S1x1024_0_0 inb_S1024x1024_S512x512_0_0 inb_S1024x1024_S512x512_512_0
      inb_S1024x1024_S512x512_0_512 inb_S1024x1024_S512x512_512_512 0 r c' ?_)
    · simp only [bodyRunA.sl.r_72, bodyRunA.sl.r_73, bodyRunA.sl.r_31, bodyRunA.sl.r_32, bodyRunA.sl.r_70, bodyRunA.sl.r_69, bodyRunA.sl.r_55, bodyRunA.sl.r_57, bodyRunA.sl.r_56, bodyRunA.sl.r_18, View.readAt_eq_ld, Memref.IsWhole.read_unread]
      rfl
    · intro j
      refine Eq.trans ?_ (gate_read_lo arg23.view (arg23.view.writes (Elt Ideal) arg23.view.junk
        (bodyRunA.sl.H22_16 c arg6 harg6 arg7 harg7 arg9 harg9 arg10 harg10 x5 x6 x8 x9)) c arg2 harg2 arg3 harg3 arg9 harg9 arg10 harg10 x1 x2 x8 x9 ⟨0 + r.val, by omega⟩ j (by show 0 + r.val < 256; omega))
      rw [← View.writes_append]
      refine congrArg (arg23.view.read (Elt Ideal) _) (funext fun a => Fin.ext ?_)
      refine (unit_emb _ _ _ (ix2 r j) a).trans ?_
      fin_cases a
      · rfl
      · exact Nat.zero_add _

/-- The first point's load of its slot: the first tile's rows after the first norm. -/
theorem loadA (c : Dev nD) (i : grid0.Coords)
    (arg1 : Memref sig .tc .vmem S512x512 .bf16) (harg1 : arg1.IsWhole) (arg2 : Memref sig .tc .vmem S512x512 .bf16) (harg2 : arg2.IsWhole)
    (arg3 : Memref sig .tc .vmem S512x512 .bf16) (harg3 : arg3.IsWhole) (arg4 : Memref sig .tc .vmem S512x1024 .f32) (harg4 : arg4.IsWhole)
    (arg5 : Memref sig .tc .vmem S512x512 .bf16) (harg5 : arg5.IsWhole) (arg6 : Memref sig .tc .vmem S512x512 .bf16) (harg6 : arg6.IsWhole)
    (arg7 : Memref sig .tc .vmem S512x512 .bf16) (harg7 : arg7.IsWhole) (arg8 : Memref sig .tc .vmem S512x1024 .f32) (harg8 : arg8.IsWhole)
    (arg9 : Memref sig .tc .vmem S8x128x128 .f32) (harg9 : arg9.IsWhole) (arg10 : Memref sig .tc .vmem S128x512 .f32) (harg10 : arg10.IsWhole)
    (arg11 : Memref sig .tc .vmem S1x512 .f32) (harg11 : arg11.IsWhole) (arg12 : Memref sig .tc .vmem S1x512 .f32) (harg12 : arg12.IsWhole)
    (arg13 : Memref sig .tc .vmem S1024x1024 .bf16) (harg13 : arg13.IsWhole) (arg14 : Memref sig .tc .vmem S1x1024 .f32) (harg14 : arg14.IsWhole)
    (arg15 : Memref sig .tc .vmem S1x1024 .f32) (harg15 : arg15.IsWhole) (arg16 : Memref sig .tc .vmem S1024x2816 .bf16) (harg16 : arg16.IsWhole)
    (arg17 : Memref sig .tc .vmem S1024x2816 .bf16) (harg17 : arg17.IsWhole) (arg18 : Memref sig .tc .vmem S2816x1024 .bf16) (harg18 : arg18.IsWhole)
    (arg19 : Memref sig .tc .vmem S1x1024 .f32) (harg19 : arg19.IsWhole) (arg20 : Memref sig .tc .vmem S1x1024 .f32) (harg20 : arg20.IsWhole)
    (arg21 : Memref sig .tc .vmem S512x1024 .f32) (harg21 : arg21.IsWhole) (arg22 : Memref sig .tc .vmem S2x512x1024 .f32) (harg22 : arg22.IsWhole)
    (arg23 : Memref sig .tc .vmem S512x512 .f32) (harg23 : arg23.IsWhole) (arg24 : Memref sig .tc .vmem S512x1024 .f32) (harg24 : arg24.IsWhole)

    (x0 : Vec Ideal S512x512 .bf16) (x1 : Vec Ideal S512x512 .bf16) (x2 : Vec Ideal S512x512 .bf16) (x3 : Vec Ideal S512x1024 .f32)
    (x4 : Vec Ideal S512x512 .bf16) (x5 : Vec Ideal S512x512 .bf16) (x6 : Vec Ideal S512x512 .bf16) (x7 : Vec Ideal S512x1024 .f32)
    (x8 : Vec Ideal S8x128x128 .f32) (x9 : Vec Ideal S128x512 .f32) (x10 : Vec Ideal S1x512 .f32) (x11 : Vec Ideal S1x512 .f32)
    (x12 : Vec Ideal S1024x1024 .bf16) (x13 : Vec Ideal S1x1024 .f32) (x14 : Vec Ideal S1x1024 .f32) (x15 : Vec Ideal S1024x2816 .bf16)
    (x16 : Vec Ideal S1024x2816 .bf16) (x17 : Vec Ideal S2816x1024 .bf16) (x18 : Vec Ideal S1x1024 .f32) (x19 : Vec Ideal S1x1024 .f32) (s : Vec Ideal S2x512x1024 .f32) (h0 : (i 0).val = 0) :
    bodyRunA.sl.v67 c i arg5 harg5 arg6 harg6 arg7 harg7 arg8 harg8 arg9 harg9 arg10 harg10 arg11 harg11 arg12 harg12 arg13 harg13 arg14 harg14 arg15 harg15 arg22 harg22 arg23 x4 x5 x6 x7 x8 x9 x10 x11 x12 x13 x14 s = fun y => x1T x4 x5 x6 x7 x8 x9 x10 x11 x12 x13 x14 (y 1) (y 2) := by
  unfold bodyRunA.sl.v67
  rw [View.readAt_eq_ld, ld_slot]
  funext y
  have e : slot i = 0 := Fin.ext (by show (i 0).val % 2 = 0; omega)
  unfold slotV
  rw [e]
  exact firstA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 s arg22.view (harg22.unread s) (y 1) (y 2)

/-- At the first point the accumulator is the FFN of the rows it loads. -/
theorem accA (c : Dev nD) (i : grid0.Coords)
    (arg1 : Memref sig .tc .vmem S512x512 .bf16) (harg1 : arg1.IsWhole) (arg2 : Memref sig .tc .vmem S512x512 .bf16) (harg2 : arg2.IsWhole)
    (arg3 : Memref sig .tc .vmem S512x512 .bf16) (harg3 : arg3.IsWhole) (arg4 : Memref sig .tc .vmem S512x1024 .f32) (harg4 : arg4.IsWhole)
    (arg5 : Memref sig .tc .vmem S512x512 .bf16) (harg5 : arg5.IsWhole) (arg6 : Memref sig .tc .vmem S512x512 .bf16) (harg6 : arg6.IsWhole)
    (arg7 : Memref sig .tc .vmem S512x512 .bf16) (harg7 : arg7.IsWhole) (arg8 : Memref sig .tc .vmem S512x1024 .f32) (harg8 : arg8.IsWhole)
    (arg9 : Memref sig .tc .vmem S8x128x128 .f32) (harg9 : arg9.IsWhole) (arg10 : Memref sig .tc .vmem S128x512 .f32) (harg10 : arg10.IsWhole)
    (arg11 : Memref sig .tc .vmem S1x512 .f32) (harg11 : arg11.IsWhole) (arg12 : Memref sig .tc .vmem S1x512 .f32) (harg12 : arg12.IsWhole)
    (arg13 : Memref sig .tc .vmem S1024x1024 .bf16) (harg13 : arg13.IsWhole) (arg14 : Memref sig .tc .vmem S1x1024 .f32) (harg14 : arg14.IsWhole)
    (arg15 : Memref sig .tc .vmem S1x1024 .f32) (harg15 : arg15.IsWhole) (arg16 : Memref sig .tc .vmem S1024x2816 .bf16) (harg16 : arg16.IsWhole)
    (arg17 : Memref sig .tc .vmem S1024x2816 .bf16) (harg17 : arg17.IsWhole) (arg18 : Memref sig .tc .vmem S2816x1024 .bf16) (harg18 : arg18.IsWhole)
    (arg19 : Memref sig .tc .vmem S1x1024 .f32) (harg19 : arg19.IsWhole) (arg20 : Memref sig .tc .vmem S1x1024 .f32) (harg20 : arg20.IsWhole)
    (arg21 : Memref sig .tc .vmem S512x1024 .f32) (harg21 : arg21.IsWhole) (arg22 : Memref sig .tc .vmem S2x512x1024 .f32) (harg22 : arg22.IsWhole)
    (arg23 : Memref sig .tc .vmem S512x512 .f32) (harg23 : arg23.IsWhole) (arg24 : Memref sig .tc .vmem S512x1024 .f32) (harg24 : arg24.IsWhole)

    (x0 : Vec Ideal S512x512 .bf16) (x1 : Vec Ideal S512x512 .bf16) (x2 : Vec Ideal S512x512 .bf16) (x3 : Vec Ideal S512x1024 .f32)
    (x4 : Vec Ideal S512x512 .bf16) (x5 : Vec Ideal S512x512 .bf16) (x6 : Vec Ideal S512x512 .bf16) (x7 : Vec Ideal S512x1024 .f32)
    (x8 : Vec Ideal S8x128x128 .f32) (x9 : Vec Ideal S128x512 .f32) (x10 : Vec Ideal S1x512 .f32) (x11 : Vec Ideal S1x512 .f32)
    (x12 : Vec Ideal S1024x1024 .bf16) (x13 : Vec Ideal S1x1024 .f32) (x14 : Vec Ideal S1x1024 .f32) (x15 : Vec Ideal S1024x2816 .bf16)
    (x16 : Vec Ideal S1024x2816 .bf16) (x17 : Vec Ideal S2816x1024 .bf16) (x18 : Vec Ideal S1x1024 .f32) (x19 : Vec Ideal S1x1024 .f32) (s : Vec Ideal S2x512x1024 .f32) :
    bodyRunA.sl.v748 c i arg5 harg5 arg6 harg6 arg7 harg7 arg8 harg8 arg9 harg9 arg10 harg10 arg11 harg11 arg12 harg12 arg13 harg13 arg14 harg14 arg15 harg15 arg16 harg16 arg17 harg17 arg18 harg18 arg22 harg22 arg23 arg24 x4 x5 x6 x7 x8 x9 x10 x11 x12 x13 x14 x15 x16 x17 s = accV (bodyRunA.sl.v67 c i arg5 harg5 arg6 harg6 arg7 harg7 arg8 harg8 arg9 harg9 arg10 harg10 arg11 harg11 arg12 harg12 arg13 harg13 arg14 harg14 arg15 harg15 arg22 harg22 arg23 x4 x5 x6 x7 x8 x9 x10 x11 x12 x13 x14 s) x15 x16 x17 := by
  unfold bodyRunA.sl.v748 bodyRunA.sl.H23_11 bodyRunA.sl.r_78
  rw [View.readCov_full]
  unfold bodyRunA.sl.v738 bodyRunA.sl.H23_10
  rw [View.readCov_full]
  unfold bodyRunA.sl.v719 bodyRunA.sl.H23_9 bodyRunA.sl.r_77
  rw [View.readCov_full]
  unfold bodyRunA.sl.v700 bodyRunA.sl.H23_8
  rw [View.readCov_full]
  unfold bodyRunA.sl.v650 bodyRunA.sl.H23_7
  rw [View.readCov_full]
  unfold bodyRunA.sl.v625 bodyRunA.sl.H23_6
  rw [View.readCov_full]
  unfold bodyRunA.sl.v575 bodyRunA.sl.H23_5
  rw [View.readCov_full]
  unfold bodyRunA.sl.v551 bodyRunA.sl.H23_4
  rw [View.readCov_full]
  unfold bodyRunA.sl.v526 bodyRunA.sl.H23_3 bodyRunA.sl.r_68
  rw [View.readCov_full]
  unfold bodyRunA.sl.v502 bodyRunA.sl.H23_2
  rw [View.readCov_full]
  unfold bodyRunA.sl.v292 bodyRunA.sl.H23_1
  rw [View.readCov_full]
  simp only [bodyRunA.sl.r_42, bodyRunA.sl.r_43, View.readAt_eq_ld, Memref.IsWhole.read_unread]
  rfl

/-- What the first point leaves in the output's buffer. -/
theorem outA (c : Dev nD) (i : grid0.Coords)
    (arg1 : Memref sig .tc .vmem S512x512 .bf16) (harg1 : arg1.IsWhole) (arg2 : Memref sig .tc .vmem S512x512 .bf16) (harg2 : arg2.IsWhole)
    (arg3 : Memref sig .tc .vmem S512x512 .bf16) (harg3 : arg3.IsWhole) (arg4 : Memref sig .tc .vmem S512x1024 .f32) (harg4 : arg4.IsWhole)
    (arg5 : Memref sig .tc .vmem S512x512 .bf16) (harg5 : arg5.IsWhole) (arg6 : Memref sig .tc .vmem S512x512 .bf16) (harg6 : arg6.IsWhole)
    (arg7 : Memref sig .tc .vmem S512x512 .bf16) (harg7 : arg7.IsWhole) (arg8 : Memref sig .tc .vmem S512x1024 .f32) (harg8 : arg8.IsWhole)
    (arg9 : Memref sig .tc .vmem S8x128x128 .f32) (harg9 : arg9.IsWhole) (arg10 : Memref sig .tc .vmem S128x512 .f32) (harg10 : arg10.IsWhole)
    (arg11 : Memref sig .tc .vmem S1x512 .f32) (harg11 : arg11.IsWhole) (arg12 : Memref sig .tc .vmem S1x512 .f32) (harg12 : arg12.IsWhole)
    (arg13 : Memref sig .tc .vmem S1024x1024 .bf16) (harg13 : arg13.IsWhole) (arg14 : Memref sig .tc .vmem S1x1024 .f32) (harg14 : arg14.IsWhole)
    (arg15 : Memref sig .tc .vmem S1x1024 .f32) (harg15 : arg15.IsWhole) (arg16 : Memref sig .tc .vmem S1024x2816 .bf16) (harg16 : arg16.IsWhole)
    (arg17 : Memref sig .tc .vmem S1024x2816 .bf16) (harg17 : arg17.IsWhole) (arg18 : Memref sig .tc .vmem S2816x1024 .bf16) (harg18 : arg18.IsWhole)
    (arg19 : Memref sig .tc .vmem S1x1024 .f32) (harg19 : arg19.IsWhole) (arg20 : Memref sig .tc .vmem S1x1024 .f32) (harg20 : arg20.IsWhole)
    (arg21 : Memref sig .tc .vmem S512x1024 .f32) (harg21 : arg21.IsWhole) (arg22 : Memref sig .tc .vmem S2x512x1024 .f32) (harg22 : arg22.IsWhole)
    (arg23 : Memref sig .tc .vmem S512x512 .f32) (harg23 : arg23.IsWhole) (arg24 : Memref sig .tc .vmem S512x1024 .f32) (harg24 : arg24.IsWhole)
    (hc : cond0_0 i)
    (x0 : Vec Ideal S512x512 .bf16) (x1 : Vec Ideal S512x512 .bf16) (x2 : Vec Ideal S512x512 .bf16) (x3 : Vec Ideal S512x1024 .f32)
    (x4 : Vec Ideal S512x512 .bf16) (x5 : Vec Ideal S512x512 .bf16) (x6 : Vec Ideal S512x512 .bf16) (x7 : Vec Ideal S512x1024 .f32)
    (x8 : Vec Ideal S8x128x128 .f32) (x9 : Vec Ideal S128x512 .f32) (x10 : Vec Ideal S1x512 .f32) (x11 : Vec Ideal S1x512 .f32)
    (x12 : Vec Ideal S1024x1024 .bf16) (x13 : Vec Ideal S1x1024 .f32) (x14 : Vec Ideal S1x1024 .f32) (x15 : Vec Ideal S1024x2816 .bf16)
    (x16 : Vec Ideal S1024x2816 .bf16) (x17 : Vec Ideal S2816x1024 .bf16) (x18 : Vec Ideal S1x1024 .f32) (x19 : Vec Ideal S1x1024 .f32) (s : Vec Ideal S2x512x1024 .f32) (h0 : (i 0).val = 0) (f : arg21.view.ty.Contents (Elt Ideal)) (r : Fin 512) (k : Fin 1024) :
    arg21.view.read (Elt Ideal) (arg21.view.writes (Elt Ideal) f (bodyRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc x0 x1 x2 x3 x4 x5 x6 x7 x8 x9 x10 x11 x12 x13 x14 x15 x16 x17 x18 x19 s).1) (ix2 r k)
      = Spec.out (x1T x4 x5 x6 x7 x8 x9 x10 x11 x12 x13 x14 r) (row x15) (row x16) (row x17) (row x18 0) (row x19 0) k := by
  have hv : bodyRunA.sl.v744 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg22 harg22 arg23 x0 x1 x2 x3 x4 x5 x6 x7 x8 x9 x10 x11 x12 x13 x14 s = bodyRunA.sl.v67 c i arg5 harg5 arg6 harg6 arg7 harg7 arg8 harg8 arg9 harg9 arg10 harg10 arg11 harg11 arg12 harg12 arg13 harg13 arg14 harg14 arg15 harg15 arg22 harg22 arg23 x4 x5 x6 x7 x8 x9 x10 x11 x12 x13 x14 s := by
    unfold bodyRunA.sl.v744 bodyRunA.sl.v67
    rw [View.readAt_eq_ld, ld_slot, View.readAt_eq_ld, ld_slot]
    unfold bodyRunA.sl.H21_4
    rw [slot_skip _ _ i _ 256 (k0_off3_eq i), slot_skip _ _ i _ 0 (k0_off2_eq i)]
  have hl : (bodyRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc x0 x1 x2 x3 x4 x5 x6 x7 x8 x9 x10 x11 x12 x13 x14 x15 x16 x17 x18 x19 s).1 = [⟨Rect.unit ![0, 0] S512x1024.size inb_S512x1024_S512x1024_0_0, bodyRunA.sl.r_79 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 arg23 arg24 x0 x1 x2 x3 x4 x5 x6 x7 x8 x9 x10 x11 x12 x13 x14 x15 x16 x17 x18 x19 s⟩] := rfl
  rw [hl, View.read_writes_full]
  unfold bodyRunA.sl.r_79
  rw [hv, accA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 s, loadA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 s h0]
  simp only [View.readAt_eq_ld, Memref.IsWhole.read_unread]
  rw [ld_whole x18, ld_whole x19, out_apply]
  rfl

/-- What the first point leaves in the slot it does not read. -/
theorem nextA (c : Dev nD) (i : grid0.Coords)
    (arg1 : Memref sig .tc .vmem S512x512 .bf16) (harg1 : arg1.IsWhole) (arg2 : Memref sig .tc .vmem S512x512 .bf16) (harg2 : arg2.IsWhole)
    (arg3 : Memref sig .tc .vmem S512x512 .bf16) (harg3 : arg3.IsWhole) (arg4 : Memref sig .tc .vmem S512x1024 .f32) (harg4 : arg4.IsWhole)
    (arg5 : Memref sig .tc .vmem S512x512 .bf16) (harg5 : arg5.IsWhole) (arg6 : Memref sig .tc .vmem S512x512 .bf16) (harg6 : arg6.IsWhole)
    (arg7 : Memref sig .tc .vmem S512x512 .bf16) (harg7 : arg7.IsWhole) (arg8 : Memref sig .tc .vmem S512x1024 .f32) (harg8 : arg8.IsWhole)
    (arg9 : Memref sig .tc .vmem S8x128x128 .f32) (harg9 : arg9.IsWhole) (arg10 : Memref sig .tc .vmem S128x512 .f32) (harg10 : arg10.IsWhole)
    (arg11 : Memref sig .tc .vmem S1x512 .f32) (harg11 : arg11.IsWhole) (arg12 : Memref sig .tc .vmem S1x512 .f32) (harg12 : arg12.IsWhole)
    (arg13 : Memref sig .tc .vmem S1024x1024 .bf16) (harg13 : arg13.IsWhole) (arg14 : Memref sig .tc .vmem S1x1024 .f32) (harg14 : arg14.IsWhole)
    (arg15 : Memref sig .tc .vmem S1x1024 .f32) (harg15 : arg15.IsWhole) (arg16 : Memref sig .tc .vmem S1024x2816 .bf16) (harg16 : arg16.IsWhole)
    (arg17 : Memref sig .tc .vmem S1024x2816 .bf16) (harg17 : arg17.IsWhole) (arg18 : Memref sig .tc .vmem S2816x1024 .bf16) (harg18 : arg18.IsWhole)
    (arg19 : Memref sig .tc .vmem S1x1024 .f32) (harg19 : arg19.IsWhole) (arg20 : Memref sig .tc .vmem S1x1024 .f32) (harg20 : arg20.IsWhole)
    (arg21 : Memref sig .tc .vmem S512x1024 .f32) (harg21 : arg21.IsWhole) (arg22 : Memref sig .tc .vmem S2x512x1024 .f32) (harg22 : arg22.IsWhole)
    (arg23 : Memref sig .tc .vmem S512x512 .f32) (harg23 : arg23.IsWhole) (arg24 : Memref sig .tc .vmem S512x1024 .f32) (harg24 : arg24.IsWhole)
    (hc : cond0_0 i)
    (x0 : Vec Ideal S512x512 .bf16) (x1 : Vec Ideal S512x512 .bf16) (x2 : Vec Ideal S512x512 .bf16) (x3 : Vec Ideal S512x1024 .f32)
    (x4 : Vec Ideal S512x512 .bf16) (x5 : Vec Ideal S512x512 .bf16) (x6 : Vec Ideal S512x512 .bf16) (x7 : Vec Ideal S512x1024 .f32)
    (x8 : Vec Ideal S8x128x128 .f32) (x9 : Vec Ideal S128x512 .f32) (x10 : Vec Ideal S1x512 .f32) (x11 : Vec Ideal S1x512 .f32)
    (x12 : Vec Ideal S1024x1024 .bf16) (x13 : Vec Ideal S1x1024 .f32) (x14 : Vec Ideal S1x1024 .f32) (x15 : Vec Ideal S1024x2816 .bf16)
    (x16 : Vec Ideal S1024x2816 .bf16) (x17 : Vec Ideal S2816x1024 .bf16) (x18 : Vec Ideal S1x1024 .f32) (x19 : Vec Ideal S1x1024 .f32) (s : Vec Ideal S2x512x1024 .f32) (r : Fin 512) (k : Fin 1024) :
    arg22.view.read (Elt Ideal) (arg22.view.writes (Elt Ideal) (harg22.unread s) (bodyRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc x0 x1 x2 x3 x4 x5 x6 x7 x8 x9 x10 x11 x12 x13 x14 x15 x16 x17 x18 x19 s).2.1) (ix3 (other i) r k)
      = x1T x0 x1 x2 x3 x8 x9 x10 x11 x12 x13 x14 r k :=
  storesA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 s arg22.view (harg22.unread s) r k

end Cert.KernelIdeal.Gen

end
-- ==== Proof.IdealFrame.lean ====
module

public import proofs.«01_k».proof.Proof.IdealRunA
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The staging buffers, the scratch buffers and the branch condition -/

/-- Each window's current staging buffer at point `t`, and its wholeness. -/
abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x128x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1024x1024 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1024 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1024x2816 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1024x2816 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S2816x1024 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x1024 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x1024 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S512x1024 .f32 := win0_20.stage (cfg0.slots t 20)
abbrev hs0_20 (t : Fin cfg0.N) : (ms0_20 t).IsWhole := hstage0_20 ((cfg0.slots t 20).cast nbuf0_20)
/-- The three scratch buffers: the two mixed tiles, the gated half and the feed-forward accumulator. -/
abbrev scM0_0 : Memref sig .tc .vmem S2x512x1024 .f32 := Memref.whole cc0_scratch0
abbrev scM0_1 : Memref sig .tc .vmem S512x512 .f32 := Memref.whole cc0_scratch1
abbrev scM0_2 : Memref sig .tc .vmem S512x1024 .f32 := Memref.whole cc0_scratch2

/-- The body's first condition holds at the first point only. -/
theorem hcond0_0 (t : Fin cfg0.N) : cond0_0 (grid0.coords t) ↔ t.val = 0 := by
  have ht : t.val < 32 := Nat.lt_of_lt_of_eq t.isLt N_0
  have e0 : (grid0.coords t 0).val = t.val / 1 % 32 := Pipeline.Grid.coords_val t 0 (by decide) rfl
  simp only [cond0_0, e0]
  have : t.val / 1 % 32 = t.val := by omega
  rw [this]
  word_cmp

/-- The class's invariant, buffer by buffer. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d)) ∗ (∃ r, prngReg c r)) := by
  unfold Pipeline.ΦA; rw [scopedRest0_eq]; simp only [scM0_0, scM0_1, scM0_2, owns_whole]; try rfl
/-- The run of the body at point `t`, the first, on the point's own buffers and blocks, the two tiles' buffer holding `s`. -/
abbrev runA (c : Dev nD) (t : Fin cfg0.N) (hc : cond0_0 (grid0.coords t)) (s : Vec F S2x512x1024 .f32) :=
  bodyRunA (F := F) c (grid0.coords t)
      (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t)
      (ms0_8 t) (hs0_8 t) (ms0_9 t) (hs0_9 t) (ms0_10 t) (hs0_10 t) (ms0_11 t) (hs0_11 t)
      (ms0_12 t) (hs0_12 t) (ms0_13 t) (hs0_13 t) (ms0_14 t) (hs0_14 t) (ms0_15 t) (hs0_15 t)
      (ms0_16 t) (hs0_16 t) (ms0_17 t) (hs0_17 t) (ms0_18 t) (hs0_18 t) (ms0_19 t) (hs0_19 t)
      (ms0_20 t) (hs0_20 t)
      scM0_0 (Memref.isWhole_whole _) scM0_1 (Memref.isWhole_whole _) scM0_2 (Memref.isWhole_whole _) hc
      (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t)
      (iblk m c 16 t) (iblk m c 17 t) (iblk m c 18 t) (iblk m c 19 t) s

/-- The run of the body at point `t`, not the first, on the point's own buffers and blocks, the two tiles' buffer holding `s`. -/
abbrev runB (c : Dev nD) (t : Fin cfg0.N) (hc : ¬cond0_0 (grid0.coords t)) (s : Vec F S2x512x1024 .f32) :=
  bodyRunB (F := F) c (grid0.coords t)
      (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t)
      (ms0_8 t) (hs0_8 t) (ms0_9 t) (hs0_9 t) (ms0_10 t) (hs0_10 t) (ms0_11 t) (hs0_11 t)
      (ms0_12 t) (hs0_12 t) (ms0_13 t) (hs0_13 t) (ms0_14 t) (hs0_14 t) (ms0_15 t) (hs0_15 t)
      (ms0_16 t) (hs0_16 t) (ms0_17 t) (hs0_17 t) (ms0_18 t) (hs0_18 t) (ms0_19 t) (hs0_19 t)
      (ms0_20 t) (hs0_20 t)
      scM0_0 (Memref.isWhole_whole _) scM0_1 (Memref.isWhole_whole _) scM0_2 (Memref.isWhole_whole _) hc
      (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t)
      (iblk m c 16 t) (iblk m c 17 t) (iblk m c 18 t) (iblk m c 19 t) s

/-- What the proof keeps of the two tiles' buffer before each point, what each point leaves in the output's buffer, and that
    the body's runs keep both. -/
structure Tracked where
  /-- What holds of the two tiles' buffer before point `n`. -/
  Inv : Dev nD → ℕ → Vec F S2x512x1024 .f32 → Prop
  /-- The output tile of each point. -/
  out : Dev nD → Fin cfg0.N → Vec F S512x1024 .f32
  zero : ∀ c s, Inv c 0 s
  stepA : ∀ (c : Dev nD) (t : Fin cfg0.N) (hc : cond0_0 (grid0.coords t)) (s : Vec F S2x512x1024 .f32),
    (∀ f, (ms0_20 t).view.read (Elt F) ((ms0_20 t).view.writes (Elt F) f (runA m c t hc s).1) = out c t)
      ∧ Inv c (t.val + 1) (scM0_0.view.read (Elt F)
          (scM0_0.view.writes (Elt F) ((Memref.isWhole_whole cc0_scratch0).unread s) (runA m c t hc s).2.1))
  stepB : ∀ (c : Dev nD) (t : Fin cfg0.N) (hc : ¬cond0_0 (grid0.coords t)) (s : Vec F S2x512x1024 .f32), Inv c t.val s →
    (∀ f, (ms0_20 t).view.read (Elt F) ((ms0_20 t).view.writes (Elt F) f (runB m c t hc s).1) = out c t)
      ∧ Inv c (t.val + 1) (scM0_0.view.read (Elt F)
          (scM0_0.view.writes (Elt F) ((Memref.isWhole_whole cc0_scratch0).unread s) (runB m c t hc s).2.1))

/-- The invariant before point `n`: the two tiles' buffer at contents the tracking admits, the other scratch buffers and the
    generator register at anything. -/
def PhiS (K : Tracked m) (c : Dev nD) (n : ℕ) : sProp 𝕄 :=
  iprop(iprop((∃ s, ⌜K.Inv c n s⌝ ∗ owns (c : Thread nD τ) scM0_0 fullShare s) ∗ (∃ d, owns (c : Thread nD τ) scM0_1 fullShare d)
      ∗ (∃ d, owns (c : Thread nD τ) scM0_2 fullShare d)) ∗ (∃ r, prngReg c r))

/-- The proof data on core `c`: the arrays as the region finds them, each input's buffer left at its block, the output's at
    the tracked tile, windows that share an array at the shares the library cuts it in. -/
def dats (K : Tracked m) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => K.out c t
    | ⟨_ + 21, h⟩ => absurd h (Nat.not_lt.2 (Nat.le_add_left _ _))
  Φ t := PhiS m K c t.val
  q w := Pipeline.shareOf spec0 w
  owed _ := 0

/-- The proof data's arrays are the region-entry contents. -/
theorem A_eq (K : Tracked m) (c : Dev nD) (w : Fin cfg0.W) : (dats m K 0 c).A w = V m c (Pipeline.arrRef spec0 w) := by
  dsimp only [dats]

/-- What the body leaves in each input's buffer is its block. -/
theorem after0_0 (K : Tracked m) (c : Dev nD) (t : Fin cfg0.N) : (dats m K 0 c).after 0 t = iblk m c 0 t := by dsimp only [dats]
theorem after0_1 (K : Tracked m) (c : Dev nD) (t : Fin cfg0.N) : (dats m K 0 c).after 1 t = iblk m c 1 t := by dsimp only [dats]
theorem after0_2 (K : Tracked m) (c : Dev nD) (t : Fin cfg0.N) : (dats m K 0 c).after 2 t = iblk m c 2 t := by dsimp only [dats]
theorem after0_3 (K : Tracked m) (c : Dev nD) (t : Fin cfg0.N) : (dats m K 0 c).after 3 t = iblk m c 3 t := by dsimp only [dats]
theorem after0_4 (K : Tracked m) (c : Dev nD) (t : Fin cfg0.N) : (dats m K 0 c).after 4 t = iblk m c 4 t := by dsimp only [dats]
theorem after0_5 (K : Tracked m) (c : Dev nD) (t : Fin cfg0.N) : (dats m K 0 c).after 5 t = iblk m c 5 t := by dsimp only [dats]
theorem after0_6 (K : Tracked m) (c : Dev nD) (t : Fin cfg0.N) : (dats m K 0 c).after 6 t = iblk m c 6 t := by dsimp only [dats]
theorem after0_7 (K : Tracked m) (c : Dev nD) (t : Fin cfg0.N) : (dats m K 0 c).after 7 t = iblk m c 7 t := by dsimp only [dats]
theorem after0_8 (K : Tracked m) (c : Dev nD) (t : Fin cfg0.N) : (dats m K 0 c).after 8 t = iblk m c 8 t := by dsimp only [dats]
theorem after0_9 (K : Tracked m) (c : Dev nD) (t : Fin cfg0.N) : (dats m K 0 c).after 9 t = iblk m c 9 t := by dsimp only [dats]
theorem after0_10 (K : Tracked m) (c : Dev nD) (t : Fin cfg0.N) : (dats m K 0 c).after 10 t = iblk m c 10 t := by dsimp only [dats]
theorem after0_11 (K : Tracked m) (c : Dev nD) (t : Fin cfg0.N) : (dats m K 0 c).after 11 t = iblk m c 11 t := by dsimp only [dats]
theorem after0_12 (K : Tracked m) (c : Dev nD) (t : Fin cfg0.N) : (dats m K 0 c).after 12 t = iblk m c 12 t := by dsimp only [dats]
theorem after0_13 (K : Tracked m) (c : Dev nD) (t : Fin cfg0.N) : (dats m K 0 c).after 13 t = iblk m c 13 t := by dsimp only [dats]
theorem after0_14 (K : Tracked m) (c : Dev nD) (t : Fin cfg0.N) : (dats m K 0 c).after 14 t = iblk m c 14 t := by dsimp only [dats]
theorem after0_15 (K : Tracked m) (c : Dev nD) (t : Fin cfg0.N) : (dats m K 0 c).after 15 t = iblk m c 15 t := by dsimp only [dats]
theorem after0_16 (K : Tracked m) (c : Dev nD) (t : Fin cfg0.N) : (dats m K 0 c).after 16 t = iblk m c 16 t := by dsimp only [dats]
theorem after0_17 (K : Tracked m) (c : Dev nD) (t : Fin cfg0.N) : (dats m K 0 c).after 17 t = iblk m c 17 t := by dsimp only [dats]
theorem after0_18 (K : Tracked m) (c : Dev nD) (t : Fin cfg0.N) : (dats m K 0 c).after 18 t = iblk m c 18 t := by dsimp only [dats]
theorem after0_19 (K : Tracked m) (c : Dev nD) (t : Fin cfg0.N) : (dats m K 0 c).after 19 t = iblk m c 19 t := by dsimp only [dats]

/-- Each input's buffer holds its block at every point, fetched there or not. -/
theorem before0_0 (K : Tracked m) (c : Dev nD) (t : Fin cfg0.N) (d) : (dats m K 0 c).before 0 t d = iblk m c 0 t :=
  before0_0_of m (dats m K 0 c) (A_eq m K c 0) (after0_0 m K c) t d
theorem before0_1 (K : Tracked m) (c : Dev nD) (t : Fin cfg0.N) (d) : (dats m K 0 c).before 1 t d = iblk m c 1 t :=
  before0_1_of m (dats m K 0 c) (A_eq m K c 1) (after0_1 m K c) t d
theorem before0_2 (K : Tracked m) (c : Dev nD) (t : Fin cfg0.N) (d) : (dats m K 0 c).before 2 t d = iblk m c 2 t :=
  before0_2_of m (dats m K 0 c) (A_eq m K c 2) (after0_2 m K c) t d
theorem before0_3 (K : Tracked m) (c : Dev nD) (t : Fin cfg0.N) (d) : (dats m K 0 c).before 3 t d = iblk m c 3 t :=
  before0_3_of m (dats m K 0 c) (A_eq m K c 3) (after0_3 m K c) t d
theorem before0_4 (K : Tracked m) (c : Dev nD) (t : Fin cfg0.N) (d) : (dats m K 0 c).before 4 t d = iblk m c 4 t :=
  before0_4_of m (dats m K 0 c) (A_eq m K c 4) (after0_4 m K c) t d
theorem before0_5 (K : Tracked m) (c : Dev nD) (t : Fin cfg0.N) (d) : (dats m K 0 c).before 5 t d = iblk m c 5 t :=
  before0_5_of m (dats m K 0 c) (A_eq m K c 5) (after0_5 m K c) t d
theorem before0_6 (K : Tracked m) (c : Dev nD) (t : Fin cfg0.N) (d) : (dats m K 0 c).before 6 t d = iblk m c 6 t :=
  before0_6_of m (dats m K 0 c) (A_eq m K c 6) (after0_6 m K c) t d
theorem before0_7 (K : Tracked m) (c : Dev nD) (t : Fin cfg0.N) (d) : (dats m K 0 c).before 7 t d = iblk m c 7 t :=
  before0_7_of m (dats m K 0 c) (A_eq m K c 7) (after0_7 m K c) t d
theorem before0_8 (K : Tracked m) (c : Dev nD) (t : Fin cfg0.N) (d) : (dats m K 0 c).before 8 t d = iblk m c 8 t :=
  before0_8_of m (dats m K 0 c) (A_eq m K c 8) (after0_8 m K c) t d
theorem before0_9 (K : Tracked m) (c : Dev nD) (t : Fin cfg0.N) (d) : (dats m K 0 c).before 9 t d = iblk m c 9 t :=
  before0_9_of m (dats m K 0 c) (A_eq m K c 9) (after0_9 m K c) t d
theorem before0_10 (K : Tracked m) (c : Dev nD) (t : Fin cfg0.N) (d) : (dats m K 0 c).before 10 t d = iblk m c 10 t :=
  before0_10_of m (dats m K 0 c) (A_eq m K c 10) (after0_10 m K c) t d
theorem before0_11 (K : Tracked m) (c : Dev nD) (t : Fin cfg0.N) (d) : (dats m K 0 c).before 11 t d = iblk m c 11 t :=
  before0_11_of m (dats m K 0 c) (A_eq m K c 11) (after0_11 m K c) t d
theorem before0_12 (K : Tracked m) (c : Dev nD) (t : Fin cfg0.N) (d) : (dats m K 0 c).before 12 t d = iblk m c 12 t :=
  before0_12_of m (dats m K 0 c) (A_eq m K c 12) (after0_12 m K c) t d
theorem before0_13 (K : Tracked m) (c : Dev nD) (t : Fin cfg0.N) (d) : (dats m K 0 c).before 13 t d = iblk m c 13 t :=
  before0_13_of m (dats m K 0 c) (A_eq m K c 13) (after0_13 m K c) t d
theorem before0_14 (K : Tracked m) (c : Dev nD) (t : Fin cfg0.N) (d) : (dats m K 0 c).before 14 t d = iblk m c 14 t :=
  before0_14_of m (dats m K 0 c) (A_eq m K c 14) (after0_14 m K c) t d
theorem before0_15 (K : Tracked m) (c : Dev nD) (t : Fin cfg0.N) (d) : (dats m K 0 c).before 15 t d = iblk m c 15 t :=
  before0_15_of m (dats m K 0 c) (A_eq m K c 15) (after0_15 m K c) t d
theorem before0_16 (K : Tracked m) (c : Dev nD) (t : Fin cfg0.N) (d) : (dats m K 0 c).before 16 t d = iblk m c 16 t :=
  before0_16_of m (dats m K 0 c) (A_eq m K c 16) (after0_16 m K c) t d
theorem before0_17 (K : Tracked m) (c : Dev nD) (t : Fin cfg0.N) (d) : (dats m K 0 c).before 17 t d = iblk m c 17 t :=
  before0_17_of m (dats m K 0 c) (A_eq m K c 17) (after0_17 m K c) t d
theorem before0_18 (K : Tracked m) (c : Dev nD) (t : Fin cfg0.N) (d) : (dats m K 0 c).before 18 t d = iblk m c 18 t :=
  before0_18_of m (dats m K 0 c) (A_eq m K c 18) (after0_18 m K c) t d
theorem before0_19 (K : Tracked m) (c : Dev nD) (t : Fin cfg0.N) (d) : (dats m K 0 c).before 19 t d = iblk m c 19 t :=
  before0_19_of m (dats m K 0 c) (A_eq m K c 19) (after0_19 m K c) t d
theorem after0_20 (K : Tracked m) (c : Dev nD) (t : Fin cfg0.N) : (dats m K 0 c).after 20 t = K.out c t := by dsimp only [dats]

theorem Phi_eq (K : Tracked m) (c : Dev nD) (t : Fin (cfg0.N + 1)) : (dats m K 0 c).Φ t = PhiS m K c t.val := by dsimp only [dats]

/-- Before the first point nothing is known of the scratch buffers. -/
theorem hin (K : Tracked m) (c : Dev nD) : (Pipeline.ΦA spec0 c : sProp 𝕄) ⊢ (dats m K 0 c).Φ 0 := by
  rw [Phi_eq, PhiA0_eq]; unfold PhiS
  iintro ⟨⟨⟨%s, HS0⟩, HS1, HS2⟩, Hg⟩
  isplitl [HS0 HS1 HS2]
  · isplitl [HS0]
    · iexists s; isplitr
      · ipureintro; exact K.zero c s
      iexact HS0
    isplitl [HS1]; · iexact HS1
    iexact HS2
  iexact Hg

/-- After the last point the tracked contents are forgotten. -/
theorem hout (K : Tracked m) (c : Dev nD) : (dats m K 0 c).Φ (Fin.last cfg0.N) ⊢ (Pipeline.ΦA spec0 c : sProp 𝕄) := by
  rw [Phi_eq, PhiA0_eq]; unfold PhiS
  iintro ⟨⟨⟨%s, -, HS0⟩, HS1, HS2⟩, Hg⟩
  isplitl [HS0 HS1 HS2]
  · isplitl [HS0]; · iexists s; iexact HS0
    isplitl [HS1]; · iexact HS1
    iexact HS2
  iexact Hg

/-- What the body is called with at point `t`, the windows one by one, -/
def bodyPre (K : Tracked m) (c : Dev nD) (t : Fin cfg0.N) : sProp 𝕄 :=
  iprop((dats m K 0 c).Φ t.castSucc ∗ (dats m K 0 c).owesAt () t.castSucc
    ∗ (∃ d, owns (c : Thread nD τ) (ms0_0 t) fullShare ((dats m K 0 c).before 0 t d))
    ∗ (∃ d, owns (c : Thread nD τ) (ms0_1 t) fullShare ((dats m K 0 c).before 1 t d))
    ∗ (∃ d, owns (c : Thread nD τ) (ms0_2 t) fullShare ((dats m K 0 c).before 2 t d))
    ∗ (∃ d, owns (c : Thread nD τ) (ms0_3 t) fullShare ((dats m K 0 c).before 3 t d))
    ∗ (∃ d, owns (c : Thread nD τ) (ms0_4 t) fullShare ((dats m K 0 c).before 4 t d))
    ∗ (∃ d, owns (c : Thread nD τ) (ms0_5 t) fullShare ((dats m K 0 c).before 5 t d))
    ∗ (∃ d, owns (c : Thread nD τ) (ms0_6 t) fullShare ((dats m K 0 c).before 6 t d))
    ∗ (∃ d, owns (c : Thread nD τ) (ms0_7 t) fullShare ((dats m K 0 c).before 7 t d))
    ∗ (∃ d, owns (c : Thread nD τ) (ms0_8 t) fullShare ((dats m K 0 c).before 8 t d))
    ∗ (∃ d, owns (c : Thread nD τ) (ms0_9 t) fullShare ((dats m K 0 c).before 9 t d))
    ∗ (∃ d, owns (c : Thread nD τ) (ms0_10 t) fullShare ((dats m K 0 c).before 10 t d))
    ∗ (∃ d, owns (c : Thread nD τ) (ms0_11 t) fullShare ((dats m K 0 c).before 11 t d))
    ∗ (∃ d, owns (c : Thread nD τ) (ms0_12 t) fullShare ((dats m K 0 c).before 12 t d))
    ∗ (∃ d, owns (c : Thread nD τ) (ms0_13 t) fullShare ((dats m K 0 c).before 13 t d))
    ∗ (∃ d, owns (c : Thread nD τ) (ms0_14 t) fullShare ((dats m K 0 c).before 14 t d))
    ∗ (∃ d, owns (c : Thread nD τ) (ms0_15 t) fullShare ((dats m K 0 c).before 15 t d))
    ∗ (∃ d, owns (c : Thread nD τ) (ms0_16 t) fullShare ((dats m K 0 c).before 16 t d))
    ∗ (∃ d, owns (c : Thread nD τ) (ms0_17 t) fullShare ((dats m K 0 c).before 17 t d))
    ∗ (∃ d, owns (c : Thread nD τ) (ms0_18 t) fullShare ((dats m K 0 c).before 18 t d))
    ∗ (∃ d, owns (c : Thread nD τ) (ms0_19 t) fullShare ((dats m K 0 c).before 19 t d))
    ∗ (∃ d, owns (c : Thread nD τ) (ms0_20 t) fullShare ((dats m K 0 c).before 20 t d)))

/-- and what it returns. -/
def bodyPost (K : Tracked m) (c : Dev nD) (t : Fin cfg0.N) : sProp 𝕄 :=
  iprop((dats m K 0 c).Φ t.succ ∗ (dats m K 0 c).owesAt () t.succ
    ∗ owns (c : Thread nD τ) (ms0_0 t) fullShare ((dats m K 0 c).after 0 t)
    ∗ owns (c : Thread nD τ) (ms0_1 t) fullShare ((dats m K 0 c).after 1 t)
    ∗ owns (c : Thread nD τ) (ms0_2 t) fullShare ((dats m K 0 c).after 2 t)
    ∗ owns (c : Thread nD τ) (ms0_3 t) fullShare ((dats m K 0 c).after 3 t)
    ∗ owns (c : Thread nD τ) (ms0_4 t) fullShare ((dats m K 0 c).after 4 t)
    ∗ owns (c : Thread nD τ) (ms0_5 t) fullShare ((dats m K 0 c).after 5 t)
    ∗ owns (c : Thread nD τ) (ms0_6 t) fullShare ((dats m K 0 c).after 6 t)
    ∗ owns (c : Thread nD τ) (ms0_7 t) fullShare ((dats m K 0 c).after 7 t)
    ∗ owns (c : Thread nD τ) (ms0_8 t) fullShare ((dats m K 0 c).after 8 t)
    ∗ owns (c : Thread nD τ) (ms0_9 t) fullShare ((dats m K 0 c).after 9 t)
    ∗ owns (c : Thread nD τ) (ms0_10 t) fullShare ((dats m K 0 c).after 10 t)
    ∗ owns (c : Thread nD τ) (ms0_11 t) fullShare ((dats m K 0 c).after 11 t)
    ∗ owns (c : Thread nD τ) (ms0_12 t) fullShare ((dats m K 0 c).after 12 t)
    ∗ owns (c : Thread nD τ) (ms0_13 t) fullShare ((dats m K 0 c).after 13 t)
    ∗ owns (c : Thread nD τ) (ms0_14 t) fullShare ((dats m K 0 c).after 14 t)
    ∗ owns (c : Thread nD τ) (ms0_15 t) fullShare ((dats m K 0 c).after 15 t)
    ∗ owns (c : Thread nD τ) (ms0_16 t) fullShare ((dats m K 0 c).after 16 t)
    ∗ owns (c : Thread nD τ) (ms0_17 t) fullShare ((dats m K 0 c).after 17 t)
    ∗ owns (c : Thread nD τ) (ms0_18 t) fullShare ((dats m K 0 c).after 18 t)
    ∗ owns (c : Thread nD τ) (ms0_19 t) fullShare ((dats m K 0 c).after 19 t)
    ∗ owns (c : Thread nD τ) (ms0_20 t) fullShare ((dats m K 0 c).after 20 t))

set_option maxHeartbeats 4000000 in
/-- The body at any point: by its run at the first point or by its run at the others. -/
theorem sound_body (K : Tracked m) (c : Dev nD) (t : Fin cfg0.N) :
    bodyPre m K c t ⊢ wp frame (wpE (defs₀ (F := F)) Variants.none c none) Set.univ (bodyAt0 t) (fun _ => bodyPost m K c t) := by
  unfold bodyPre bodyPost bodyAt0
  simp only [before0_0, before0_1, before0_2, before0_3, before0_4, before0_5, before0_6, before0_7, before0_8, before0_9,
    before0_10, before0_11, before0_12, before0_13, before0_14, before0_15, before0_16, before0_17, before0_18, before0_19]
  rw [show (dats m K 0 c).owesAt () t.succ = (dats m K 0 c).owesAt () t.castSucc from rfl,
    after0_0, after0_1, after0_2, after0_3, after0_4, after0_5, after0_6, after0_7, after0_8, after0_9,
    after0_10, after0_11, after0_12, after0_13, after0_14, after0_15, after0_16, after0_17, after0_18, after0_19, after0_20, Phi_eq, Phi_eq]
  rw [show t.succ.val = t.val + 1 from rfl, show t.castSucc.val = t.val from rfl]
  unfold PhiS
  by_cases h0 : cond0_0 (grid0.coords t)
  · iintro ⟨⟨⟨⟨%s, %hs, HS0⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    have hstep := K.stepA c t h0 s
    iapply ((runA m c t h0 s).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexists _; iexact H20
    isplitl [HS0]; · iexact HS0
    isplitl [HS1]; · iexact HS1
    isplitl [HS2]; · iexact HS2
    iintro ⟨H0, H1, H2, H3, H4, H5, H6, H7, H8, H9, H10, H11, H12, H13, H14, H15, H16, H17, H18, H19, ⟨%f20, H20⟩, HS0, HS1, HS2⟩
    isplitl [HS0 HS1 HS2 Hg]
    · isplitl [HS0 HS1 HS2]
      · isplitl [HS0]
        · iexists _; isplitr
          · ipureintro; exact hstep.2
          iapply (owns_intro (c : Thread nD τ) scM0_0 fullShare _)
          iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    rw [← hstep.1 f20]
    iapply (owns_intro (c : Thread nD τ) (ms0_20 t) fullShare _)
    iexact H20
  · iintro ⟨⟨⟨⟨%s, %hs, HS0⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    have hstep := K.stepB c t h0 s hs
    iapply ((runB m c t h0 s).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexists _; iexact H20
    isplitl [HS0]; · iexact HS0
    isplitl [HS1]; · iexact HS1
    isplitl [HS2]; · iexact HS2
    iintro ⟨H0, H1, H2, H3, H4, H5, H6, H7, H8, H9, H10, H11, H12, H13, H14, H15, H16, H17, H18, H19, ⟨%f20, H20⟩, HS0, HS1, HS2⟩
    isplitl [HS0 HS1 HS2 Hg]
    · isplitl [HS0 HS1 HS2]
      · isplitl [HS0]
        · iexists _; isplitr
          · ipureintro; exact hstep.2
          iapply (owns_intro (c : Thread nD τ) scM0_0 fullShare _)
          iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    rw [← hstep.1 f20]
    iapply (owns_intro (c : Thread nD τ) (ms0_20 t) fullShare _)
    iexact H20

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (K : Tracked m) (c : Dev nD) : BodyObligation (dats (F := F) m K 0 c) (defs₀ (F := F)) Variants.none () Set.univ := fun t => by
  rw [bigSep_W0, bigSep_W0, defs₀_row]
  exact triple_restated (sound_body m K c t) rfl .rfl fun _ => .rfl

/-! ## The run and the frame -/

set_option backward.isDefEq.respectTransparency.types false in
/-- Every execution of @main ends with each window's array as its blocks make it, and every semaphore counter at zero. -/
theorem run_main_quiescent (K : Tracked m) : θ_run defs (onTc (τ := τ) (main (F := F))) (s₀ m ρ) (fun r => Pipeline.FramePost cfgs (dats m K) 0 (V m) r ∧ r.2.sem = fun _ => 0) :=
  Pipeline.θ_run_frame_track_shared (Q' := _) cfgs (dats m K) (0 : Fin 1) launch₀0 defs₀ Variants.none m ρ main
    (hbody := fun c => (body_obligation m K c).loose) (hq := fun _ _ _ => rfl)
    (howed := fun _ _ => rfl) (V := V m) (hmain := hmain m Variants.none) (hA := A_eq m K) (hin := hin m K) (hout := hout m K)

/-- The frame: every execution of @main ends, every argument array unchanged and every semaphore counter zero. -/
theorem frame (K : Tracked m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (frame_of m ρ (dats m K) (A_eq m K) ((θ_run defs _ _).mono (fun _ h => h.1) (run_main_quiescent m ρ K)))
    ((θ_run defs _ _).mono (fun _ h => h.2) (run_main_quiescent m ρ K))

end Cert.KernelIdeal.Gen

end
-- ==== Proof.Blocks.lean ====
module

public import proofs.«01_k».proof.Proof.StepB
public import proofs.«01_k».proof.Proof.StepA
public import proofs.«01_k».proof.Proof.IdealFrame
public import Idealize.ShloMosaic.Lib.Pipeline.ValueKit
public import Idealize.ShloMosaic.Lib.StableHlo.ReadAt
public import Idealize.ShloMosaic.Lib.Pointwise

@[expose] public section

set_option maxRecDepth 16384

noncomputable section

namespace Cert.KernelIdeal.Gen

open Idealize.ShloMosaic Idealize.ShloMosaic.TcCoe

variable (m : (ℓ : Loc nD τ sig) → Buf (Elt Ideal) ℓ)

/-- The tile whose first half of the layer a point computes: the next one, the last point again its own. -/
abbrev ahead (t : Fin cfg0.N) : ℕ := min (t.val + 1) 31

theorem coords_val : ∀ t : Fin cfg0.N, ((grid0.coords t) 0).val = t.val := (by decide +kernel : ∀ t : Fin grid0.N, _)
theorem idx0 : ∀ t : Fin cfg0.N, win0_0.index t = ![ahead t, 0] := (by decide +kernel : ∀ t : Fin grid0.N, _)
theorem idx1 : ∀ t : Fin cfg0.N, win0_1.index t = ![ahead t, 0] := (by decide +kernel : ∀ t : Fin grid0.N, _)
theorem idx2 : ∀ t : Fin cfg0.N, win0_2.index t = ![ahead t, 0] := (by decide +kernel : ∀ t : Fin grid0.N, _)
theorem idx3 : ∀ t : Fin cfg0.N, win0_3.index t = ![ahead t, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![0, 0] := (by decide +kernel : ∀ t : Fin grid0.N, _)
theorem idx16 : ∀ t : Fin cfg0.N, win0_16.index t = ![0, 0] := (by decide +kernel : ∀ t : Fin grid0.N, _)
theorem idx17 : ∀ t : Fin cfg0.N, win0_17.index t = ![0, 0] := (by decide +kernel : ∀ t : Fin grid0.N, _)
theorem idx18 : ∀ t : Fin cfg0.N, win0_18.index t = ![0, 0] := (by decide +kernel : ∀ t : Fin grid0.N, _)
theorem idx19 : ∀ t : Fin cfg0.N, win0_19.index t = ![0, 0] := (by decide +kernel : ∀ t : Fin grid0.N, _)
theorem idx20 : ∀ t : Fin cfg0.N, win0_20.index t = ![t.val, 0] := (by decide +kernel : ∀ t : Fin grid0.N, _)

/-- A point's rows of the attention's output: the tile ahead. -/
theorem blk0 (c : Dev nD) (t : Fin cfg0.N) (r : Fin 512) (R : Fin 16384) (hR : R.val = 512 * ahead t + r.val) (k : Fin 512) :
    (iblk m c 0 t : Vec Ideal S512x512 .bf16) (ix2 r k)
      = (m ((c : Thread nD τ).loc main_arg0) : Vec Ideal S16384x512 .bf16) (ix2 R k) := by
  rw [← V_main_arg0 m c]
  blk_simp [iblk]
  refine congrArg _ ?_
  blk_ext [idx0]

/-- A point's rows of the gate's factor: the tile ahead. -/
theorem blk1 (c : Dev nD) (t : Fin cfg0.N) (r : Fin 512) (R : Fin 16384) (hR : R.val = 512 * ahead t + r.val) (k : Fin 512) :
    (iblk m c 1 t : Vec Ideal S512x512 .bf16) (ix2 r k)
      = (m ((c : Thread nD τ).loc main_arg1) : Vec Ideal S16384x512 .bf16) (ix2 R k) := by
  rw [← V_main_arg1 m c]
  blk_simp [iblk]
  refine congrArg _ ?_
  blk_ext [idx1]

/-- A point's rows of the gate's mixed input: the tile ahead. -/
theorem blk2 (c : Dev nD) (t : Fin cfg0.N) (r : Fin 512) (R : Fin 16384) (hR : R.val = 512 * ahead t + r.val) (k : Fin 512) :
    (iblk m c 2 t : Vec Ideal S512x512 .bf16) (ix2 r k)
      = (m ((c : Thread nD τ).loc main_arg2) : Vec Ideal S16384x512 .bf16) (ix2 R k) := by
  rw [← V_main_arg2 m c]
  blk_simp [iblk]
  refine congrArg _ ?_
  blk_ext [idx2]

/-- A point's rows of the residual: the tile ahead. -/
theorem blk3 (c : Dev nD) (t : Fin cfg0.N) (r : Fin 512) (R : Fin 16384) (hR : R.val = 512 * ahead t + r.val) (k : Fin 1024) :
    (iblk m c 3 t : Vec Ideal S512x1024 .f32) (ix2 r k)
      = (m ((c : Thread nD τ).loc main_arg3) : Vec Ideal S16384x1024 .f32) (ix2 R k) := by
  rw [← V_main_arg3 m c]
  blk_simp [iblk]
  refine congrArg _ ?_
  blk_ext [idx3]

/-- The first tile's rows of the attention's output. -/
theorem blk4 (c : Dev nD) (t : Fin cfg0.N) (r : Fin 512) (R : Fin 16384) (hR : R.val = r.val) (k : Fin 512) :
    (iblk m c 4 t : Vec Ideal S512x512 .bf16) (ix2 r k)
      = (m ((c : Thread nD τ).loc main_arg0) : Vec Ideal S16384x512 .bf16) (ix2 R k) := by
  rw [← V_main_arg0 m c]
  blk_simp [iblk]
  refine congrArg _ ?_
  blk_ext [idx4]

/-- The first tile's rows of the gate's factor. -/
theorem blk5 (c : Dev nD) (t : Fin cfg0.N) (r : Fin 512) (R : Fin 16384) (hR : R.val = r.val) (k : Fin 512) :
    (iblk m c 5 t : Vec Ideal S512x512 .bf16) (ix2 r k)
      = (m ((c : Thread nD τ).loc main_arg1) : Vec Ideal S16384x512 .bf16) (ix2 R k) := by
  rw [← V_main_arg1 m c]
  blk_simp [iblk]
  refine congrArg _ ?_
  blk_ext [idx5]

/-- The first tile's rows of the gate's mixed input. -/
theorem blk6 (c : Dev nD) (t : Fin cfg0.N) (r : Fin 512) (R : Fin 16384) (hR : R.val = r.val) (k : Fin 512) :
    (iblk m c 6 t : Vec Ideal S512x512 .bf16) (ix2 r k)
      = (m ((c : Thread nD τ).loc main_arg2) : Vec Ideal S16384x512 .bf16) (ix2 R k) := by
  rw [← V_main_arg2 m c]
  blk_simp [iblk]
  refine congrArg _ ?_
  blk_ext [idx6]

/-- The first tile's rows of the residual. -/
theorem blk7 (c : Dev nD) (t : Fin cfg0.N) (r : Fin 512) (R : Fin 16384) (hR : R.val = r.val) (k : Fin 1024) :
    (iblk m c 7 t : Vec Ideal S512x1024 .f32) (ix2 r k)
      = (m ((c : Thread nD τ).loc main_arg3) : Vec Ideal S16384x1024 .f32) (ix2 R k) := by
  rw [← V_main_arg3 m c]
  blk_simp [iblk]
  refine congrArg _ ?_
  blk_ext [idx7]

/-- Every point's block of the gate's weights is the whole argument. -/
theorem blk8 (c : Dev nD) (t : Fin cfg0.N) : (iblk m c 8 t : Vec Ideal S8x128x128 .f32) = m ((c : Thread nD τ).loc main_arg4) := by
  rw [← V_main_arg4 m c]
  funext y
  blk_simp [iblk]
  refine congrArg _ ?_
  blk_ext [idx8]

/-- Every point's block of the attention's scales is the whole argument. -/
theorem blk10 (c : Dev nD) (t : Fin cfg0.N) : (iblk m c 10 t : Vec Ideal S1x512 .f32) = m ((c : Thread nD τ).loc main_arg6) := by
  rw [← V_main_arg6 m c]
  funext y
  blk_simp [iblk]
  refine congrArg _ ?_
  blk_ext [idx10]

/-- Every point's block of the gate's scales is the whole argument. -/
theorem blk11 (c : Dev nD) (t : Fin cfg0.N) : (iblk m c 11 t : Vec Ideal S1x512 .f32) = m ((c : Thread nD τ).loc main_arg7) := by
  rw [← V_main_arg7 m c]
  funext y
  blk_simp [iblk]
  refine congrArg _ ?_
  blk_ext [idx11]

/-- Every point's block of the output projection is the whole argument. -/
theorem blk12 (c : Dev nD) (t : Fin cfg0.N) : (iblk m c 12 t : Vec Ideal S1024x1024 .bf16) = m ((c : Thread nD τ).loc main_arg8) := by
  rw [← V_main_arg8 m c]
  funext y
  blk_simp [iblk]
  refine congrArg _ ?_
  blk_ext [idx12]

/-- Every point's block of the first norm's scales is the whole argument. -/
theorem blk13 (c : Dev nD) (t : Fin cfg0.N) : (iblk m c 13 t : Vec Ideal S1x1024 .f32) = m ((c : Thread nD τ).loc main_arg9) := by
  rw [← V_main_arg9 m c]
  funext y
  blk_simp [iblk]
  refine congrArg _ ?_
  blk_ext [idx13]

/-- Every point's block of the first norm's offsets is the whole argument. -/
theorem blk14 (c : Dev nD) (t : Fin cfg0.N) : (iblk m c 14 t : Vec Ideal S1x1024 .f32) = m ((c : Thread nD τ).loc main_arg10) := by
  rw [← V_main_arg10 m c]
  funext y
  blk_simp [iblk]
  refine congrArg _ ?_
  blk_ext [idx14]

/-- Every point's block of the feed-forward gate is the whole argument. -/
theorem blk15 (c : Dev nD) (t : Fin cfg0.N) : (iblk m c 15 t : Vec Ideal S1024x2816 .bf16) = m ((c : Thread nD τ).loc main_arg11) := by
  rw [← V_main_arg11 m c]
  funext y
  blk_simp [iblk]
  refine congrArg _ ?_
  blk_ext [idx15]

/-- Every point's block of the feed-forward input is the whole argument. -/
theorem blk16 (c : Dev nD) (t : Fin cfg0.N) : (iblk m c 16 t : Vec Ideal S1024x2816 .bf16) = m ((c : Thread nD τ).loc main_arg12) := by
  rw [← V_main_arg12 m c]
  funext y
  blk_simp [iblk]
  refine congrArg _ ?_
  blk_ext [idx16]

/-- Every point's block of the feed-forward output is the whole argument. -/
theorem blk17 (c : Dev nD) (t : Fin cfg0.N) : (iblk m c 17 t : Vec Ideal S2816x1024 .bf16) = m ((c : Thread nD τ).loc main_arg13) := by
  rw [← V_main_arg13 m c]
  funext y
  blk_simp [iblk]
  refine congrArg _ ?_
  blk_ext [idx17]

/-- Every point's block of the second norm's scales is the whole argument. -/
theorem blk18 (c : Dev nD) (t : Fin cfg0.N) : (iblk m c 18 t : Vec Ideal S1x1024 .f32) = m ((c : Thread nD τ).loc main_arg14) := by
  rw [← V_main_arg14 m c]
  funext y
  blk_simp [iblk]
  refine congrArg _ ?_
  blk_ext [idx18]

/-- Every point's block of the second norm's offsets is the whole argument. -/
theorem blk19 (c : Dev nD) (t : Fin cfg0.N) : (iblk m c 19 t : Vec Ideal S1x1024 .f32) = m ((c : Thread nD τ).loc main_arg15) := by
  rw [← V_main_arg15 m c]
  funext y
  blk_simp [iblk]
  refine congrArg _ ?_
  blk_ext [idx19]

/-- The gate's bias, spread over the channels of each head. -/
theorem blk9 (c : Dev nD) (t : Fin cfg0.N) (i : Fin 128) (j : Fin 512) :
    (iblk m c 9 t : Vec Ideal S128x512 .f32) (ix2 i j)
      = (m ((c : Thread nD τ).loc main_arg5) : Vec Ideal S8x128 .f32) (ix2 ⟨j.val / 64, by omega⟩ i) := by
  have h : (iblk m c 9 t : Vec Ideal S128x512 .f32) (ix2 i j) = (V m c main_v2 : Vec Ideal S128x512 .f32) (ix2 i j) := by
    blk_simp [iblk]
    refine congrArg _ ?_
    blk_ext [idx9]
  rw [h]
  unfold V
  after_reads_at
end Cert.KernelIdeal.Gen
-- ==== Proof.Rows.lean ====
module

public import proofs.«01_k».proof.Proof.Spec

@[expose] public section

noncomputable section

namespace Cert.Spec

open Idealize.ShloMosaic

/-- An array of real numbers, two axes. -/
abbrev Mat (M N : ℕ) : Type := (⟨2, ![M, N]⟩ : Shape).Idx → EReal

/-- The gated channels of token `R`: channel `j` belongs to head `j / 64`, the token to the block of 128 tokens that mixes. -/
def gateRow (u z : Mat 16384 512) (w : (⟨3, ![8, 128, 128]⟩ : Shape).Idx → EReal) (b : Mat 8 128) (R : Fin 16384) (j : Fin 512) : EReal :=
  gate (u (ix2 R j)) (b (ix2 ⟨j.val / 64, by omega⟩ ⟨R.val % 128, by omega⟩))
    (fun k => z (ix2 ⟨R.val / 128 * 128 + k.val, by omega⟩ j))
    (fun k => w (ix3 ⟨j.val / 64, by omega⟩ ⟨R.val % 128, by omega⟩ k)) ⟨R.val % 128, by omega⟩

/-- Token `R` after the first norm, from the layer's arrays. -/
def x1Row (a u z : Mat 16384 512) (x : Mat 16384 1024) (w : (⟨3, ![8, 128, 128]⟩ : Shape).Idx → EReal) (b : Mat 8 128)
    (ag gg : Mat 1 512) (wo : Mat 1024 1024) (lg lb : Mat 1 1024) (R : Fin 16384) : Fin 1024 → EReal :=
  x1 (fun k => a (ix2 R k)) (gateRow u z w b R) (fun k => ag (ix2 0 k)) (fun k => gg (ix2 0 k)) (fun k => x (ix2 R k))
    (fun l k => wo (ix2 l k)) (fun k => lg (ix2 0 k)) (fun k => lb (ix2 0 k))

/-- Token `R` of the layer's result, from the token after the first norm. -/
def outRow (x1 : Fin 1024 → EReal) (wg wu : Mat 1024 2816) (wd : Mat 2816 1024) (lg lb : Mat 1 1024) : Fin 1024 → EReal :=
  out x1 (fun l k => wg (ix2 l k)) (fun l k => wu (ix2 l k)) (fun l k => wd (ix2 l k)) (fun k => lg (ix2 0 k)) (fun k => lb (ix2 0 k))

/-- The layer's result, from its arrays. -/
def layer (a u z : Mat 16384 512) (x : Mat 16384 1024) (w : (⟨3, ![8, 128, 128]⟩ : Shape).Idx → EReal) (b : Mat 8 128)
    (ag gg : Mat 1 512) (wo : Mat 1024 1024) (lg lb : Mat 1 1024) (wg wu : Mat 1024 2816) (wd : Mat 2816 1024) (mg mb : Mat 1 1024) :
    Mat 16384 1024 :=
  fun i => outRow (x1Row a u z x w b ag gg wo lg lb (i 0)) wg wu wd mg mb (i 1)

/-- Equal arrays give the same result. -/
theorem layer_congr {a a' u u' z z' : Mat 16384 512} {x x' : Mat 16384 1024} {w w' : (⟨3, ![8, 128, 128]⟩ : Shape).Idx → EReal}
    {b b' : Mat 8 128} {ag ag' gg gg' : Mat 1 512} {wo wo' : Mat 1024 1024} {lg lg' lb lb' : Mat 1 1024}
    {wg wg' wu wu' : Mat 1024 2816} {wd wd' : Mat 2816 1024} {mg mg' mb mb' : Mat 1 1024}
    (h0 : a = a') (h1 : u = u') (h2 : z = z') (h3 : x = x') (h4 : w = w') (h5 : b = b') (h6 : ag = ag') (h7 : gg = gg')
    (h8 : wo = wo') (h9 : lg = lg') (h10 : lb = lb') (h11 : wg = wg') (h12 : wu = wu') (h13 : wd = wd') (h14 : mg = mg') (h15 : mb = mb') :
    layer a u z x w b ag gg wo lg lb wg wu wd mg mb = layer a' u' z' x' w' b' ag' gg' wo' lg' lb' wg' wu' wd' mg' mb' := by
  subst h0 h1 h2 h3 h4 h5 h6 h7 h8 h9 h10 h11 h12 h13 h14 h15
  rfl

end Cert.Spec
-- ==== Proof.Track.lean ====
module

public import proofs.«01_k».proof.Proof.Blocks
public import proofs.«01_k».proof.Proof.Rows

@[expose] public section

set_option maxRecDepth 16384

noncomputable section

namespace Cert.KernelIdeal.Gen

open Idealize.ShloMosaic Idealize.ShloMosaic.TcCoe

/-- A tile's rows after the first norm are the tokens' of the whole arrays: a tile holds four whole blocks of 128 tokens. -/
theorem x1T_rows (x0 x1 x2 : Vec Ideal S512x512 .bf16) (x3 : Vec Ideal S512x1024 .f32) (w : Vec Ideal S8x128x128 .f32)
    (x9 : Vec Ideal S128x512 .f32) (ag gg : Vec Ideal S1x512 .f32) (wo : Vec Ideal S1024x1024 .bf16) (lg lb : Vec Ideal S1x1024 .f32)
    (a u z : Vec Ideal S16384x512 .bf16) (x : Vec Ideal S16384x1024 .f32) (b : Vec Ideal S8x128 .f32) (o : ℕ) (ho : o % 512 = 0)
    (h0 : ∀ (r : Fin 512) (R : Fin 16384), R.val = o + r.val → ∀ k, x0 (ix2 r k) = a (ix2 R k))
    (h1 : ∀ (r : Fin 512) (R : Fin 16384), R.val = o + r.val → ∀ k, x1 (ix2 r k) = u (ix2 R k))
    (h2 : ∀ (r : Fin 512) (R : Fin 16384), R.val = o + r.val → ∀ k, x2 (ix2 r k) = z (ix2 R k))
    (h3 : ∀ (r : Fin 512) (R : Fin 16384), R.val = o + r.val → ∀ k, x3 (ix2 r k) = x (ix2 R k))
    (h9 : ∀ (i : Fin 128) (j : Fin 512), x9 (ix2 i j) = b (ix2 ⟨j.val / 64, by omega⟩ i))
    (r : Fin 512) (R : Fin 16384) (hR : R.val = o + r.val) :
    x1T x0 x1 x2 x3 w x9 ag gg wo lg lb r = Spec.x1Row a u z x w b ag gg wo lg lb R := by
  unfold x1T Spec.x1Row
  have hg : gateT x1 x2 w x9 r = Spec.gateRow u z w b R := by
    funext j
    unfold gateT Spec.gateRow
    have e : (⟨r.val % 128, by omega⟩ : Fin 128) = ⟨R.val % 128, by omega⟩ := Fin.ext (by simp only; omega)
    rw [h1 r R hR, h9, e]
    refine congrArg (fun q => Spec.gate _ _ q _ _) (funext fun k => ?_)
    exact h2 _ _ (by simp only; omega) j
  rw [hg, show row x0 r = fun k => a (ix2 R k) from funext (h0 r R hR), show row x3 r = fun k => x (ix2 R k) from funext (h3 r R hR)]

variable (m : (ℓ : Loc nD τ sig) → Buf (Elt Ideal) ℓ)

/-- Token `R` after the first norm, from the launch's arguments on core `c`. -/
def X1 (c : Dev nD) (R : Fin 16384) : Fin 1024 → EReal :=
  Spec.x1Row (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) R

/-- Token `R` of the result, from the launch's arguments on core `c`. -/
def OUT (c : Dev nD) (R : Fin 16384) : Fin 1024 → EReal :=
  Spec.outRow (X1 m c R) (m ((c : Thread nD τ).loc main_arg11)) (m ((c : Thread nD τ).loc main_arg12))
    (m ((c : Thread nD τ).loc main_arg13)) (m ((c : Thread nD τ).loc main_arg14)) (m ((c : Thread nD τ).loc main_arg15))

/-- The rows that a point stores for the tile ahead. -/
theorem x1T_ahead (c : Dev nD) (t : Fin cfg0.N) (r : Fin 512) (R : Fin 16384) (hR : R.val = 512 * ahead t + r.val) :
    x1T (iblk m c 0 t) (iblk m c 1 t) (iblk m c 2 t) (iblk m c 3 t) (iblk m c 8 t) (iblk m c 9 t) (iblk m c 10 t) (iblk m c 11 t)
      (iblk m c 12 t) (iblk m c 13 t) (iblk m c 14 t) r = X1 m c R := by
  rw [blk8, blk10, blk11, blk12, blk13, blk14]
  exact x1T_rows _ _ _ _ _ _ _ _ _ _ _ _ _ _ _ _ (512 * ahead t) (by omega) (blk0 m c t) (blk1 m c t) (blk2 m c t) (blk3 m c t)
    (blk9 m c t) r R hR

/-- The rows that the first point computes for the first tile. -/
theorem x1T_first (c : Dev nD) (t : Fin cfg0.N) (r : Fin 512) (R : Fin 16384) (hR : R.val = r.val) :
    x1T (iblk m c 4 t) (iblk m c 5 t) (iblk m c 6 t) (iblk m c 7 t) (iblk m c 8 t) (iblk m c 9 t) (iblk m c 10 t) (iblk m c 11 t)
      (iblk m c 12 t) (iblk m c 13 t) (iblk m c 14 t) r = X1 m c R := by
  rw [blk8, blk10, blk11, blk12, blk13, blk14]
  exact x1T_rows _ _ _ _ _ _ _ _ _ _ _ _ _ _ _ _ 0 rfl (fun r R h => blk4 m c t r R (by omega)) (fun r R h => blk5 m c t r R (by omega))
    (fun r R h => blk6 m c t r R (by omega)) (fun r R h => blk7 m c t r R (by omega)) (blk9 m c t) r R (by omega)

/-- Before point `n`, the first excepted, the tiles' buffer holds tile `n` after the first norm in the half that `n`'s parity names. -/
def Half (c : Dev nD) (n : ℕ) (s : Vec Ideal S2x512x1024 .f32) : Prop :=
  ∀ (r : Fin 512) (R : Fin 16384), 1 ≤ n → R.val = 512 * n + r.val → ∀ k, s (ix3 ⟨n % 2, Nat.mod_lt _ (by omega)⟩ r k) = X1 m c R k

/-- Point `t`'s tile of the result. -/
def tileOut (c : Dev nD) (t : Fin cfg0.N) : Vec Ideal S512x1024 .f32 := fun j =>
  OUT m c ⟨512 * t.val + (j 0).val, by have h : t.val < 32 := t.isLt; have := (show Fin 512 from j 0).isLt; change _ + (show Fin 512 from j 0).val < _; omega⟩ (j 1)

/-- A point's row of the result, from its row after the first norm. -/
theorem out_rows (c : Dev nD) (t : Fin cfg0.N) (v : Fin 1024 → EReal) (R : Fin 16384) (hv : v = X1 m c R) :
    Spec.out v (row (iblk m c 15 t)) (row (iblk m c 16 t)) (row (iblk m c 17 t)) (row (iblk m c 18 t) 0) (row (iblk m c 19 t) 0)
      = OUT m c R := by
  rw [blk15, blk16, blk17, blk18, blk19, hv]
  rfl

/-- The half that a point fills is the next point's. -/
theorem other_eq (t : Fin cfg0.N) : (⟨(t.val + 1) % 2, Nat.mod_lt _ (by omega)⟩ : Fin 2) = other (grid0.coords t) :=
  Fin.ext (by have := coords_val t; simp only [other]; omega)

/-- The two tiles' buffer holds the tile ahead of its point, and each point leaves its tile of the result. -/
def tracked : Tracked m where
  Inv := Half m
  out := tileOut m
  zero := fun c s r R h => absurd h (by omega)
  stepA := fun c t hc s => by
    have h0 : t.val = 0 := (hcond0_0 t).mp hc
    refine ⟨fun f => ?_, fun r R _ hR k => ?_⟩
    · funext j
      idx_vars j
      refine (outA c (grid0.coords t) _ _ _ _ _ _ _ _ _ _ _ _ _ _ _ _ _ _ _ _ _ _ _ _ _ _ _ _ _ _ _ _ _ _ _ _ _ _ _ _ _ _ _ _ _ _ _ _ hc _ _ _ _ _ _ _ _ _ _ _ _ _ _ _ _ _ _ _ _ _ ((coords_val t).trans h0) f _ _).trans ?_
      exact congrFun (out_rows m c t _ _ (x1T_first m c t _ _ (by simp only [h0]; exact Nat.zero_add _))) _
    · rw [other_eq]
      refine (nextA c (grid0.coords t) _ _ _ _ _ _ _ _ _ _ _ _ _ _ _ _ _ _ _ _ _ _ _ _ _ _ _ _ _ _ _ _ _ _ _ _ _ _ _ _ _ _ _ _ _ _ _ _ hc _ _ _ _ _ _ _ _ _ _ _ _ _ _ _ _ _ _ _ _ _ r k).trans ?_
      exact congrFun (x1T_ahead m c t r R (by unfold ahead; omega)) k
  stepB := fun c t hc s hs => by
    have h0 : 1 ≤ t.val := Nat.one_le_iff_ne_zero.2 fun h => hc ((hcond0_0 t).mpr h)
    refine ⟨fun f => ?_, fun r R _ hR k => ?_⟩
    · funext j
      idx_vars j
      refine (outB c (grid0.coords t) _ _ _ _ _ _ _ _ _ _ _ _ _ _ _ _ _ _ _ _ _ _ _ _ _ _ _ _ _ _ _ _ _ _ _ _ _ _ _ _ _ _ _ _ _ _ _ _ hc _ _ _ _ _ _ _ _ _ _ _ _ _ _ _ _ _ _ _ _ _ f _ _).trans ?_
      refine congrFun (out_rows m c t _ _ (funext fun k => ?_)) _
      have e : slot (grid0.coords t) = ⟨t.val % 2, Nat.mod_lt _ (by omega)⟩ := Fin.ext (by simp only [slot, coords_val])
      rw [e]
      exact hs _ _ h0 rfl k
    · rw [other_eq]
      refine (nextB c (grid0.coords t) _ _ _ _ _ _ _ _ _ _ _ _ _ _ _ _ _ _ _ _ _ _ _ _ _ _ _ _ _ _ _ _ _ _ _ _ _ _ _ _ _ _ _ _ _ _ _ _ hc _ _ _ _ _ _ _ _ _ _ _ _ _ _ _ _ _ _ _ _ _ r k).trans ?_
      exact congrFun (x1T_ahead m c t r R (by unfold ahead; omega)) k

/-- The kernel's result, token by token. -/
theorem final (c : Dev nD) : (dats m (tracked m) 0 c).arrAt 20 cfg0.N
    = (fun j => OUT m c (j 0) (j 1) : Vec Ideal S16384x1024 .f32) := by
  refine (dats m (tracked m) 0 c).arrAt_eq_of_covers 20 _ (by decide +kernel) fun t hf y => ?_
  blk_simp
  rw [after0_20]
  idx_vars y
  show tileOut m c t (ix2 _ _) = _
  unfold tileOut
  refine congrArg₂ (fun R k => OUT m c R k) (Fin.ext ?_) (Fin.ext ?_)
  · blk_simp [idx20]
    exact congrArg (· + y0.val) (Nat.mul_comm 512 t.val)
  · blk_simp [idx20]

end Cert.KernelIdeal.Gen
-- ==== Proof.RefValue.lean ====
module

public import proofs.«01_k».proof.Proof.Rows
public import proofs.«01_k».proof.Proof.Gen.ReferenceIdeal.Run
public import Idealize.ShloMosaic.Lib.Pointwise
public import Idealize.ShloMosaic.Lib.IdealHost

@[expose] public section

set_option maxRecDepth 16384

noncomputable section

namespace Cert.ReferenceIdeal.Value

open Cert.ReferenceIdeal Cert.ReferenceIdeal.Gen Idealize.ShloMosaic Idealize.ShloMosaic.TcCoe Idealize.ShloMosaic.StableHlo

/-- The sigmoid's denominator is at least one. -/
theorem denom_ne (x : EReal) : (1 : EReal) + Ideal.exp (-x) ≠ 0 := by
  have h : (0 : EReal) ≤ Ideal.exp (-x) := by
    rcases -x with _ | _ | r
    · exact le_refl _
    · exact le_top
    · exact EReal.coe_nonneg.2 (Real.exp_pos r).le
  exact (lt_of_lt_of_le zero_lt_one (le_add_of_nonneg_right h)).ne'

/-- A number times its sigmoid is the number over the denominator. -/
theorem silu_eq (x : EReal) : x * Ideal.div 1 (1 + Ideal.exp (-x)) = Ideal.div x (1 + Ideal.exp (-x)) :=
  Ideal.mul_one_div (denom_ne x)

variable (V0 : Valuation τ sig (Elt Ideal))

/-- The reference's gated row. -/
theorem v20_at (R : Fin 16384) (j : Fin 512) : (res_main_v20 V0 (ix2 R j) : EReal)
    = Spec.gateRow (V0 (Proc.devRef .tc main_arg1)) (V0 (Proc.devRef .tc main_arg2)) (V0 (Proc.devRef .tc main_arg4))
        (V0 (Proc.devRef .tc main_arg5)) R j := by
  unfold res_main_v20 Spec.gateRow Spec.gate
  pointwise
  have hx : ∀ x : Fin 128, (Scalar.select (IntOp.cmpi .sge (IntOp.addi (BitVec.ofNat 32 (R.val % 128)) 0#32) (BitVec.ofNat 32 x.val))
      (1#1 : BitVec 1) 0#1 = 1#1) ↔ x.val ≤ R.val % 128 :=
    (by decide +kernel : ∀ (r x : Fin 128), (Scalar.select (IntOp.cmpi .sge (IntOp.addi (BitVec.ofNat 32 r.val) 0#32) (BitVec.ofNat 32 x.val))
      (1#1 : BitVec 1) 0#1 = 1#1) ↔ x.val ≤ r.val) ⟨R.val % 128, by omega⟩
  refine congrArg₂ (fun p q : EReal => p * q) rfl (congrArg₂ (fun p q : EReal => p + q) (Finset.sum_congr rfl fun x _ => ?_) rfl)
  exact if_congr (hx x) rfl rfl

/-- The reference's row before the first norm. -/
theorem v49_at (R : Fin 16384) (j : Fin 1024) : (res_main_v49 V0 (ix2 R j) : EReal)
    = Spec.mixed (Spec.rms (fun k => V0 (Proc.devRef .tc main_arg0) (ix2 R k)) (fun k => V0 (Proc.devRef .tc main_arg6) (ix2 0 k)))
        (Spec.rms (fun k => res_main_v20 V0 (ix2 R k)) (fun k => V0 (Proc.devRef .tc main_arg7) (ix2 0 k)))
        (fun k => V0 (Proc.devRef .tc main_arg3) (ix2 R k)) (fun l k => V0 (Proc.devRef .tc main_arg8) (ix2 l k)) j := by
  unfold res_main_v49 res_main_v0 Spec.mixed Spec.rms
  pointwise

/-- The reference's row after the first norm. -/
theorem v71_at (R : Fin 16384) (j : Fin 1024) : (res_main_v71 V0 (ix2 R j) : EReal)
    = Spec.ln (fun k => res_main_v49 V0 (ix2 R k)) (fun k => V0 (Proc.devRef .tc main_arg9) (ix2 0 k))
        (fun k => V0 (Proc.devRef .tc main_arg10) (ix2 0 k)) j := by
  unfold res_main_v71 res_main_v55 res_main_v53 Spec.ln Spec.mean
  pointwise

/-- The reference's row before the second norm. -/
theorem v79_at (R : Fin 16384) (j : Fin 1024) : (res_main_v79 V0 (ix2 R j) : EReal)
    = Spec.alpha * res_main_v71 V0 (ix2 R j) + Spec.ffn (fun k => res_main_v71 V0 (ix2 R k))
        (fun l k => V0 (Proc.devRef .tc main_arg11) (ix2 l k)) (fun l k => V0 (Proc.devRef .tc main_arg12) (ix2 l k))
        (fun l k => V0 (Proc.devRef .tc main_arg13) (ix2 l k)) j := by
  unfold res_main_v79 res_main_v74 Spec.ffn Spec.hidden
  pointwise
  simp only [silu_eq]

/-- The reference's rows after the first norm are the specification's. -/
theorem v71_row (R : Fin 16384) : (fun k => (res_main_v71 V0 (ix2 R k) : EReal))
    = Spec.x1Row (V0 (Proc.devRef .tc main_arg0)) (V0 (Proc.devRef .tc main_arg1)) (V0 (Proc.devRef .tc main_arg2))
        (V0 (Proc.devRef .tc main_arg3)) (V0 (Proc.devRef .tc main_arg4)) (V0 (Proc.devRef .tc main_arg5))
        (V0 (Proc.devRef .tc main_arg6)) (V0 (Proc.devRef .tc main_arg7)) (V0 (Proc.devRef .tc main_arg8))
        (V0 (Proc.devRef .tc main_arg9)) (V0 (Proc.devRef .tc main_arg10)) R := by
  funext k
  refine (v71_at V0 R k).trans ?_
  unfold Spec.x1Row Spec.x1
  rw [show (fun k => (res_main_v49 V0 (ix2 R k) : EReal)) = _ from funext (v49_at V0 R),
    show (fun k => (res_main_v20 V0 (ix2 R k) : EReal)) = _ from funext (v20_at V0 R)]

/-- The reference's second norm. -/
theorem norm_at (R : Fin 16384) (j : Fin 1024) : ((addf (mulf (mulf (subf (res_main_v79 V0) (broadcastInDim S16384x1024 ![0, 1] bcast_S16384x1_S16384x1024_0_1 (res_main_v83 V0))) (broadcastInDim S16384x1024 ![0, 1] bcast_S16384x1_S16384x1024_0_1 (Host.rsqrt (addf (Host.divf (broadcastInDim S16384x1 ![0] bcast_S16384_S16384x1_0 (Host.reduceAdd (mulf (res_main_v85 V0) (res_main_v85 V0)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (V0 (Proc.devRef .tc main_arg14)))) (broadcastInDim S16384x1024 ![0, 1] bcast_S1x1024_S16384x1024_0_1 (V0 (Proc.devRef .tc main_arg15))) : FVec Ideal S16384x1024 .f32) (ix2 R j) : EReal)
    = Spec.ln (fun k => res_main_v79 V0 (ix2 R k)) (fun k => V0 (Proc.devRef .tc main_arg14) (ix2 0 k))
        (fun k => V0 (Proc.devRef .tc main_arg15) (ix2 0 k)) j := by
  unfold res_main_v85 res_main_v83 Spec.ln Spec.mean
  pointwise

/-- The reference's result, token by token. -/
theorem result_eq :
    (addf (mulf (mulf (subf (res_main_v79 V0) (broadcastInDim S16384x1024 ![0, 1] bcast_S16384x1_S16384x1024_0_1 (res_main_v83 V0))) (broadcastInDim S16384x1024 ![0, 1] bcast_S16384x1_S16384x1024_0_1 (Host.rsqrt (addf (Host.divf (broadcastInDim S16384x1 ![0] bcast_S16384_S16384x1_0 (Host.reduceAdd (mulf (res_main_v85 V0) (res_main_v85 V0)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (V0 (Proc.devRef .tc main_arg14)))) (broadcastInDim S16384x1024 ![0, 1] bcast_S1x1024_S16384x1024_0_1 (V0 (Proc.devRef .tc main_arg15))) : FVec Ideal S16384x1024 .f32)
      = fun i => Spec.outRow (Spec.x1Row (V0 (Proc.devRef .tc main_arg0)) (V0 (Proc.devRef .tc main_arg1)) (V0 (Proc.devRef .tc main_arg2))
        (V0 (Proc.devRef .tc main_arg3)) (V0 (Proc.devRef .tc main_arg4)) (V0 (Proc.devRef .tc main_arg5))
        (V0 (Proc.devRef .tc main_arg6)) (V0 (Proc.devRef .tc main_arg7)) (V0 (Proc.devRef .tc main_arg8))
        (V0 (Proc.devRef .tc main_arg9)) (V0 (Proc.devRef .tc main_arg10)) (i 0)) (V0 (Proc.devRef .tc main_arg11))
        (V0 (Proc.devRef .tc main_arg12)) (V0 (Proc.devRef .tc main_arg13)) (V0 (Proc.devRef .tc main_arg14))
        (V0 (Proc.devRef .tc main_arg15)) (i 1) := by
  funext i
  idx_vars i
  refine (norm_at V0 _ _).trans ?_
  rw [show (fun k => (res_main_v79 V0 (ix2 i0 k) : EReal)) = _ from funext (v79_at V0 i0)]
  show _ = Spec.outRow (Spec.x1Row _ _ _ _ _ _ _ _ _ _ _ i0) _ _ _ _ _ i1
  rw [← v71_row V0 i0]
  rfl

end Cert.ReferenceIdeal.Value
-- ==== Proof.ProjTile.lean ====
module

public import proofs.«01_k».proof.Proof.Gen.Kernel2Ideal.Skeleton
public import Idealize.ShloMosaic.Lib.Pipeline.ValueKit
public import Idealize.ShloMosaic.Lib.Pointwise

@[expose] public section

set_option maxRecDepth 16384

noncomputable section

namespace Cert.Kernel2Ideal.Gen

open Idealize.ShloMosaic Idealize.ShloMosaic.TcCoe

/-- The product of 128 tokens with 512 columns of the weights. -/
def hT (x : FVec Ideal S128x1024 .f32) (w : FVec Ideal S1024x512 .bf16) : FVec Ideal S128x512 .f32 :=
  matmul dot_S128x1024_S1024x512_S128x512_1_0_0_1_n_n none (truncf .bf16 x bitsLt_bf16_f32) w (constant S128x512 .f32 0x00000000#32)

/-- An element of the product is a sum over the features. -/
theorem hT_at (x : FVec Ideal S128x1024 .f32) (w : FVec Ideal S1024x512 .bf16) (r : Fin 128) (j : Fin 512) :
    (hT x w (ix2 r j) : EReal) = ∑ k : Fin 1024, (x (ix2 r k) : EReal) * w (ix2 k j) := by
  unfold hT
  pointwise

/-- The kernel's gelu, by the error function. -/
def gelu (x : EReal) : EReal :=
  Ideal.ofBits .f32 0x3F000000#32 * x * (1 + Ideal.erf (x * Ideal.ofBits .f32 0x3F3504F3#32))

/-- The gelu of a tile. -/
def geluT (h : FVec Ideal S128x512 .f32) : FVec Ideal S128x512 .f32 :=
  mulf (mulf (broadcast S128x512 (Scalar.ofBits .f32 0x3F000000#32)) h)
    (addf (broadcast S128x512 (Scalar.ofBits .f32 0x3F800000#32)) (erf (mulf h (broadcast S128x512 (Scalar.ofBits .f32 0x3F3504F3#32)))))

/-- A tile's gelu is taken element by element. -/
theorem geluT_at (h : FVec Ideal S128x512 .f32) (r : Fin 128) (j : Fin 512) : (geluT h (ix2 r j) : EReal) = gelu (h (ix2 r j)) := by
  unfold geluT gelu
  pointwise
  rfl

/-- The lane whose value the rotation brings to a lane: the other half of the same head. -/
def partner (l : Fin 128) : Fin 128 := if l.val % 64 < 32 then ⟨(l.val + 32) % 128, by omega⟩ else ⟨(l.val + 96) % 128, by omega⟩

/-- The lanes in the first half of a head. -/
theorem pay6_at : ∀ l : Fin 128, k0_pay6 (ix2 0 l) = if l.val % 64 < 32 then 1#1 else 0#1 := by decide +kernel

/-- The lanes of the first of two heads. -/
theorem pay5_at : ∀ l : Fin 128, k0_pay5 (ix2 0 l) = if l.val < 64 then 1#1 else 0#1 := by decide +kernel

/-- The rotation of one group of 128 columns, two heads. -/
def ropeT (t c s : FVec Ideal S128x128 .f32) : FVec Ideal S128x128 .f32 :=
  addf (mulf t c) (mulf (select (broadcastTo S128x128 (shapeCast S1x128 k0_pay6 shapeCasts_S1x128_S1x128) broadcasts_S1x128_S128x128)
    (dynamicRotate 1 96#32 none t rotates_S128x128_d1) (dynamicRotate 1 32#32 none t rotates_S128x128_d1)) s)

/-- A rotated element: the lane with the cosine, its partner with the signed sine. -/
theorem ropeT_at (t c s : FVec Ideal S128x128 .f32) (r : Fin 128) (l : Fin 128) : (ropeT t c s (ix2 r l) : EReal)
    = (t (ix2 r l) : EReal) * c (ix2 r l) + (t (ix2 r (partner l)) : EReal) * s (ix2 r l) := by
  unfold ropeT
  pointwise
  rw [pay6_at]
  unfold partner
  refine congrArg (fun q : EReal => (t (ix2 r l) : EReal) * c (ix2 r l) + q * s (ix2 r l)) ?_
  split
  · refine Eq.trans (b := t (ix2 r ⟨(l.val + 128 - 96) % 128, by omega⟩)) rfl (congrArg (fun q => t (ix2 r q)) (Fin.ext (by simp only; omega)))
  · refine Eq.trans (b := t (ix2 r ⟨(l.val + 128 - 32) % 128, by omega⟩)) rfl (congrArg (fun q => t (ix2 r q)) (Fin.ext (by simp only; omega)))

/-- The cosines of 128 tokens: two rows of the coarse table with the whole fine table. -/
def cosT (c0 s0 c1 s1 : FVec Ideal S1x1x128 .f32) (cb sb : FVec Ideal S1x64x128 .f32) : FVec Ideal S128x128 .f32 :=
  concatenate S128x128 0
    [⟨S64x128, subf (mulf (broadcastTo S64x128 (shapeCast S1x128 c0 shapeCasts_S1x1x128_S1x128) broadcasts_S1x128_S64x128) (shapeCast S64x128 cb shapeCasts_S1x64x128_S64x128))
        (mulf (broadcastTo S64x128 (shapeCast S1x128 s0 shapeCasts_S1x1x128_S1x128) broadcasts_S1x128_S64x128) (shapeCast S64x128 sb shapeCasts_S1x64x128_S64x128))⟩,
     ⟨S64x128, subf (mulf (broadcastTo S64x128 (shapeCast S1x128 c1 shapeCasts_S1x1x128_S1x128) broadcasts_S1x128_S64x128) (shapeCast S64x128 cb shapeCasts_S1x64x128_S64x128))
        (mulf (broadcastTo S64x128 (shapeCast S1x128 s1 shapeCasts_S1x1x128_S1x128) broadcasts_S1x128_S64x128) (shapeCast S64x128 sb shapeCasts_S1x64x128_S64x128))⟩]
    concatenates_S64x128_S64x128_S128x128_d0

/-- An element of the cosines: the coarse row of the token with the fine row. -/
theorem cosT_at (c0 s0 c1 s1 : FVec Ideal S1x1x128 .f32) (cb sb : FVec Ideal S1x64x128 .f32) (r l : Fin 128) :
    (cosT c0 s0 c1 s1 cb sb (ix2 r l) : EReal)
      = ((if r.val < 64 then c0 (ix3 0 0 l) else c1 (ix3 0 0 l)) : EReal) * cb (ix3 0 ⟨r.val % 64, by omega⟩ l)
        - ((if r.val < 64 then s0 (ix3 0 0 l) else s1 (ix3 0 0 l)) : EReal) * sb (ix3 0 ⟨r.val % 64, by omega⟩ l) := by
  unfold cosT
  pointwise
  have e : ∀ h : ¬ r.val < 64, (⟨r.val - 64, by omega⟩ : Fin 64) = ⟨r.val % 64, by omega⟩ := fun h => Fin.ext (by simp only; omega)
  by_cases h : r.val < 64
  · have e' : (⟨r.val, h⟩ : Fin 64) = ⟨r.val % 64, by omega⟩ := Fin.ext (by simp only; omega)
    simp only [h, e', ↓reduceDIte, ↓reduceIte]
  · simp only [h, e h, ↓reduceDIte, ↓reduceIte]

/-- The signed sines of 128 tokens. -/
def sinT (c0 s0 c1 s1 : FVec Ideal S1x1x128 .f32) (cb sb : FVec Ideal S1x64x128 .f32) : FVec Ideal S128x128 .f32 :=
  concatenate S128x128 0
    [⟨S64x128, addf (mulf (broadcastTo S64x128 (shapeCast S1x128 s0 shapeCasts_S1x1x128_S1x128) broadcasts_S1x128_S64x128) (shapeCast S64x128 cb shapeCasts_S1x64x128_S64x128))
        (mulf (broadcastTo S64x128 (shapeCast S1x128 c0 shapeCasts_S1x1x128_S1x128) broadcasts_S1x128_S64x128) (shapeCast S64x128 sb shapeCasts_S1x64x128_S64x128))⟩,
     ⟨S64x128, addf (mulf (broadcastTo S64x128 (shapeCast S1x128 s1 shapeCasts_S1x1x128_S1x128) broadcasts_S1x128_S64x128) (shapeCast S64x128 cb shapeCasts_S1x64x128_S64x128))
        (mulf (broadcastTo S64x128 (shapeCast S1x128 c1 shapeCasts_S1x1x128_S1x128) broadcasts_S1x128_S64x128) (shapeCast S64x128 sb shapeCasts_S1x64x128_S64x128))⟩]
    concatenates_S64x128_S64x128_S128x128_d0

/-- An element of the signed sines. -/
theorem sinT_at (c0 s0 c1 s1 : FVec Ideal S1x1x128 .f32) (cb sb : FVec Ideal S1x64x128 .f32) (r l : Fin 128) :
    (sinT c0 s0 c1 s1 cb sb (ix2 r l) : EReal)
      = ((if r.val < 64 then s0 (ix3 0 0 l) else s1 (ix3 0 0 l)) : EReal) * cb (ix3 0 ⟨r.val % 64, by omega⟩ l)
        + ((if r.val < 64 then c0 (ix3 0 0 l) else c1 (ix3 0 0 l)) : EReal) * sb (ix3 0 ⟨r.val % 64, by omega⟩ l) := by
  unfold sinT
  pointwise
  have e : ∀ h : ¬ r.val < 64, (⟨r.val - 64, by omega⟩ : Fin 64) = ⟨r.val % 64, by omega⟩ := fun h => Fin.ext (by simp only; omega)
  by_cases h : r.val < 64
  · have e' : (⟨r.val, h⟩ : Fin 64) = ⟨r.val % 64, by omega⟩ := Fin.ext (by simp only; omega)
    simp only [h, e', ↓reduceDIte, ↓reduceIte]
  · simp only [h, e h, ↓reduceDIte, ↓reduceIte]

/-- The sum over the lane's own head. -/
def headSum (zs : FVec Ideal S128x128 .f32) : FVec Ideal S128x128 .f32 :=
  select (broadcastTo S128x128 (shapeCast S1x128 k0_pay5 shapeCasts_S1x128_S1x128) broadcasts_S1x128_S128x128)
    (broadcastTo S128x128 (shapeCast S128x1 (shapeCast S128x1 (multiReduction .add [1] S128 (select (broadcastTo S128x128 (shapeCast S1x128 k0_pay5 shapeCasts_S1x128_S1x128) broadcasts_S1x128_S128x128) zs (broadcast S128x128 (Scalar.ofBits .f32 0x00000000#32))) 0x00000000#32 reduces_S128x128_S128 (.inl rfl) rfl) shapeCasts_S128_S128x1) shapeCasts_S128x1_S128x1) broadcasts_S128x1_S128x128)
    (broadcastTo S128x128 (shapeCast S128x1 (shapeCast S128x1 (multiReduction .add [1] S128 (select (broadcastTo S128x128 (shapeCast S1x128 k0_pay5 shapeCasts_S1x128_S1x128) broadcasts_S1x128_S128x128) (broadcast S128x128 (Scalar.ofBits .f32 0x00000000#32)) zs) 0x00000000#32 reduces_S128x128_S128 (.inl rfl) rfl) shapeCasts_S128_S128x1) shapeCasts_S128x1_S128x1) broadcasts_S128x1_S128x128)

/-- A sum over 128 lanes that drops the second head's. -/
theorem sum_lo (f : Fin 128 → EReal) : (∑ x : Fin 128, if x.val < 64 then f x else 0) = ∑ k : Fin 64, f ⟨k.val, by omega⟩ := by
  refine (Fin.sum_univ_add (a := 64) (b := 64) fun x : Fin 128 => if x.val < 64 then f x else 0).trans ?_
  refine (congrArg₂ (· + ·) (Finset.sum_congr rfl fun k _ => if_pos k.isLt) (Finset.sum_eq_zero fun k _ => if_neg ?_)).trans (add_zero _)
  show ¬ 64 + k.val < 64
  omega

/-- A sum over 128 lanes that drops the first head's. -/
theorem sum_hi (f : Fin 128 → EReal) : (∑ x : Fin 128, if x.val < 64 then 0 else f x) = ∑ k : Fin 64, f ⟨64 + k.val, by omega⟩ := by
  refine (Fin.sum_univ_add (a := 64) (b := 64) fun x : Fin 128 => if x.val < 64 then 0 else f x).trans ?_
  refine (congrArg₂ (· + ·) (Finset.sum_eq_zero fun k _ => if_pos k.isLt) (Finset.sum_congr rfl fun k _ => if_neg ?_)).trans (zero_add _)
  show ¬ 64 + k.val < 64
  omega

/-- A choice by a lane's head. -/
theorem sel_lane {α : Type} (l : Fin 128) (a b : α) : Scalar.select (k0_pay5 (ix2 0 l)) a b = if l.val < 64 then a else b := by
  rw [pay5_at]
  split
  · rfl
  · rfl

/-- The masked sums give each lane the sum over its own head. -/
theorem headSum_at (zs : FVec Ideal S128x128 .f32) (r l : Fin 128) :
    (headSum zs (ix2 r l) : EReal) = ∑ k : Fin 64, (zs (ix2 r ⟨l.val / 64 * 64 + k.val, by omega⟩) : EReal) := by
  unfold headSum
  pointwise
  simp only [sel_lane]
  refine (if_congr Iff.rfl (sum_lo fun x => zs (ix2 r x)) (sum_hi fun x => zs (ix2 r x))).trans ?_
  split
  · exact Finset.sum_congr rfl fun k _ => congrArg (fun q => zs (ix2 r q)) (Fin.ext (by simp only; omega))
  · exact Finset.sum_congr rfl fun k _ => congrArg (fun q => zs (ix2 r q)) (Fin.ext (by simp only; omega))

/-- The norm of one group of 128 columns, two heads. -/
def gnT (zs : FVec Ideal S128x128 .f32) (g b : FVec Ideal S1x128 .f32) : FVec Ideal S128x128 .f32 :=
  addf (mulf (mulf (subf zs (mulf (headSum zs) (broadcast S128x128 (Scalar.ofBits .f32 0x3C800000#32))))
    (rsqrt (addf (mulf (headSum (mulf (subf zs (mulf (headSum zs) (broadcast S128x128 (Scalar.ofBits .f32 0x3C800000#32))))
        (subf zs (mulf (headSum zs) (broadcast S128x128 (Scalar.ofBits .f32 0x3C800000#32))))))
      (broadcast S128x128 (Scalar.ofBits .f32 0x3C800000#32))) (broadcast S128x128 (Scalar.ofBits .f32 0x3727C5AC#32)))))
    (broadcastTo S128x128 g broadcasts_S1x128_S128x128)) (broadcastTo S128x128 b broadcasts_S1x128_S128x128)

/-- One lane of the kernel's norm over a head of 64 channels. -/
def gn (z : Fin 64 → EReal) (x g b : EReal) : EReal :=
  (x - (∑ k, z k) * Ideal.ofBits .f32 0x3C800000#32) *
    Ideal.rsqrt ((∑ i, (z i - (∑ k, z k) * Ideal.ofBits .f32 0x3C800000#32) * (z i - (∑ k, z k) * Ideal.ofBits .f32 0x3C800000#32))
      * Ideal.ofBits .f32 0x3C800000#32 + Ideal.ofBits .f32 0x3727C5AC#32) * g + b

/-- An element of the norm. -/
theorem gnT_at (zs : FVec Ideal S128x128 .f32) (g b : FVec Ideal S1x128 .f32) (r l : Fin 128) : (gnT zs g b (ix2 r l) : EReal)
    = gn (fun k => zs (ix2 r ⟨l.val / 64 * 64 + k.val, by omega⟩)) (zs (ix2 r l)) (g (ix2 0 l)) (b (ix2 0 l)) := by
  unfold gnT gn
  pointwise
  rw [headSum_at, headSum_at]
  pointwise
  have e : ∀ i : Fin 64, (headSum zs (ix2 r ⟨l.val / 64 * 64 + i.val, by omega⟩) : EReal)
      = ∑ k : Fin 64, (zs (ix2 r ⟨l.val / 64 * 64 + k.val, by omega⟩) : EReal) := fun i => by
    rw [headSum_at]
    exact Finset.sum_congr rfl fun k _ => congrArg (fun q => zs (ix2 r q)) (Fin.ext (by simp only; omega))
  simp only [e]

/-- The lanes of one row. -/
abbrev lanes : IVec S1x128 32 := iota .tc S1x128 32 [1] iota_S1x128_d1_w32

/-- The keys of one head: its own lanes hold the rotated key, of the others the token's block holds a one. -/
def keysT (lo hi base v1 loc : BitVec 32) (kb : FVec Ideal S128x128 .bf16) : FVec Ideal S128x128 .bf16 :=
  select (broadcastTo S128x128 (shapeCast S1x128 (andi (cmpi .sge lanes (broadcast S1x128 lo)) (cmpi .slt lanes (broadcast S1x128 hi))) shapeCasts_S1x128_S1x128) broadcasts_S1x128_S128x128)
    kb
    (broadcastTo S128x128 (shapeCast S1x128 (truncf .bf16 (select (cmpi .eq lanes (broadcast S1x128 (Scalar.addi (Scalar.addi base v1) loc)))
      (broadcast S1x128 (Scalar.ofBits .f32 0x3F800000#32)) (broadcast S1x128 (Scalar.ofBits (F := Ideal) .f32 0x00000000#32))) bitsLt_bf16_f32) shapeCasts_S1x128_S1x128) broadcasts_S1x128_S128x128)

/-- The lanes of a head. -/
theorem mask_at : ∀ (hd : Fin 2) (l : Fin 128), IntOp.andi (IntOp.cmpi .sge (BitVec.ofNat 32 l.val) (BitVec.ofNat 32 (64 * hd.val)))
    (IntOp.cmpi .slt (BitVec.ofNat 32 l.val) (BitVec.ofNat 32 (64 * hd.val + 64))) = if l.val / 64 = hd.val then 1#1 else 0#1 := by
  decide +kernel

/-- The lane of a block. -/
theorem hot_at (a b n l : ℕ) (h : a + b + n < 2 ^ 32) (hl : l < 2 ^ 32) :
    IntOp.cmpi .eq (BitVec.ofNat 32 l) (Scalar.addi (Scalar.addi (BitVec.ofNat 32 a) (BitVec.ofNat 32 b)) (BitVec.ofNat 32 n))
      = if l = a + b + n then 1#1 else 0#1 := by
  have e : Scalar.addi (Scalar.addi (BitVec.ofNat 32 a) (BitVec.ofNat 32 b)) (BitVec.ofNat 32 n) = BitVec.ofNat 32 (a + b + n) := by
    show BitVec.ofNat 32 a + BitVec.ofNat 32 b + BitVec.ofNat 32 n = _
    rw [BitVec.ofNat_add, BitVec.ofNat_add]
  rw [e]
  show BitVec.ofBool (BitVec.ofNat 32 l == BitVec.ofNat 32 (a + b + n)) = _
  by_cases hh : l = a + b + n
  · rw [if_pos hh, hh]; simp
  · rw [if_neg hh]
    have : BitVec.ofNat 32 l ≠ BitVec.ofNat 32 (a + b + n) := fun q => hh (by
      have := congrArg BitVec.toNat q
      rwa [BitVec.toNat_ofNat, BitVec.toNat_ofNat, Nat.mod_eq_of_lt hl, Nat.mod_eq_of_lt h] at this)
    rw [beq_false_of_ne this]
    rfl

/-- An element of a head's keys. -/
theorem keysT_at (hd n fb : ℕ) (hhd : hd < 2) (hn : n < 4) (hfb : fb < 16) (kb : FVec Ideal S128x128 .bf16) (r l : Fin 128) :
    (keysT (BitVec.ofNat 32 (64 * hd)) (BitVec.ofNat 32 (64 * hd + 64)) (BitVec.ofNat 32 (64 * (1 - hd))) (BitVec.ofNat 32 fb) (BitVec.ofNat 32 n) kb (ix2 r l) : EReal)
      = if l.val / 64 = hd then kb (ix2 r l) else if l.val = 64 * (1 - hd) + fb + n then 1 else 0 := by
  unfold keysT
  pointwise
  rw [mask_at ⟨hd, hhd⟩, hot_at _ _ _ _ (by omega) (by omega)]
  split
  · rfl
  · refine Eq.trans (b := (Scalar.select (if l.val = 64 * (1 - hd) + fb + n then 1#1 else 0#1) 1 0 : EReal)) rfl ?_
    split <;> rfl

/-- Half a block's share of the mean. -/
def partT (k : FVec Ideal S128x128 .f32) : FVec Ideal S1x128 .f32 :=
  mulf (shapeCast S1x128 (multiReduction .add [0] S128 k 0x00000000#32 reduces_S128x128_S128_2 (.inl rfl) rfl) shapeCasts_S128_S1x128)
    (broadcast S1x128 (Scalar.ofBits .f32 0x3B800000#32))

/-- The mean of a block's keys, repeated over eight rows. -/
def meanT (k0 k1 : FVec Ideal S128x128 .f32) : FVec Ideal S1x8x128 .f32 :=
  shapeCast S1x8x128 (broadcastTo S8x128 (shapeCast S1x128 (addf (partT k0) (partT k1)) shapeCasts_S1x128_S1x128) broadcasts_S1x128_S8x128) shapeCasts_S8x128_S1x8x128

/-- The mean in two halves, read at an index. -/
theorem meanT_at (k0 k1 : FVec Ideal S128x128 .f32) (z : Fin 1) (e : Fin 8) (l : Fin 128) :
    (meanT k0 k1 (ix3 z e l) : EReal) = (∑ r : Fin 128, (k0 (ix2 r l) : EReal)) * Ideal.ofBits .f32 0x3B800000#32
      + (∑ r : Fin 128, (k1 (ix2 r l) : EReal)) * Ideal.ofBits .f32 0x3B800000#32 := by
  unfold meanT partT
  pointwise

end Cert.Kernel2Ideal.Gen
-- ==== Proof.ProjPiece.lean ====
module

public import proofs.«01_k».proof.Proof.ProjTile
public import Idealize.ShloMosaic.Lib.Pipeline.ReadBack

@[expose] public section

set_option maxRecDepth 16384

noncomputable section

namespace Cert.Kernel2Ideal.Gen

open Idealize.ShloMosaic Idealize.ShloMosaic.TcCoe

/-- An element of a loaded block of a matrix. -/
theorem rd2 {M N m n : ℕ} {t : EltTy} (v : View sig .tc .vmem ⟨2, ![M, N]⟩ t) (f : v.ty.Contents (Elt Ideal)) (X : Vec Ideal ⟨2, ![M, N]⟩ t)
    (hX : View.read (Elt Ideal) v f = X) (o p : ℕ) (inb) (r : Fin m) (j : Fin n) (R : Fin M) (C : Fin N) (hR : R.val = o + r.val) (hC : C.val = p + j.val) :
    View.readAt (Elt Ideal) v (Rect.unit (s := ⟨2, ![M, N]⟩) ![o, p] ![m, n] inb).toLoadRect f (ix2 r j) = X (ix2 R C) := by
  rw [View.readAt_eq_ld, hX]
  refine congrArg X (funext fun a => Fin.ext ?_)
  fin_cases a
  · show o + 1 * r.val = R.val
    omega
  · show p + 1 * j.val = C.val
    omega

/-- An element of a loaded block of an array of three axes. -/
theorem rd3 {L M N l m n : ℕ} {t : EltTy} (v : View sig .tc .vmem ⟨3, ![L, M, N]⟩ t) (f : v.ty.Contents (Elt Ideal)) (X : Vec Ideal ⟨3, ![L, M, N]⟩ t)
    (hX : View.read (Elt Ideal) v f = X) (q o p : ℕ) (inb) (i : Fin l) (r : Fin m) (j : Fin n) (I : Fin L) (R : Fin M) (C : Fin N)
    (hI : I.val = q + i.val) (hR : R.val = o + r.val) (hC : C.val = p + j.val) :
    View.readAt (Elt Ideal) v (Rect.unit (s := ⟨3, ![L, M, N]⟩) ![q, o, p] ![l, m, n] inb).toLoadRect f (ix3 i r j) = X (ix3 I R C) := by
  rw [View.readAt_eq_ld, hX]
  refine congrArg X (funext fun a => Fin.ext ?_)
  fin_cases a
  · show q + 1 * i.val = I.val
    omega
  · show o + 1 * r.val = R.val
    omega
  · show p + 1 * j.val = C.val
    omega

/-- One projected feature of a token. -/
def hE (x0 : Vec Ideal S1024x1024 .f32) (wb : Vec Ideal S1024x2560 .bf16) (R : Fin 1024) (c : Fin 2560) : EReal :=
  ∑ k : Fin 1024, (x0 (ix2 R k) : EReal) * wb (ix2 k c)

/-- The cosines of a tile's tokens. -/
def cosE (x2 : Vec Ideal S2x16x128 .f32) (x3 : Vec Ideal S4x64x128 .f32) (R : Fin 1024) (l : Fin 128) : EReal :=
  (x2 (ix3 0 ⟨R.val / 64, by omega⟩ l) : EReal) * x3 (ix3 0 ⟨R.val % 64, by omega⟩ l)
    - (x2 (ix3 1 ⟨R.val / 64, by omega⟩ l) : EReal) * x3 (ix3 1 ⟨R.val % 64, by omega⟩ l)

/-- The signed sines of a tile's tokens. -/
def sinE (x2 : Vec Ideal S2x16x128 .f32) (x3 : Vec Ideal S4x64x128 .f32) (R : Fin 1024) (l : Fin 128) : EReal :=
  (x2 (ix3 1 ⟨R.val / 64, by omega⟩ l) : EReal) * x3 (ix3 2 ⟨R.val % 64, by omega⟩ l)
    + (x2 (ix3 0 ⟨R.val / 64, by omega⟩ l) : EReal) * x3 (ix3 3 ⟨R.val % 64, by omega⟩ l)

/-- The rotation of a token's lane. -/
def ropeE (x2 : Vec Ideal S2x16x128 .f32) (x3 : Vec Ideal S4x64x128 .f32) (R : Fin 1024) (f : Fin 128 → EReal) (l : Fin 128) : EReal :=
  f l * cosE x2 x3 R l + f (partner l) * sinE x2 x3 R l

/-- The queries of a tile. -/
def qE (x0 : Vec Ideal S1024x1024 .f32) (wb : Vec Ideal S1024x2560 .bf16) (x2 : Vec Ideal S2x16x128 .f32) (x3 : Vec Ideal S4x64x128 .f32)
    (R : Fin 1024) (j : Fin 512) : EReal :=
  ropeE x2 x3 R (fun l => hE x0 wb R ⟨j.val / 128 * 128 + l.val, by omega⟩ * Ideal.ofBits .f32 0x3E000000#32) ⟨j.val % 128, by omega⟩

/-- The rotated keys of a tile. -/
def kE (x0 : Vec Ideal S1024x1024 .f32) (wb : Vec Ideal S1024x2560 .bf16) (x2 : Vec Ideal S2x16x128 .f32) (x3 : Vec Ideal S4x64x128 .f32)
    (R : Fin 1024) (j : Fin 512) : EReal :=
  ropeE x2 x3 R (fun l => hE x0 wb R ⟨512 + (j.val / 128 * 128 + l.val), by omega⟩) ⟨j.val % 128, by omega⟩

/-- The keys with the one of the token's block; `fb` is the tile's first block. -/
def kaE (x0 : Vec Ideal S1024x1024 .f32) (wb : Vec Ideal S1024x2560 .bf16) (x2 : Vec Ideal S2x16x128 .f32) (x3 : Vec Ideal S4x64x128 .f32)
    (fb : ℕ) (R : Fin 1024) (j : Fin 1024) : EReal :=
  if j.val % 128 / 64 = j.val / 128 % 2 then kE x0 wb x2 x3 R ⟨j.val / 256 * 128 + j.val % 128, by omega⟩
  else if j.val % 128 = 64 * (1 - j.val / 128 % 2) + fb + R.val / 256 then 1 else 0

/-- The means of the tile's blocks of 256 keys, in two halves. -/
def meanE (x0 : Vec Ideal S1024x1024 .f32) (wb : Vec Ideal S1024x2560 .bf16) (x2 : Vec Ideal S2x16x128 .f32) (x3 : Vec Ideal S4x64x128 .f32)
    (b : Fin 4) (j : Fin 512) : EReal :=
  (∑ r : Fin 128, kE x0 wb x2 x3 ⟨b.val * 256 + r.val, by omega⟩ j) * Ideal.ofBits .f32 0x3B800000#32
    + (∑ r : Fin 128, kE x0 wb x2 x3 ⟨b.val * 256 + 128 + r.val, by omega⟩ j) * Ideal.ofBits .f32 0x3B800000#32

/-- The values of a tile. -/
def vE (x0 : Vec Ideal S1024x1024 .f32) (wb : Vec Ideal S1024x2560 .bf16) (R : Fin 1024) (j : Fin 512) : EReal :=
  hE x0 wb R ⟨1024 + j.val, by omega⟩

/-- The gate's factor of a tile. -/
def uE (x0 : Vec Ideal S1024x1024 .f32) (wb : Vec Ideal S1024x2560 .bf16) (R : Fin 1024) (j : Fin 512) : EReal :=
  gelu (hE x0 wb R ⟨1536 + j.val, by omega⟩)

/-- The gate's normalised input of a tile. -/
def zE (x0 : Vec Ideal S1024x1024 .f32) (wb : Vec Ideal S1024x2560 .bf16) (x4 x5 : Vec Ideal S1x512 .f32) (R : Fin 1024) (j : Fin 512) : EReal :=
  gn (fun k => gelu (hE x0 wb R ⟨2048 + (j.val / 64 * 64 + k.val), by omega⟩)) (gelu (hE x0 wb R ⟨2048 + j.val, by omega⟩)) (x4 (ix2 0 j)) (x5 (ix2 0 j))

section
variable {v1 : View sig .tc .vmem S1024x1024 .f32} {f1 : v1.ty.Contents (Elt Ideal)} {x0 : Vec Ideal S1024x1024 .f32} (h1 : View.read (Elt Ideal) v1 f1 = x0)
variable {vw : View sig .tc .vmem S1024x2560 .bf16} {fw : vw.ty.Contents (Elt Ideal)} {wb : Vec Ideal S1024x2560 .bf16} (hw : View.read (Elt Ideal) vw fw = wb)
variable {v3 : View sig .tc .vmem S2x16x128 .f32} {f3 : v3.ty.Contents (Elt Ideal)} {x2 : Vec Ideal S2x16x128 .f32} (h3 : View.read (Elt Ideal) v3 f3 = x2)
variable {v4 : View sig .tc .vmem S4x64x128 .f32} {f4 : v4.ty.Contents (Elt Ideal)} {x3 : Vec Ideal S4x64x128 .f32} (h4 : View.read (Elt Ideal) v4 f4 = x3)
variable {v5 : View sig .tc .vmem S1x512 .f32} {f5 : v5.ty.Contents (Elt Ideal)} {x4 : Vec Ideal S1x512 .f32} (h5 : View.read (Elt Ideal) v5 f5 = x4)
variable {v6 : View sig .tc .vmem S1x512 .f32} {f6 : v6.ty.Contents (Elt Ideal)} {x5 : Vec Ideal S1x512 .f32} (h6 : View.read (Elt Ideal) v6 f6 = x5)

/-- The product of a subtile's rows, from `o` on, with a segment of the weights, from column `q` on. -/
abbrev hL (v1 : View sig .tc .vmem S1024x1024 .f32) (f1 : v1.ty.Contents (Elt Ideal)) (vw : View sig .tc .vmem S1024x2560 .bf16) (fw : vw.ty.Contents (Elt Ideal))
    (o q : ℕ) (i1 : ∀ a, (![o, 0] : Fin 2 → ℕ) a + S128x1024.size a ≤ S1024x1024.size a) (iw : ∀ a, (![0, q] : Fin 2 → ℕ) a + S1024x512.size a ≤ S1024x2560.size a) : FVec Ideal S128x512 .f32 :=
  hT (View.readAt (Elt Ideal) v1 (Rect.unit (s := S1024x1024) ![o, 0] S128x1024.size i1).toLoadRect f1)
    (View.readAt (Elt Ideal) vw (Rect.unit (s := S1024x2560) ![0, q] S1024x512.size iw).toLoadRect fw)

include h1 hw in
/-- A group of 128 rows' projection, read at an index, is the tile's. -/
theorem hL_at (o q : ℕ) (i1 iw) (r : Fin 128) (j : Fin 512) (R : Fin 1024) (C : Fin 2560) (hR : R.val = o + r.val) (hC : C.val = q + j.val) :
    (hL v1 f1 vw fw o q i1 iw (ix2 r j) : EReal) = hE x0 wb R C := by
  unfold hL hE
  rw [hT_at]
  refine Finset.sum_congr rfl fun k _ => congrArg₂ (fun p q : EReal => p * q) ?_ ?_
  · exact rd2 v1 f1 x0 h1 o 0 i1 r k R k hR (by omega)
  · exact rd2 vw fw wb hw 0 q iw k j k C (by omega) hC

/-- A row of the coarse table lies in it. -/
abbrev InHi (e a : ℕ) : Prop := ∀ d, (![e, a, 0] : Fin 3 → ℕ) d + S1x1x128.size d ≤ S2x16x128.size d

/-- A table of the fine ones lies in them. -/
abbrev InLo (e : ℕ) : Prop := ∀ d, (![e, 0, 0] : Fin 3 → ℕ) d + S1x64x128.size d ≤ S4x64x128.size d

/-- The cosines of a subtile, from row `a` of the coarse table on. -/
abbrev cosL (v3 : View sig .tc .vmem S2x16x128 .f32) (f3 : v3.ty.Contents (Elt Ideal)) (v4 : View sig .tc .vmem S4x64x128 .f32) (f4 : v4.ty.Contents (Elt Ideal)) (a b : ℕ)
    (i0 : InHi 0 a) (i1 : InHi 1 a) (i2 : InHi 0 b) (i3 : InHi 1 b) (j0 : InLo 0) (j1 : InLo 1) : FVec Ideal S128x128 .f32 :=
  cosT (View.readAt (Elt Ideal) v3 (Rect.unit (s := S2x16x128) ![0, a, 0] S1x1x128.size i0).toLoadRect f3)
    (View.readAt (Elt Ideal) v3 (Rect.unit (s := S2x16x128) ![1, a, 0] S1x1x128.size i1).toLoadRect f3)
    (View.readAt (Elt Ideal) v3 (Rect.unit (s := S2x16x128) ![0, b, 0] S1x1x128.size i2).toLoadRect f3)
    (View.readAt (Elt Ideal) v3 (Rect.unit (s := S2x16x128) ![1, b, 0] S1x1x128.size i3).toLoadRect f3)
    (View.readAt (Elt Ideal) v4 (Rect.unit (s := S4x64x128) ![0, 0, 0] S1x64x128.size j0).toLoadRect f4)
    (View.readAt (Elt Ideal) v4 (Rect.unit (s := S4x64x128) ![1, 0, 0] S1x64x128.size j1).toLoadRect f4)

/-- The signed sines of a subtile. -/
abbrev sinL (v3 : View sig .tc .vmem S2x16x128 .f32) (f3 : v3.ty.Contents (Elt Ideal)) (v4 : View sig .tc .vmem S4x64x128 .f32) (f4 : v4.ty.Contents (Elt Ideal)) (a b : ℕ)
    (i0 : InHi 0 a) (i1 : InHi 1 a) (i2 : InHi 0 b) (i3 : InHi 1 b) (j2 : InLo 2) (j3 : InLo 3) : FVec Ideal S128x128 .f32 :=
  sinT (View.readAt (Elt Ideal) v3 (Rect.unit (s := S2x16x128) ![0, a, 0] S1x1x128.size i0).toLoadRect f3)
    (View.readAt (Elt Ideal) v3 (Rect.unit (s := S2x16x128) ![1, a, 0] S1x1x128.size i1).toLoadRect f3)
    (View.readAt (Elt Ideal) v3 (Rect.unit (s := S2x16x128) ![0, b, 0] S1x1x128.size i2).toLoadRect f3)
    (View.readAt (Elt Ideal) v3 (Rect.unit (s := S2x16x128) ![1, b, 0] S1x1x128.size i3).toLoadRect f3)
    (View.readAt (Elt Ideal) v4 (Rect.unit (s := S4x64x128) ![2, 0, 0] S1x64x128.size j2).toLoadRect f4)
    (View.readAt (Elt Ideal) v4 (Rect.unit (s := S4x64x128) ![3, 0, 0] S1x64x128.size j3).toLoadRect f4)

include h3 in
/-- The coarse table's row of a token: the multiple of 64 positions. -/
theorem coarse (e a b : ℕ) (he : e < 2) (hb : b = a + 1) (ha : a + 1 < 16) (i0 i2) (r l : Fin 128) (R : Fin 1024) (hR : R.val = 64 * a + r.val) :
    (if r.val < 64 then View.readAt (Elt Ideal) v3 (Rect.unit (s := S2x16x128) ![e, a, 0] S1x1x128.size i0).toLoadRect f3 (ix3 0 0 l)
      else View.readAt (Elt Ideal) v3 (Rect.unit (s := S2x16x128) ![e, b, 0] S1x1x128.size i2).toLoadRect f3 (ix3 0 0 l))
      = x2 (ix3 ⟨e, he⟩ ⟨R.val / 64, by omega⟩ l) := by
  split
  · exact rd3 v3 f3 x2 h3 e a 0 i0 0 0 l ⟨e, he⟩ ⟨R.val / 64, by omega⟩ l rfl (by show R.val / 64 = a + 0; omega) (by omega)
  · exact rd3 v3 f3 x2 h3 e b 0 i2 0 0 l ⟨e, he⟩ ⟨R.val / 64, by omega⟩ l rfl (by show R.val / 64 = b + 0; omega) (by omega)

include h4 in
/-- The fine table's row of a token: the position within 64. -/
theorem fine (e a : ℕ) (he : e < 4) (i0) (r l : Fin 128) (R : Fin 1024) (hR : R.val = 64 * a + r.val) :
    View.readAt (Elt Ideal) v4 (Rect.unit (s := S4x64x128) ![e, 0, 0] S1x64x128.size i0).toLoadRect f4 (ix3 0 ⟨r.val % 64, by omega⟩ l)
      = x3 (ix3 ⟨e, he⟩ ⟨R.val % 64, by omega⟩ l) :=
  rd3 v4 f4 x3 h4 e 0 0 i0 0 ⟨r.val % 64, by omega⟩ l ⟨e, he⟩ ⟨R.val % 64, by omega⟩ l rfl (by show R.val % 64 = 0 + r.val % 64; omega) (by omega)

include h3 h4 in
/-- A group's cosines are the tile's. -/
theorem cosL_at (a b : ℕ) (hb : b = a + 1) (ha : a + 1 < 16) (i0 i1 i2 i3 j0 j1) (r l : Fin 128) (R : Fin 1024) (hR : R.val = 64 * a + r.val) :
    (cosL v3 f3 v4 f4 a b i0 i1 i2 i3 j0 j1 (ix2 r l) : EReal) = cosE x2 x3 R l := by
  unfold cosL cosE
  rw [cosT_at, coarse h3 0 a b (by omega) hb ha i0 i2 r l R hR, coarse h3 1 a b (by omega) hb ha i1 i3 r l R hR,
    fine h4 0 a (by omega) j0 r l R hR, fine h4 1 a (by omega) j1 r l R hR]
  rfl

include h3 h4 in
/-- A group's signed sines are the tile's. -/
theorem sinL_at (a b : ℕ) (hb : b = a + 1) (ha : a + 1 < 16) (i0 i1 i2 i3 j2 j3) (r l : Fin 128) (R : Fin 1024) (hR : R.val = 64 * a + r.val) :
    (sinL v3 f3 v4 f4 a b i0 i1 i2 i3 j2 j3 (ix2 r l) : EReal) = sinE x2 x3 R l := by
  unfold sinL sinE
  rw [sinT_at, coarse h3 0 a b (by omega) hb ha i0 i2 r l R hR, coarse h3 1 a b (by omega) hb ha i1 i3 r l R hR,
    fine h4 2 a (by omega) j2 r l R hR, fine h4 3 a (by omega) j3 r l R hR]
  rfl

include h1 hw in
/-- A store of the values. -/
theorem v_piece (o : ℕ) (i1 iw io) (z : (Rect.unit (s := S1024x512) ![o, 0] S128x512.size io).shape.Idx) :
    (truncf .bf16 (hL v1 f1 vw fw o 1024 i1 iw) bitsLt_bf16_f32 : FVec Ideal S128x512 .bf16) z
      = (fun y : S1024x512.Idx => (vE x0 wb (y 0) (y 1) : Elt Ideal .bf16)) ((Rect.unit (s := S1024x512) ![o, 0] S128x512.size io).emb z) := by
  obtain ⟨r, j, rfl⟩ : ∃ (r : Fin 128) (j : Fin 512), z = ix2 r j := ⟨z 0, z 1, by funext a; fin_cases a <;> rfl⟩
  refine (hL_at h1 hw o 1024 i1 iw r j _ _ ?_ ?_)
  · show o + 1 * r.val = o + r.val
    omega
  · show 1024 + (0 + 1 * j.val) = 1024 + j.val
    omega

include h1 hw in
/-- A store of the gate's factor. -/
theorem u_piece (o : ℕ) (i1 iw io) (z : (Rect.unit (s := S1024x512) ![o, 0] S128x512.size io).shape.Idx) :
    (truncf .bf16 (geluT (hL v1 f1 vw fw o 1536 i1 iw)) bitsLt_bf16_f32 : FVec Ideal S128x512 .bf16) z
      = (fun y : S1024x512.Idx => (uE x0 wb (y 0) (y 1) : Elt Ideal .bf16)) ((Rect.unit (s := S1024x512) ![o, 0] S128x512.size io).emb z) := by
  obtain ⟨r, j, rfl⟩ : ∃ (r : Fin 128) (j : Fin 512), z = ix2 r j := ⟨z 0, z 1, by funext a; fin_cases a <;> rfl⟩
  refine (geluT_at _ r j).trans (congrArg gelu (hL_at h1 hw o 1536 i1 iw r j _ _ ?_ ?_))
  · show o + 1 * r.val = o + r.val
    omega
  · show 1536 + (0 + 1 * j.val) = 1536 + j.val
    omega

/-- A group of 128 columns. -/
abbrev cols (p : ℕ) (h : FVec Ideal S128x512 .f32) (hs : S128x512.Slices ![0, p] S128x128) : FVec Ideal S128x128 .f32 :=
  extractStridedSlice S128x128 ![0, p] h hs

/-- A slice of 128 columns, read at an index. -/
theorem cols_at (p : ℕ) (h : FVec Ideal S128x512 .f32) (hs) (r l : Fin 128) (C : Fin 512) (hC : C.val = p + l.val) : cols p h hs (ix2 r l) = h (ix2 r C) := by
  unfold cols
  refine congrArg h (funext fun a => Fin.ext ?_)
  fin_cases a
  · show 0 + r.val = r.val
    omega
  · show p + l.val = C.val
    omega

include h1 hw h5 h6 in
/-- A store of the gate's normalised input. -/
theorem z_piece (o p : ℕ) (hp : p % 128 = 0) (i1 iw hs ig ib io) (z : (Rect.unit (s := S1024x512) ![o, p] S128x128.size io).shape.Idx) :
    (truncf .bf16 (gnT (cols p (geluT (hL v1 f1 vw fw o 2048 i1 iw)) hs)
      (View.readAt (Elt Ideal) v5 (Rect.unit (s := S1x512) ![0, p] S1x128.size ig).toLoadRect f5)
      (View.readAt (Elt Ideal) v6 (Rect.unit (s := S1x512) ![0, p] S1x128.size ib).toLoadRect f6)) bitsLt_bf16_f32 : FVec Ideal S128x128 .bf16) z
      = (fun y : S1024x512.Idx => (zE x0 wb x4 x5 (y 0) (y 1) : Elt Ideal .bf16)) ((Rect.unit (s := S1024x512) ![o, p] S128x128.size io).emb z) := by
  obtain ⟨r, l, rfl⟩ : ∃ (r : Fin 128) (l : Fin 128), z = ix2 r l := ⟨z 0, z 1, by funext a; fin_cases a <;> rfl⟩
  have hb : p + 128 ≤ 512 := io 1
  have hr : o + 128 ≤ 1024 := io 0
  have e : ∀ (l : Fin 128) (C : Fin 512) (hC : C.val = p + l.val), (cols p (geluT (hL v1 f1 vw fw o 2048 i1 iw)) hs (ix2 r l) : EReal)
      = gelu (hE x0 wb ⟨o + r.val, by omega⟩ ⟨2048 + C.val, by omega⟩) := fun l C hC => by
    rw [cols_at p _ hs r l C hC]
    exact (geluT_at _ r C).trans (congrArg gelu (hL_at h1 hw o 2048 i1 iw r C _ _ rfl rfl))
  refine Eq.trans (gnT_at _ _ _ r l) ?_
  rw [e l ⟨p + l.val, by omega⟩ rfl, rd2 v5 f5 x4 h5 0 p ig 0 l 0 ⟨p + l.val, by omega⟩ rfl rfl, rd2 v6 f6 x5 h6 0 p ib 0 l 0 ⟨p + l.val, by omega⟩ rfl rfl]
  refine Eq.trans (b := (zE x0 wb x4 x5 ⟨o + r.val, by omega⟩ ⟨p + l.val, by omega⟩ : EReal)) ?_ ?_
  · unfold zE
    refine congrArg (fun q => gn q _ _ _) (funext fun k => ?_)
    exact e ⟨l.val / 64 * 64 + k.val, by omega⟩ ⟨(p + l.val) / 64 * 64 + k.val, by omega⟩ (by simp only; omega)
  · refine congrArg₂ (fun a b => (zE x0 wb x4 x5 a b : EReal)) (Fin.ext ?_) (Fin.ext ?_)
    · show o + r.val = o + 1 * r.val
      omega
    · show p + l.val = p + 1 * l.val
      omega

include h1 hw h3 h4 in
/-- A store of the queries. -/
theorem q_piece (o p a b : ℕ) (hp : p % 128 = 0) (ho : o = 64 * a) (hb : b = a + 1) (ha : a + 1 < 16) (i1 iw hs i2 i3 i4 i5 j0 j1 j2 j3 io)
    (z : (Rect.unit (s := S1024x512) ![o, p] S128x128.size io).shape.Idx) :
    (truncf .bf16 (ropeT (mulf (cols p (hL v1 f1 vw fw o 0 i1 iw) hs) (broadcast S128x128 (Scalar.ofBits .f32 0x3E000000#32)))
      (cosL v3 f3 v4 f4 a b i2 i3 i4 i5 j0 j1) (sinL v3 f3 v4 f4 a b i2 i3 i4 i5 j2 j3)) bitsLt_bf16_f32 : FVec Ideal S128x128 .bf16) z
      = (fun y : S1024x512.Idx => (qE x0 wb x2 x3 (y 0) (y 1) : Elt Ideal .bf16)) ((Rect.unit (s := S1024x512) ![o, p] S128x128.size io).emb z) := by
  obtain ⟨r, l, rfl⟩ : ∃ (r : Fin 128) (l : Fin 128), z = ix2 r l := ⟨z 0, z 1, by funext a; fin_cases a <;> rfl⟩
  have hc : p + 128 ≤ 512 := io 1
  have hr : o + 128 ≤ 1024 := io 0
  have e : ∀ (m : Fin 128) (C : Fin 2560), C.val = (p + l.val) / 128 * 128 + m.val →
      (mulf (cols p (hL v1 f1 vw fw o 0 i1 iw) hs) (broadcast S128x128 (Scalar.ofBits .f32 0x3E000000#32)) (ix2 r m) : EReal)
      = hE x0 wb ⟨o + r.val, by omega⟩ C * Ideal.ofBits .f32 0x3E000000#32 := fun m C hC =>
    congrArg (fun q : EReal => q * Ideal.ofBits .f32 0x3E000000#32)
      ((cols_at p _ hs r m ⟨p + m.val, by omega⟩ rfl).trans (hL_at h1 hw o 0 i1 iw r ⟨p + m.val, by omega⟩ ⟨o + r.val, by omega⟩ C rfl (by simp only; omega)))
  refine Eq.trans (ropeT_at _ _ _ r l) ?_
  rw [cosL_at h3 h4 a b hb ha i2 i3 i4 i5 j0 j1 r l ⟨o + r.val, by omega⟩ (by simp only; omega),
    sinL_at h3 h4 a b hb ha i2 i3 i4 i5 j2 j3 r l ⟨o + r.val, by omega⟩ (by simp only; omega),
    e l ⟨(p + l.val) / 128 * 128 + l.val, by omega⟩ rfl, e (partner l) ⟨(p + l.val) / 128 * 128 + (partner l).val, by omega⟩ rfl]
  refine Eq.trans (b := (qE x0 wb x2 x3 ⟨o + r.val, by omega⟩ ⟨p + l.val, by omega⟩ : EReal)) ?_ ?_
  · unfold qE ropeE
    have el : (p + l.val) % 128 = l.val := by omega
    simp only [el]
  · refine congrArg₂ (fun a b => (qE x0 wb x2 x3 a b : EReal)) (Fin.ext ?_) (Fin.ext ?_)
    · show o + r.val = o + 1 * r.val
      omega
    · show p + l.val = p + 1 * l.val
      omega

/-- The rotated keys of a subtile, a group of 128 columns. -/
abbrev kL (v1 : View sig .tc .vmem S1024x1024 .f32) (f1 : v1.ty.Contents (Elt Ideal)) (vw : View sig .tc .vmem S1024x2560 .bf16) (fw : vw.ty.Contents (Elt Ideal))
    (v3 : View sig .tc .vmem S2x16x128 .f32) (f3 : v3.ty.Contents (Elt Ideal)) (v4 : View sig .tc .vmem S4x64x128 .f32) (f4 : v4.ty.Contents (Elt Ideal))
    (o p a b : ℕ) (i1 : ∀ a, (![o, 0] : Fin 2 → ℕ) a + S128x1024.size a ≤ S1024x1024.size a) (iw : ∀ a, (![0, 512] : Fin 2 → ℕ) a + S1024x512.size a ≤ S1024x2560.size a)
    (hs : S128x512.Slices ![0, p] S128x128) (i2 : InHi 0 a) (i3 : InHi 1 a) (i4 : InHi 0 b) (i5 : InHi 1 b) (j0 : InLo 0) (j1 : InLo 1) (j2 : InLo 2) (j3 : InLo 3) :
    FVec Ideal S128x128 .f32 :=
  ropeT (cols p (hL v1 f1 vw fw o 512 i1 iw) hs) (cosL v3 f3 v4 f4 a b i2 i3 i4 i5 j0 j1) (sinL v3 f3 v4 f4 a b i2 i3 i4 i5 j2 j3)

include h1 hw h3 h4 in
/-- A group's rotated keys are the tile's. -/
theorem kL_at (o p a b : ℕ) (hp : p % 128 = 0) (hc : p + 128 ≤ 512) (hr : o + 128 ≤ 1024) (ho : o = 64 * a) (hb : b = a + 1) (ha : a + 1 < 16)
    (i1 iw hs i2 i3 i4 i5 j0 j1 j2 j3) (r l : Fin 128) (R : Fin 1024) (C : Fin 512) (hR : R.val = o + r.val) (hC : C.val = p + l.val) :
    (kL v1 f1 vw fw v3 f3 v4 f4 o p a b i1 iw hs i2 i3 i4 i5 j0 j1 j2 j3 (ix2 r l) : EReal) = kE x0 wb x2 x3 R C := by
  have e : ∀ (m : Fin 128) (D : Fin 2560), D.val = 512 + (C.val / 128 * 128 + m.val) →
      (cols p (hL v1 f1 vw fw o 512 i1 iw) hs (ix2 r m) : EReal) = hE x0 wb R D := fun m D hD =>
    (cols_at p _ hs r m ⟨p + m.val, by omega⟩ rfl).trans (hL_at h1 hw o 512 i1 iw r ⟨p + m.val, by omega⟩ R D hR (by simp only; omega))
  unfold kL
  refine Eq.trans (ropeT_at _ _ _ r l) ?_
  rw [cosL_at h3 h4 a b hb ha i2 i3 i4 i5 j0 j1 r l R (by omega), sinL_at h3 h4 a b hb ha i2 i3 i4 i5 j2 j3 r l R (by omega),
    e l ⟨512 + (C.val / 128 * 128 + l.val), by omega⟩ rfl, e (partner l) ⟨512 + (C.val / 128 * 128 + (partner l).val), by omega⟩ rfl]
  unfold kE ropeE
  have el : C.val % 128 = l.val := by omega
  simp only [el]

include h1 hw h3 h4 in
/-- A store of the keys with the one of their block. -/
theorem ka_piece (o p p' a b fb : ℕ) (hfb : fb ≤ 12) (lo hi base v1' loc : BitVec 32) (hv : v1' = BitVec.ofNat 32 fb)
    (hlo : lo = BitVec.ofNat 32 (64 * (p / 128 % 2))) (hhi : hi = BitVec.ofNat 32 (64 * (p / 128 % 2) + 64)) (hba : base = BitVec.ofNat 32 (64 * (1 - p / 128 % 2)))
    (hloc : loc = BitVec.ofNat 32 (o / 256)) (hp : p % 128 = 0) (hp' : p' = p / 256 * 128)
    (ho : o = 64 * a) (ho' : o % 128 = 0) (hb : b = a + 1) (ha : a + 1 < 16) (i1 iw hs i2 i3 i4 i5 j0 j1 j2 j3 io)
    (z : (Rect.unit (s := S1024x1024) ![o, p] S128x128.size io).shape.Idx) :
    (keysT lo hi base v1' loc (truncf .bf16 (kL v1 f1 vw fw v3 f3 v4 f4 o p' a b i1 iw hs i2 i3 i4 i5 j0 j1 j2 j3) bitsLt_bf16_f32) : FVec Ideal S128x128 .bf16) z
      = (fun y : S1024x1024.Idx => (kaE x0 wb x2 x3 fb (y 0) (y 1) : Elt Ideal .bf16)) ((Rect.unit (s := S1024x1024) ![o, p] S128x128.size io).emb z) := by
  obtain ⟨r, l, rfl⟩ : ∃ (r : Fin 128) (l : Fin 128), z = ix2 r l := ⟨z 0, z 1, by funext a; fin_cases a <;> rfl⟩
  have hc : p + 128 ≤ 1024 := io 1
  have hr : o + 128 ≤ 1024 := io 0
  subst hv hlo hhi hba hloc
  refine Eq.trans (keysT_at (p / 128 % 2) (o / 256) fb (by omega) (by omega) (by omega) _ r l) ?_
  refine Eq.trans (b := (kaE x0 wb x2 x3 fb ⟨o + r.val, by omega⟩ ⟨p + l.val, by omega⟩ : EReal)) ?_ ?_
  · unfold kaE
    have e1 : (p + l.val) % 128 = l.val := by omega
    have e2 : (p + l.val) / 128 % 2 = p / 128 % 2 := by omega
    have e3 : (o + r.val) / 256 = o / 256 := by omega
    have e4 : (p + l.val) / 256 = p / 256 := by omega
    simp only [e1, e2, e3, e4]
    refine congrArg (fun q : EReal => if l.val / 64 = p / 128 % 2 then q else _) ?_
    exact kL_at h1 hw h3 h4 o p' a b (by omega) (by omega) hr ho hb ha i1 iw hs i2 i3 i4 i5 j0 j1 j2 j3 r l _ _ rfl (by simp only; omega)
  · refine congrArg₂ (fun a b => (kaE x0 wb x2 x3 fb a b : EReal)) (Fin.ext ?_) (Fin.ext ?_)
    · show o + r.val = o + 1 * r.val
      omega
    · show p + l.val = p + 1 * l.val
      omega

include h1 hw h3 h4 in
/-- A store of the keys' means. -/
theorem km_piece (n o p a b o' a' b' : ℕ) (hp : p % 128 = 0) (hn : o = 256 * n) (ho : o = 64 * a) (hb : b = a + 1) (ha : a + 1 < 16)
    (hn' : o' = 256 * n + 128) (ho' : o' = 64 * a') (hb' : b' = a' + 1) (ha' : a' + 1 < 16) (i1 iw hs i2 i3 i4 i5 j0 j1 j2 j3)
    (i1' iw' hs' i2' i3' i4' i5' j0' j1' j2' j3' io) (z : (Rect.unit (s := S4x8x512) ![n, 0, p] S1x8x128.size io).shape.Idx) :
    (meanT (kL v1 f1 vw fw v3 f3 v4 f4 o p a b i1 iw hs i2 i3 i4 i5 j0 j1 j2 j3)
      (kL v1 f1 vw fw v3 f3 v4 f4 o' p a' b' i1' iw' hs' i2' i3' i4' i5' j0' j1' j2' j3') : FVec Ideal S1x8x128 .f32) z
      = (fun y : S4x8x512.Idx => (meanE x0 wb x2 x3 (y 0) (y 2) : Elt Ideal .f32)) ((Rect.unit (s := S4x8x512) ![n, 0, p] S1x8x128.size io).emb z) := by
  obtain ⟨u, e, l, rfl⟩ : ∃ (u : Fin 1) (e : Fin 8) (l : Fin 128), z = ix3 u e l := ⟨z 0, z 1, z 2, by funext a; fin_cases a <;> rfl⟩
  have hc : p + 128 ≤ 512 := io 2
  have hr : n + 1 ≤ 4 := io 0
  refine Eq.trans (meanT_at _ _ u e l) ?_
  refine Eq.trans (b := (meanE x0 wb x2 x3 ⟨n + u.val, by omega⟩ ⟨p + l.val, by omega⟩ : EReal)) ?_ ?_
  · unfold meanE
    refine congrArg₂ (fun q s : EReal => q * _ + s * _) (Finset.sum_congr rfl fun r _ => ?_) (Finset.sum_congr rfl fun r _ => ?_)
    · exact kL_at h1 hw h3 h4 o p a b hp hc (by omega) ho hb ha i1 iw hs i2 i3 i4 i5 j0 j1 j2 j3 r l _ _ (by simp only; omega) rfl
    · exact kL_at h1 hw h3 h4 o' p a' b' hp hc (by omega) ho' hb' ha' i1' iw' hs' i2' i3' i4' i5' j0' j1' j2' j3' r l _ _ (by simp only; omega) rfl
  · refine congrArg₂ (fun a b => (meanE x0 wb x2 x3 a b : EReal)) (Fin.ext ?_) (Fin.ext ?_)
    · show n + u.val = n + 1 * u.val
      omega
    · show p + l.val = p + 1 * l.val
      omega

end

end Cert.Kernel2Ideal.Gen
-- ==== Proof.ProjShare.lean ====
module

public import proofs.«01_k».proof.Proof.ProjPiece
public import proofs.«01_k».proof.Proof.Gen.Kernel2Ideal.Frame
public import Idealize.ShloMosaic.Lib.VecWindow

@[expose] public section

set_option maxRecDepth 16384

noncomputable section

namespace Cert.Kernel2Ideal.Gen

open Idealize.ShloMosaic Idealize.ShloMosaic.TcCoe

/-- The tile's first block, as the kernel computes it. -/
theorem base_eq (i : grid0.Coords) : Scalar.muli (Scalar.remsi (BitVec.ofNat 32 (i 0).val) 4#32) 4#32 = BitVec.ofNat 32 (4 * ((i 0).val % 4)) :=
  (by decide +kernel : ∀ t : Fin 16, Scalar.muli (Scalar.remsi (BitVec.ofNat 32 t.val) 4#32) 4#32 = BitVec.ofNat 32 (4 * (t.val % 4))) (i 0)

/-- A store that is a block of a tensor, before others that are. -/
theorem pieces_cons {S : Shape} {e : EltTy} {G : S.Idx → Elt Ideal e} {r : Rect S} {v : r.shape.Idx → Elt Ideal e} {L : List (View.Piece (Elt Ideal) S e)}
    (h : ∀ z, v z = G (r.emb z)) (hs : View.PiecesOf G L) : View.PiecesOf G (⟨r, v⟩ :: L) := ⟨h, hs⟩

/-- The weights' cast that the first point keeps, read back. -/
theorem hwA (c : Dev nD) (arg2 : Memref sig .tc .vmem S1024x2560 .f32) (harg2 : arg2.IsWhole) (arg21 : Memref sig .tc .vmem S1024x2560 .bf16) (x1 : Vec Ideal S1024x2560 .f32) :
    View.read (Elt Ideal) arg21.view (arg21.view.writes (Elt Ideal) arg21.view.junk (kernelRun0_A.sl.HS0_1 c arg2 harg2 x1)) = k0_pay4 x1 := by
  rw [View.read_writes_junk_eq_canon]
  unfold kernelRun0_A.sl.HS0_1
  rw [View.canon_unit_zero (by decide), View.readAt_full, harg2.read_unread]

/-- A whole operand's cast. -/
theorem cast_piece {M N : ℕ} (v : View sig .tc .vmem ⟨2, ![M, N]⟩ .f32) (f : v.ty.Contents (Elt Ideal)) (X : Vec Ideal ⟨2, ![M, N]⟩ .f32)
    (hX : View.read (Elt Ideal) v f = X) (i0 i1) (z : (Rect.unit (s := ⟨2, ![M, N]⟩) ![0, 0] ![M, N] i1).shape.Idx) :
    (truncf .bf16 (View.readAt (Elt Ideal) v (Rect.unit (s := ⟨2, ![M, N]⟩) ![0, 0] ![M, N] i0).toLoadRect f : FVec Ideal ⟨2, ![M, N]⟩ .f32) bitsLt_bf16_f32 : FVec Ideal ⟨2, ![M, N]⟩ .bf16) z
      = (fun y : (⟨2, ![M, N]⟩ : Shape).Idx => (X y : Elt Ideal .bf16)) ((Rect.unit (s := ⟨2, ![M, N]⟩) ![0, 0] ![M, N] i1).emb z) := by
  obtain ⟨r, l, rfl⟩ : ∃ (r : Fin M) (l : Fin N), z = ix2 r l := ⟨z 0, z 1, by funext a; fin_cases a <;> rfl⟩
  refine (rd2 v f X hX 0 0 i0 r l r l (by omega) (by omega)).trans (congrArg X (funext fun a => Fin.ext ?_))
  fin_cases a
  · show r.val = 0 + 1 * r.val
    omega
  · show l.val = 0 + 1 * l.val
    omega

end Cert.Kernel2Ideal.Gen
-- ==== Proof.ProjOutA.lean ====
module

public import proofs.«01_k».proof.Proof.ProjShare

@[expose] public section

set_option maxRecDepth 16384

noncomputable section

namespace Cert.Kernel2Ideal.Gen

open Idealize.ShloMosaic Idealize.ShloMosaic.TcCoe

section
variable (c : Dev nD) (i : grid0.Coords) (arg1 : Memref sig .tc .vmem S1024x1024 .f32) (harg1 : arg1.IsWhole) (arg2 : Memref sig .tc .vmem S1024x2560 .f32) (harg2 : arg2.IsWhole) (arg3 : Memref sig .tc .vmem S2x16x128 .f32) (harg3 : arg3.IsWhole) (arg4 : Memref sig .tc .vmem S4x64x128 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S64x1024 .f32) (harg7 : arg7.IsWhole) (arg8 : Memref sig .tc .vmem S64x2816 .f32) (harg8 : arg8.IsWhole) (arg9 : Memref sig .tc .vmem S64x2816 .f32) (harg9 : arg9.IsWhole) (arg10 : Memref sig .tc .vmem S176x1024 .f32) (harg10 : arg10.IsWhole) (arg11 : Memref sig .tc .vmem S1024x512 .bf16) (harg11 : arg11.IsWhole) (arg12 : Memref sig .tc .vmem S1024x1024 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S1024x512 .bf16) (harg15 : arg15.IsWhole) (arg16 : Memref sig .tc .vmem S4x8x512 .f32) (harg16 : arg16.IsWhole) (arg17 : Memref sig .tc .vmem S64x1024 .bf16) (harg17 : arg17.IsWhole) (arg18 : Memref sig .tc .vmem S64x2816 .bf16) (harg18 : arg18.IsWhole) (arg19 : Memref sig .tc .vmem S64x2816 .bf16) (harg19 : arg19.IsWhole) (arg20 : Memref sig .tc .vmem S176x1024 .bf16) (harg20 : arg20.IsWhole) (arg21 : Memref sig .tc .vmem S1024x2560 .bf16) (harg21 : arg21.IsWhole) (hc0 : cond0_0 i) (x0 : Vec Ideal S1024x1024 .f32) (x1 : Vec Ideal S1024x2560 .f32) (x2 : Vec Ideal S2x16x128 .f32) (x3 : Vec Ideal S4x64x128 .f32) (x4 : Vec Ideal S1x512 .f32) (x5 : Vec Ideal S1x512 .f32) (x6 : Vec Ideal S64x1024 .f32) (x7 : Vec Ideal S64x2816 .f32) (x8 : Vec Ideal S64x2816 .f32) (x9 : Vec Ideal S176x1024 .f32)

set_option maxHeartbeats 8000000 in
/-- The queries that the first point writes. -/
theorem out10_A : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 = fun y => qE x0 (k0_pay4 x1) x2 x3 (y 0) (y 1) := by
  unfold out0_A_10
  rw [View.read_writes_junk_eq_canon]
  refine (fun (hp : View.PiecesOf (fun y : S1024x512.Idx => (qE x0 (k0_pay4 x1) x2 x3 (y 0) (y 1) : Elt Ideal .bf16)) _) =>
    funext fun y => View.canon_apply_of_pieces _ _ hp.mem y (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 y)) ?_
  unfold kernelRun0_A
  dsimp only
  iterate 32
    refine pieces_cons ?_ ?_
    · exact q_piece (harg1.read_unread x0) (hwA c arg2 harg2 arg21 x1) (harg3.read_unread x2) (harg4.read_unread x3) _ _ _ _ (by decide) (by decide) (by decide) (by decide) _ _ (by decide) _ _ _ _ _ _ _ _ _
  exact trivial

set_option maxHeartbeats 8000000 in
/-- The values that the first point writes. -/
theorem out12_A : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 = fun y => vE x0 (k0_pay4 x1) (y 0) (y 1) := by
  unfold out0_A_12
  rw [View.read_writes_junk_eq_canon]
  refine (fun (hp : View.PiecesOf (fun y : S1024x512.Idx => (vE x0 (k0_pay4 x1) (y 0) (y 1) : Elt Ideal .bf16)) _) =>
    funext fun y => View.canon_apply_of_pieces _ _ hp.mem y (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 y)) ?_
  unfold kernelRun0_A
  dsimp only
  iterate 8
    refine pieces_cons ?_ ?_
    · exact v_piece (harg1.read_unread x0) (hwA c arg2 harg2 arg21 x1) _ _ _ _
  exact trivial

set_option maxHeartbeats 8000000 in
/-- The gate's factor that the first point writes. -/
theorem out13_A : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 = fun y => uE x0 (k0_pay4 x1) (y 0) (y 1) := by
  unfold out0_A_13
  rw [View.read_writes_junk_eq_canon]
  refine (fun (hp : View.PiecesOf (fun y : S1024x512.Idx => (uE x0 (k0_pay4 x1) (y 0) (y 1) : Elt Ideal .bf16)) _) =>
    funext fun y => View.canon_apply_of_pieces _ _ hp.mem y (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 y)) ?_
  unfold kernelRun0_A
  dsimp only
  iterate 8
    refine pieces_cons ?_ ?_
    · exact u_piece (harg1.read_unread x0) (hwA c arg2 harg2 arg21 x1) _ _ _ _
  exact trivial

set_option maxHeartbeats 8000000 in
/-- The gate's input that the first point writes. -/
theorem out14_A : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 = fun y => zE x0 (k0_pay4 x1) x4 x5 (y 0) (y 1) := by
  unfold out0_A_14
  rw [View.read_writes_junk_eq_canon]
  refine (fun (hp : View.PiecesOf (fun y : S1024x512.Idx => (zE x0 (k0_pay4 x1) x4 x5 (y 0) (y 1) : Elt Ideal .bf16)) _) =>
    funext fun y => View.canon_apply_of_pieces _ _ hp.mem y (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 y)) ?_
  unfold kernelRun0_A
  dsimp only
  iterate 32
    refine pieces_cons ?_ ?_
    · exact z_piece (harg1.read_unread x0) (hwA c arg2 harg2 arg21 x1) (harg5.read_unread x4) (harg6.read_unread x5) _ _ (by decide) _ _ (by decide) _ _ _
  exact trivial

set_option maxHeartbeats 8000000 in
/-- The cast of the first operand's rows that the first point writes. -/
theorem out16_A : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 = fun y => x6 y := by
  unfold out0_A_16
  rw [View.read_writes_junk_eq_canon]
  refine (fun (hp : View.PiecesOf (fun y : S64x1024.Idx => (x6 y : Elt Ideal .bf16)) _) =>
    funext fun y => View.canon_apply_of_pieces _ _ hp.mem y (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 y)) ?_
  unfold kernelRun0_A
  dsimp only
  iterate 1
    refine pieces_cons ?_ ?_
    · exact cast_piece _ _ x6 (harg7.read_unread x6) _ _
  exact trivial

set_option maxHeartbeats 8000000 in
/-- The cast of the second operand's rows that the first point writes. -/
theorem out17_A : out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 = fun y => x7 y := by
  unfold out0_A_17
  rw [View.read_writes_junk_eq_canon]
  refine (fun (hp : View.PiecesOf (fun y : S64x2816.Idx => (x7 y : Elt Ideal .bf16)) _) =>
    funext fun y => View.canon_apply_of_pieces _ _ hp.mem y (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 y)) ?_
  unfold kernelRun0_A
  dsimp only
  iterate 1
    refine pieces_cons ?_ ?_
    · exact cast_piece _ _ x7 (harg8.read_unread x7) _ _
  exact trivial

set_option maxHeartbeats 8000000 in
/-- The cast of the third operand's rows that the first point writes. -/
theorem out18_A : out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 = fun y => x8 y := by
  unfold out0_A_18
  rw [View.read_writes_junk_eq_canon]
  refine (fun (hp : View.PiecesOf (fun y : S64x2816.Idx => (x8 y : Elt Ideal .bf16)) _) =>
    funext fun y => View.canon_apply_of_pieces _ _ hp.mem y (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 y)) ?_
  unfold kernelRun0_A
  dsimp only
  iterate 1
    refine pieces_cons ?_ ?_
    · exact cast_piece _ _ x8 (harg9.read_unread x8) _ _
  exact trivial

set_option maxHeartbeats 8000000 in
/-- The cast of the fourth operand's rows that the first point writes. -/
theorem out19_A : out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 = fun y => x9 y := by
  unfold out0_A_19
  rw [View.read_writes_junk_eq_canon]
  refine (fun (hp : View.PiecesOf (fun y : S176x1024.Idx => (x9 y : Elt Ideal .bf16)) _) =>
    funext fun y => View.canon_apply_of_pieces _ _ hp.mem y (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 y)) ?_
  unfold kernelRun0_A
  dsimp only
  iterate 1
    refine pieces_cons ?_ ?_
    · exact cast_piece _ _ x9 (harg10.read_unread x9) _ _
  exact trivial

/-- The cast of the weights that the first point keeps. -/
theorem scr_A : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 = k0_pay4 x1 := by
  unfold sout0_A_0
  rw [View.read_writes_junk_eq_canon]
  unfold kernelRun0_A
  dsimp only
  have h := hwA c arg2 harg2 arg21 x1
  rwa [View.read_writes_junk_eq_canon] at h

end

end Cert.Kernel2Ideal.Gen
-- ==== Proof.ProjKeysA.lean ====
module

public import proofs.«01_k».proof.Proof.ProjShare

@[expose] public section

set_option maxRecDepth 16384

noncomputable section

namespace Cert.Kernel2Ideal.Gen

open Idealize.ShloMosaic Idealize.ShloMosaic.TcCoe

section
variable (c : Dev nD) (i : grid0.Coords) (arg1 : Memref sig .tc .vmem S1024x1024 .f32) (harg1 : arg1.IsWhole) (arg2 : Memref sig .tc .vmem S1024x2560 .f32) (harg2 : arg2.IsWhole) (arg3 : Memref sig .tc .vmem S2x16x128 .f32) (harg3 : arg3.IsWhole) (arg4 : Memref sig .tc .vmem S4x64x128 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S64x1024 .f32) (harg7 : arg7.IsWhole) (arg8 : Memref sig .tc .vmem S64x2816 .f32) (harg8 : arg8.IsWhole) (arg9 : Memref sig .tc .vmem S64x2816 .f32) (harg9 : arg9.IsWhole) (arg10 : Memref sig .tc .vmem S176x1024 .f32) (harg10 : arg10.IsWhole) (arg11 : Memref sig .tc .vmem S1024x512 .bf16) (harg11 : arg11.IsWhole) (arg12 : Memref sig .tc .vmem S1024x1024 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S1024x512 .bf16) (harg15 : arg15.IsWhole) (arg16 : Memref sig .tc .vmem S4x8x512 .f32) (harg16 : arg16.IsWhole) (arg17 : Memref sig .tc .vmem S64x1024 .bf16) (harg17 : arg17.IsWhole) (arg18 : Memref sig .tc .vmem S64x2816 .bf16) (harg18 : arg18.IsWhole) (arg19 : Memref sig .tc .vmem S64x2816 .bf16) (harg19 : arg19.IsWhole) (arg20 : Memref sig .tc .vmem S176x1024 .bf16) (harg20 : arg20.IsWhole) (arg21 : Memref sig .tc .vmem S1024x2560 .bf16) (harg21 : arg21.IsWhole) (hc0 : cond0_0 i) (x0 : Vec Ideal S1024x1024 .f32) (x1 : Vec Ideal S1024x2560 .f32) (x2 : Vec Ideal S2x16x128 .f32) (x3 : Vec Ideal S4x64x128 .f32) (x4 : Vec Ideal S1x512 .f32) (x5 : Vec Ideal S1x512 .f32) (x6 : Vec Ideal S64x1024 .f32) (x7 : Vec Ideal S64x2816 .f32) (x8 : Vec Ideal S64x2816 .f32) (x9 : Vec Ideal S176x1024 .f32)

set_option maxHeartbeats 8000000 in
/-- The keys that the first point writes. -/
theorem out11_A : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 = fun y => kaE x0 (k0_pay4 x1) x2 x3 (4 * ((i 0).val % 4)) (y 0) (y 1) := by
  unfold out0_A_11
  rw [View.read_writes_junk_eq_canon]
  refine (fun (hp : View.PiecesOf (fun y : S1024x1024.Idx => (kaE x0 (k0_pay4 x1) x2 x3 (4 * ((i 0).val % 4)) (y 0) (y 1) : Elt Ideal .bf16)) _) =>
    funext fun y => View.canon_apply_of_pieces _ _ hp.mem y (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 y)) ?_
  unfold kernelRun0_A
  dsimp only
  iterate 64
    refine pieces_cons ?_ ?_
    · exact ka_piece (harg1.read_unread x0) (hwA c arg2 harg2 arg21 x1) (harg3.read_unread x2) (harg4.read_unread x3) _ _ _ _ _ (4 * ((i 0).val % 4)) (by omega) _ _ _ _ _ (base_eq i) rfl rfl rfl rfl (by decide) (by decide) (by decide) (by decide) (by decide) (by decide) _ _ (by decide) _ _ _ _ _ _ _ _ _
  exact trivial

set_option maxHeartbeats 8000000 in
/-- The keys' means that the first point writes. -/
theorem out15_A : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 = fun y => meanE x0 (k0_pay4 x1) x2 x3 (y 0) (y 2) := by
  unfold out0_A_15
  rw [View.read_writes_junk_eq_canon]
  refine (fun (hp : View.PiecesOf (fun y : S4x8x512.Idx => (meanE x0 (k0_pay4 x1) x2 x3 (y 0) (y 2) : Elt Ideal .f32)) _) =>
    funext fun y => View.canon_apply_of_pieces _ _ hp.mem y (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 y)) ?_
  unfold kernelRun0_A
  dsimp only
  iterate 16
    refine pieces_cons ?_ ?_
    · exact km_piece (harg1.read_unread x0) (hwA c arg2 harg2 arg21 x1) (harg3.read_unread x2) (harg4.read_unread x3) _ _ _ _ _ _ _ _ (by decide) (by decide) (by decide) (by decide) (by decide) (by decide) (by decide) (by decide) (by decide) _ _ (by decide) _ _ _ _ _ _ _ _ _ _ (by decide) _ _ _ _ _ _ _ _ _
  exact trivial

end

end Cert.Kernel2Ideal.Gen
-- ==== Proof.ProjOutB.lean ====
module

public import proofs.«01_k».proof.Proof.ProjShare

@[expose] public section

set_option maxRecDepth 16384

noncomputable section

namespace Cert.Kernel2Ideal.Gen

open Idealize.ShloMosaic Idealize.ShloMosaic.TcCoe

section
variable (c : Dev nD) (i : grid0.Coords) (arg1 : Memref sig .tc .vmem S1024x1024 .f32) (harg1 : arg1.IsWhole) (arg2 : Memref sig .tc .vmem S1024x2560 .f32) (harg2 : arg2.IsWhole) (arg3 : Memref sig .tc .vmem S2x16x128 .f32) (harg3 : arg3.IsWhole) (arg4 : Memref sig .tc .vmem S4x64x128 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S64x1024 .f32) (harg7 : arg7.IsWhole) (arg8 : Memref sig .tc .vmem S64x2816 .f32) (harg8 : arg8.IsWhole) (arg9 : Memref sig .tc .vmem S64x2816 .f32) (harg9 : arg9.IsWhole) (arg10 : Memref sig .tc .vmem S176x1024 .f32) (harg10 : arg10.IsWhole) (arg11 : Memref sig .tc .vmem S1024x512 .bf16) (harg11 : arg11.IsWhole) (arg12 : Memref sig .tc .vmem S1024x1024 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S1024x512 .bf16) (harg15 : arg15.IsWhole) (arg16 : Memref sig .tc .vmem S4x8x512 .f32) (harg16 : arg16.IsWhole) (arg17 : Memref sig .tc .vmem S64x1024 .bf16) (harg17 : arg17.IsWhole) (arg18 : Memref sig .tc .vmem S64x2816 .bf16) (harg18 : arg18.IsWhole) (arg19 : Memref sig .tc .vmem S64x2816 .bf16) (harg19 : arg19.IsWhole) (arg20 : Memref sig .tc .vmem S176x1024 .bf16) (harg20 : arg20.IsWhole) (arg21 : Memref sig .tc .vmem S1024x2560 .bf16) (harg21 : arg21.IsWhole) (hc0 : ¬cond0_0 i) (x0 : Vec Ideal S1024x1024 .f32) (x1 : Vec Ideal S1024x2560 .f32) (x2 : Vec Ideal S2x16x128 .f32) (x3 : Vec Ideal S4x64x128 .f32) (x4 : Vec Ideal S1x512 .f32) (x5 : Vec Ideal S1x512 .f32) (x6 : Vec Ideal S64x1024 .f32) (x7 : Vec Ideal S64x2816 .f32) (x8 : Vec Ideal S64x2816 .f32) (x9 : Vec Ideal S176x1024 .f32) (xs0 : Vec Ideal S1024x2560 .bf16)

set_option maxHeartbeats 8000000 in
/-- The queries that a later point writes. -/
theorem out10_B : out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 xs0 = fun y => qE x0 xs0 x2 x3 (y 0) (y 1) := by
  unfold out0_B_10
  rw [View.read_writes_junk_eq_canon]
  refine (fun (hp : View.PiecesOf (fun y : S1024x512.Idx => (qE x0 xs0 x2 x3 (y 0) (y 1) : Elt Ideal .bf16)) _) =>
    funext fun y => View.canon_apply_of_pieces _ _ hp.mem y (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 xs0 y)) ?_
  unfold kernelRun0_B
  dsimp only
  iterate 32
    refine pieces_cons ?_ ?_
    · exact q_piece (harg1.read_unread x0) (harg21.read_unread xs0) (harg3.read_unread x2) (harg4.read_unread x3) _ _ _ _ (by decide) (by decide) (by decide) (by decide) _ _ (by decide) _ _ _ _ _ _ _ _ _
  exact trivial

set_option maxHeartbeats 8000000 in
/-- The values that a later point writes. -/
theorem out12_B : out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 xs0 = fun y => vE x0 xs0 (y 0) (y 1) := by
  unfold out0_B_12
  rw [View.read_writes_junk_eq_canon]
  refine (fun (hp : View.PiecesOf (fun y : S1024x512.Idx => (vE x0 xs0 (y 0) (y 1) : Elt Ideal .bf16)) _) =>
    funext fun y => View.canon_apply_of_pieces _ _ hp.mem y (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 xs0 y)) ?_
  unfold kernelRun0_B
  dsimp only
  iterate 8
    refine pieces_cons ?_ ?_
    · exact v_piece (harg1.read_unread x0) (harg21.read_unread xs0) _ _ _ _
  exact trivial

set_option maxHeartbeats 8000000 in
/-- The gate's factor that a later point writes. -/
theorem out13_B : out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 xs0 = fun y => uE x0 xs0 (y 0) (y 1) := by
  unfold out0_B_13
  rw [View.read_writes_junk_eq_canon]
  refine (fun (hp : View.PiecesOf (fun y : S1024x512.Idx => (uE x0 xs0 (y 0) (y 1) : Elt Ideal .bf16)) _) =>
    funext fun y => View.canon_apply_of_pieces _ _ hp.mem y (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 xs0 y)) ?_
  unfold kernelRun0_B
  dsimp only
  iterate 8
    refine pieces_cons ?_ ?_
    · exact u_piece (harg1.read_unread x0) (harg21.read_unread xs0) _ _ _ _
  exact trivial

set_option maxHeartbeats 8000000 in
/-- The gate's input that a later point writes. -/
theorem out14_B : out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 xs0 = fun y => zE x0 xs0 x4 x5 (y 0) (y 1) := by
  unfold out0_B_14
  rw [View.read_writes_junk_eq_canon]
  refine (fun (hp : View.PiecesOf (fun y : S1024x512.Idx => (zE x0 xs0 x4 x5 (y 0) (y 1) : Elt Ideal .bf16)) _) =>
    funext fun y => View.canon_apply_of_pieces _ _ hp.mem y (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 xs0 y)) ?_
  unfold kernelRun0_B
  dsimp only
  iterate 32
    refine pieces_cons ?_ ?_
    · exact z_piece (harg1.read_unread x0) (harg21.read_unread xs0) (harg5.read_unread x4) (harg6.read_unread x5) _ _ (by decide) _ _ (by decide) _ _ _
  exact trivial

set_option maxHeartbeats 8000000 in
/-- The cast of the first operand's rows that a later point writes. -/
theorem out16_B : out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 xs0 = fun y => x6 y := by
  unfold out0_B_16
  rw [View.read_writes_junk_eq_canon]
  refine (fun (hp : View.PiecesOf (fun y : S64x1024.Idx => (x6 y : Elt Ideal .bf16)) _) =>
    funext fun y => View.canon_apply_of_pieces _ _ hp.mem y (cover0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 xs0 y)) ?_
  unfold kernelRun0_B
  dsimp only
  iterate 1
    refine pieces_cons ?_ ?_
    · exact cast_piece _ _ x6 (harg7.read_unread x6) _ _
  exact trivial

set_option maxHeartbeats 8000000 in
/-- The cast of the second operand's rows that a later point writes. -/
theorem out17_B : out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 xs0 = fun y => x7 y := by
  unfold out0_B_17
  rw [View.read_writes_junk_eq_canon]
  refine (fun (hp : View.PiecesOf (fun y : S64x2816.Idx => (x7 y : Elt Ideal .bf16)) _) =>
    funext fun y => View.canon_apply_of_pieces _ _ hp.mem y (cover0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 xs0 y)) ?_
  unfold kernelRun0_B
  dsimp only
  iterate 1
    refine pieces_cons ?_ ?_
    · exact cast_piece _ _ x7 (harg8.read_unread x7) _ _
  exact trivial

set_option maxHeartbeats 8000000 in
/-- The cast of the third operand's rows that a later point writes. -/
theorem out18_B : out0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 xs0 = fun y => x8 y := by
  unfold out0_B_18
  rw [View.read_writes_junk_eq_canon]
  refine (fun (hp : View.PiecesOf (fun y : S64x2816.Idx => (x8 y : Elt Ideal .bf16)) _) =>
    funext fun y => View.canon_apply_of_pieces _ _ hp.mem y (cover0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 xs0 y)) ?_
  unfold kernelRun0_B
  dsimp only
  iterate 1
    refine pieces_cons ?_ ?_
    · exact cast_piece _ _ x8 (harg9.read_unread x8) _ _
  exact trivial

set_option maxHeartbeats 8000000 in
/-- The cast of the fourth operand's rows that a later point writes. -/
theorem out19_B : out0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 xs0 = fun y => x9 y := by
  unfold out0_B_19
  rw [View.read_writes_junk_eq_canon]
  refine (fun (hp : View.PiecesOf (fun y : S176x1024.Idx => (x9 y : Elt Ideal .bf16)) _) =>
    funext fun y => View.canon_apply_of_pieces _ _ hp.mem y (cover0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 xs0 y)) ?_
  unfold kernelRun0_B
  dsimp only
  iterate 1
    refine pieces_cons ?_ ?_
    · exact cast_piece _ _ x9 (harg10.read_unread x9) _ _
  exact trivial

end

end Cert.Kernel2Ideal.Gen
-- ==== Proof.ProjKeysB.lean ====
module

public import proofs.«01_k».proof.Proof.ProjShare

@[expose] public section

set_option maxRecDepth 16384

noncomputable section

namespace Cert.Kernel2Ideal.Gen

open Idealize.ShloMosaic Idealize.ShloMosaic.TcCoe

section
variable (c : Dev nD) (i : grid0.Coords) (arg1 : Memref sig .tc .vmem S1024x1024 .f32) (harg1 : arg1.IsWhole) (arg2 : Memref sig .tc .vmem S1024x2560 .f32) (harg2 : arg2.IsWhole) (arg3 : Memref sig .tc .vmem S2x16x128 .f32) (harg3 : arg3.IsWhole) (arg4 : Memref sig .tc .vmem S4x64x128 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S64x1024 .f32) (harg7 : arg7.IsWhole) (arg8 : Memref sig .tc .vmem S64x2816 .f32) (harg8 : arg8.IsWhole) (arg9 : Memref sig .tc .vmem S64x2816 .f32) (harg9 : arg9.IsWhole) (arg10 : Memref sig .tc .vmem S176x1024 .f32) (harg10 : arg10.IsWhole) (arg11 : Memref sig .tc .vmem S1024x512 .bf16) (harg11 : arg11.IsWhole) (arg12 : Memref sig .tc .vmem S1024x1024 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S1024x512 .bf16) (harg15 : arg15.IsWhole) (arg16 : Memref sig .tc .vmem S4x8x512 .f32) (harg16 : arg16.IsWhole) (arg17 : Memref sig .tc .vmem S64x1024 .bf16) (harg17 : arg17.IsWhole) (arg18 : Memref sig .tc .vmem S64x2816 .bf16) (harg18 : arg18.IsWhole) (arg19 : Memref sig .tc .vmem S64x2816 .bf16) (harg19 : arg19.IsWhole) (arg20 : Memref sig .tc .vmem S176x1024 .bf16) (harg20 : arg20.IsWhole) (arg21 : Memref sig .tc .vmem S1024x2560 .bf16) (harg21 : arg21.IsWhole) (hc0 : ¬cond0_0 i) (x0 : Vec Ideal S1024x1024 .f32) (x1 : Vec Ideal S1024x2560 .f32) (x2 : Vec Ideal S2x16x128 .f32) (x3 : Vec Ideal S4x64x128 .f32) (x4 : Vec Ideal S1x512 .f32) (x5 : Vec Ideal S1x512 .f32) (x6 : Vec Ideal S64x1024 .f32) (x7 : Vec Ideal S64x2816 .f32) (x8 : Vec Ideal S64x2816 .f32) (x9 : Vec Ideal S176x1024 .f32) (xs0 : Vec Ideal S1024x2560 .bf16)

set_option maxHeartbeats 8000000 in
/-- The keys that a later point writes. -/
theorem out11_B : out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 xs0 = fun y => kaE x0 xs0 x2 x3 (4 * ((i 0).val % 4)) (y 0) (y 1) := by
  unfold out0_B_11
  rw [View.read_writes_junk_eq_canon]
  refine (fun (hp : View.PiecesOf (fun y : S1024x1024.Idx => (kaE x0 xs0 x2 x3 (4 * ((i 0).val % 4)) (y 0) (y 1) : Elt Ideal .bf16)) _) =>
    funext fun y => View.canon_apply_of_pieces _ _ hp.mem y (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 xs0 y)) ?_
  unfold kernelRun0_B
  dsimp only
  iterate 64
    refine pieces_cons ?_ ?_
    · exact ka_piece (harg1.read_unread x0) (harg21.read_unread xs0) (harg3.read_unread x2) (harg4.read_unread x3) _ _ _ _ _ (4 * ((i 0).val % 4)) (by omega) _ _ _ _ _ (base_eq i) rfl rfl rfl rfl (by decide) (by decide) (by decide) (by decide) (by decide) (by decide) _ _ (by decide) _ _ _ _ _ _ _ _ _
  exact trivial

set_option maxHeartbeats 8000000 in
/-- The keys' means that a later point writes. -/
theorem out15_B : out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 xs0 = fun y => meanE x0 xs0 x2 x3 (y 0) (y 2) := by
  unfold out0_B_15
  rw [View.read_writes_junk_eq_canon]
  refine (fun (hp : View.PiecesOf (fun y : S4x8x512.Idx => (meanE x0 xs0 x2 x3 (y 0) (y 2) : Elt Ideal .f32)) _) =>
    funext fun y => View.canon_apply_of_pieces _ _ hp.mem y (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 xs0 y)) ?_
  unfold kernelRun0_B
  dsimp only
  iterate 16
    refine pieces_cons ?_ ?_
    · exact km_piece (harg1.read_unread x0) (harg21.read_unread xs0) (harg3.read_unread x2) (harg4.read_unread x3) _ _ _ _ _ _ _ _ (by decide) (by decide) (by decide) (by decide) (by decide) (by decide) (by decide) (by decide) (by decide) _ _ (by decide) _ _ _ _ _ _ _ _ _ _ (by decide) _ _ _ _ _ _ _ _ _
  exact trivial

end

end Cert.Kernel2Ideal.Gen
-- ==== Proof.ProjTrack.lean ====
module

public import proofs.«01_k».proof.Proof.ProjOutA
public import proofs.«01_k».proof.Proof.ProjKeysA
public import proofs.«01_k».proof.Proof.ProjOutB
public import proofs.«01_k».proof.Proof.ProjKeysB
public import proofs.«01_k».proof.Proof.Gen.Kernel2Ideal.Value
public import Idealize.ShloMosaic.Lib.Pipeline.ValueKit
public import Idealize.ShloMosaic.Lib.StableHlo.ReadAt
public import Idealize.ShloMosaic.Lib.Pointwise

@[expose] public section

set_option maxRecDepth 16384

noncomputable section

namespace Cert.Kernel2Ideal.Gen

open Idealize.ShloMosaic Idealize.ShloMosaic.TcCoe

variable (m : (ℓ : Loc nD τ sig) → Buf (Elt Ideal) ℓ)

/-- A point's only coordinate is its number. -/
theorem coords_val : ∀ t : Fin cfg0.N, ((grid0.coords t) 0).val = t.val := (by decide +kernel : ∀ t : Fin grid0.N, _)
/-- The block of the tokens at a point. -/
theorem idx0 : ∀ t : Fin cfg0.N, win0_0.index t = ![t.val, 0] := (by decide +kernel : ∀ t : Fin grid0.N, _)
/-- The block of the input weights at a point. -/
theorem idx1 : ∀ t : Fin cfg0.N, win0_1.index t = ![0, 0] := (by decide +kernel : ∀ t : Fin grid0.N, _)
/-- The block of the coarse table at a point. -/
theorem idx2 : ∀ t : Fin cfg0.N, win0_2.index t = ![0, t.val % 4, 0] := (by decide +kernel : ∀ t : Fin grid0.N, _)
/-- The block of the fine table at a point. -/
theorem idx3 : ∀ t : Fin cfg0.N, win0_3.index t = ![0, 0, 0] := (by decide +kernel : ∀ t : Fin grid0.N, _)
/-- The block of the gate's scale at a point. -/
theorem idx4 : ∀ t : Fin cfg0.N, win0_4.index t = ![0, 0] := (by decide +kernel : ∀ t : Fin grid0.N, _)
/-- The block of the gate's shift at a point. -/
theorem idx5 : ∀ t : Fin cfg0.N, win0_5.index t = ![0, 0] := (by decide +kernel : ∀ t : Fin grid0.N, _)
/-- The block of the output weights at a point. -/
theorem idx6 : ∀ t : Fin cfg0.N, win0_6.index t = ![t.val, 0] := (by decide +kernel : ∀ t : Fin grid0.N, _)
/-- The block of the gate weights at a point. -/
theorem idx7 : ∀ t : Fin cfg0.N, win0_7.index t = ![t.val, 0] := (by decide +kernel : ∀ t : Fin grid0.N, _)
/-- The block of the up weights at a point. -/
theorem idx8 : ∀ t : Fin cfg0.N, win0_8.index t = ![t.val, 0] := (by decide +kernel : ∀ t : Fin grid0.N, _)
/-- The block of the down weights at a point. -/
theorem idx9 : ∀ t : Fin cfg0.N, win0_9.index t = ![t.val, 0] := (by decide +kernel : ∀ t : Fin grid0.N, _)
/-- The block of the queries at a point. -/
theorem idx10 : ∀ t : Fin cfg0.N, win0_10.index t = ![t.val, 0] := (by decide +kernel : ∀ t : Fin grid0.N, _)
/-- The block of the keys at a point. -/
theorem idx11 : ∀ t : Fin cfg0.N, win0_11.index t = ![t.val, 0] := (by decide +kernel : ∀ t : Fin grid0.N, _)
/-- The block of the values at a point. -/
theorem idx12 : ∀ t : Fin cfg0.N, win0_12.index t = ![t.val, 0] := (by decide +kernel : ∀ t : Fin grid0.N, _)
/-- The block of the gate's first half at a point. -/
theorem idx13 : ∀ t : Fin cfg0.N, win0_13.index t = ![t.val, 0] := (by decide +kernel : ∀ t : Fin grid0.N, _)
/-- The block of the gate's second half at a point. -/
theorem idx14 : ∀ t : Fin cfg0.N, win0_14.index t = ![t.val, 0] := (by decide +kernel : ∀ t : Fin grid0.N, _)
/-- The block of the mean keys at a point. -/
theorem idx15 : ∀ t : Fin cfg0.N, win0_15.index t = ![t.val, 0, 0] := (by decide +kernel : ∀ t : Fin grid0.N, _)
/-- The block of the cast output weights at a point. -/
theorem idx16 : ∀ t : Fin cfg0.N, win0_16.index t = ![t.val, 0] := (by decide +kernel : ∀ t : Fin grid0.N, _)
/-- The block of the cast gate weights at a point. -/
theorem idx17 : ∀ t : Fin cfg0.N, win0_17.index t = ![t.val, 0] := (by decide +kernel : ∀ t : Fin grid0.N, _)
/-- The block of the cast up weights at a point. -/
theorem idx18 : ∀ t : Fin cfg0.N, win0_18.index t = ![t.val, 0] := (by decide +kernel : ∀ t : Fin grid0.N, _)
/-- The block of the cast down weights at a point. -/
theorem idx19 : ∀ t : Fin cfg0.N, win0_19.index t = ![t.val, 0] := (by decide +kernel : ∀ t : Fin grid0.N, _)

/-- A point's rows of the input. -/
theorem blk0 (c : Dev nD) (t : Fin cfg0.N) (r : Fin 1024) (R : Fin 16384) (hR : R.val = 1024 * t.val + r.val) (k : Fin 1024) :
    (iblk m c 0 t : Vec Ideal S1024x1024 .f32) (ix2 r k)
      = (m ((c : Thread nD τ).loc main_arg0) : Vec Ideal S16384x1024 .f32) (ix2 R k) := by
  rw [← V_main_arg0 m c]
  blk_simp [iblk]
  refine congrArg _ ?_
  blk_ext [idx0]

/-- A point's rows of the table of block starts. -/
theorem blk2 (c : Dev nD) (t : Fin cfg0.N) (e : Fin 2) (a : Fin 16) (A : Fin 64) (hA : A.val = 16 * (t.val % 4) + a.val) (l : Fin 128) :
    (iblk m c 2 t : Vec Ideal S2x16x128 .f32) (ix3 e a l)
      = (V m c main_v44 : Vec Ideal S2x64x128 .f32) (ix3 e A l) := by
  skip
  blk_simp [iblk]
  refine congrArg _ ?_
  blk_ext [idx2]

/-- A point's rows of a later layer's weights. -/
theorem blk6 (c : Dev nD) (t : Fin cfg0.N) (r : Fin 64) (R : Fin 1024) (hR : R.val = 64 * t.val + r.val) (k : Fin 1024) :
    (iblk m c 6 t : Vec Ideal S64x1024 .f32) (ix2 r k)
      = (m ((c : Thread nD τ).loc main_arg4) : Vec Ideal S1024x1024 .f32) (ix2 R k) := by
  rw [← V_main_arg4 m c]
  blk_simp [iblk]
  refine congrArg _ ?_
  blk_ext [idx6]

/-- A point's rows of a later layer's weights. -/
theorem blk7 (c : Dev nD) (t : Fin cfg0.N) (r : Fin 64) (R : Fin 1024) (hR : R.val = 64 * t.val + r.val) (k : Fin 2816) :
    (iblk m c 7 t : Vec Ideal S64x2816 .f32) (ix2 r k)
      = (m ((c : Thread nD τ).loc main_arg5) : Vec Ideal S1024x2816 .f32) (ix2 R k) := by
  rw [← V_main_arg5 m c]
  blk_simp [iblk]
  refine congrArg _ ?_
  blk_ext [idx7]

/-- A point's rows of a later layer's weights. -/
theorem blk8 (c : Dev nD) (t : Fin cfg0.N) (r : Fin 64) (R : Fin 1024) (hR : R.val = 64 * t.val + r.val) (k : Fin 2816) :
    (iblk m c 8 t : Vec Ideal S64x2816 .f32) (ix2 r k)
      = (m ((c : Thread nD τ).loc main_arg6) : Vec Ideal S1024x2816 .f32) (ix2 R k) := by
  rw [← V_main_arg6 m c]
  blk_simp [iblk]
  refine congrArg _ ?_
  blk_ext [idx8]

/-- A point's rows of a later layer's weights. -/
theorem blk9 (c : Dev nD) (t : Fin cfg0.N) (r : Fin 176) (R : Fin 2816) (hR : R.val = 176 * t.val + r.val) (k : Fin 1024) :
    (iblk m c 9 t : Vec Ideal S176x1024 .f32) (ix2 r k)
      = (m ((c : Thread nD τ).loc main_arg7) : Vec Ideal S2816x1024 .f32) (ix2 R k) := by
  rw [← V_main_arg7 m c]
  blk_simp [iblk]
  refine congrArg _ ?_
  blk_ext [idx9]

/-- The projection weights. -/
theorem blk1 (c : Dev nD) (t : Fin cfg0.N) :
    (iblk m c 1 t : Vec Ideal S1024x2560 .f32) = (m ((c : Thread nD τ).loc main_arg1) : Vec Ideal S1024x2560 .f32) := by
  funext j
  idx_vars j
  rw [← V_main_arg1 m c]
  blk_simp [iblk]
  refine congrArg _ ?_
  blk_ext [idx1]

/-- The table of positions in a block. -/
theorem blk3 (c : Dev nD) (t : Fin cfg0.N) :
    (iblk m c 3 t : Vec Ideal S4x64x128 .f32) = (V m c main_v55 : Vec Ideal S4x64x128 .f32) := by
  funext j
  idx_vars j
  skip
  blk_simp [iblk]
  refine congrArg _ ?_
  blk_ext [idx3]

/-- The norm's scale. -/
theorem blk4 (c : Dev nD) (t : Fin cfg0.N) :
    (iblk m c 4 t : Vec Ideal S1x512 .f32) = (m ((c : Thread nD τ).loc main_arg2) : Vec Ideal S1x512 .f32) := by
  funext j
  idx_vars j
  rw [← V_main_arg2 m c]
  blk_simp [iblk]
  refine congrArg _ ?_
  blk_ext [idx4]

/-- The norm's offset. -/
theorem blk5 (c : Dev nD) (t : Fin cfg0.N) :
    (iblk m c 5 t : Vec Ideal S1x512 .f32) = (m ((c : Thread nD τ).loc main_arg3) : Vec Ideal S1x512 .f32) := by
  funext j
  idx_vars j
  rw [← V_main_arg3 m c]
  blk_simp [iblk]
  refine congrArg _ ?_
  blk_ext [idx5]

/-- The weights as the first point keeps them. -/
def wK (c : Dev nD) : Vec Ideal S1024x2560 .bf16 := k0_pay4 (m ((c : Thread nD τ).loc main_arg1))

/-- What a point stores, and the weights that stay in the scratch. -/
def outK (c : Dev nD) (t : Fin cfg0.N) : Vec Ideal S1024x512 .bf16 × Vec Ideal S1024x1024 .bf16 × Vec Ideal S1024x512 .bf16 × Vec Ideal S1024x512 .bf16 × Vec Ideal S1024x512 .bf16 × Vec Ideal S4x8x512 .f32 × Vec Ideal S64x1024 .bf16 × Vec Ideal S64x2816 .bf16 × Vec Ideal S64x2816 .bf16 × Vec Ideal S176x1024 .bf16 × Vec Ideal S1024x2560 .bf16 :=
  (fun y => qE (iblk m c 0 t) (wK m c) (iblk m c 2 t) (iblk m c 3 t) (y 0) (y 1),
        fun y => kaE (iblk m c 0 t) (wK m c) (iblk m c 2 t) (iblk m c 3 t) (4 * (((grid0.coords t) 0).val % 4)) (y 0) (y 1),
        fun y => vE (iblk m c 0 t) (wK m c) (y 0) (y 1),
        fun y => uE (iblk m c 0 t) (wK m c) (y 0) (y 1),
        fun y => zE (iblk m c 0 t) (wK m c) (iblk m c 4 t) (iblk m c 5 t) (y 0) (y 1),
        fun y => meanE (iblk m c 0 t) (wK m c) (iblk m c 2 t) (iblk m c 3 t) (y 0) (y 2),
        fun y => (iblk m c 6 t) y,
        fun y => (iblk m c 7 t) y,
        fun y => (iblk m c 8 t) y,
        fun y => (iblk m c 9 t) y,
        (wK m c))

/-- The first point casts the weights and writes its tile. -/
theorem outs_first (c : Dev nD) (t : Fin cfg0.N) (h0 : t.val % 16 = 0) : outsAt0 m c t.val t.isLt = outK m c t := by
  rw [outsAt0_A m c t h0, out10_A, out11_A, out12_A, out13_A, out14_A, out15_A, out16_A, out17_A, out18_A, out19_A, scr_A, blk1 m c t]
  rfl

/-- A later point writes its tile with the weights of the scratch, which it leaves. -/
theorem outs_later (c : Dev nD) (t : Fin cfg0.N) (h0 : ¬t.val % 16 = 0)
    (hw : (outsAt0 m c (t.val - 1) (Nat.lt_of_le_of_lt (Nat.sub_le _ _) t.isLt)).2.2.2.2.2.2.2.2.2.2 = wK m c) :
    outsAt0 m c t.val t.isLt = outK m c t := by
  rw [outsAt0_B m c t h0, hw, out10_B, out11_B, out12_B, out13_B, out14_B, out15_B, out16_B, out17_B, out18_B, out19_B]
  rfl

/-- What each point stores. -/
theorem outs (c : Dev nD) : ∀ (n : ℕ) (hn : n < cfg0.N), outsAt0 m c n hn = outK m c ⟨n, hn⟩
  | 0, hn => outs_first m c ⟨0, hn⟩ rfl
  | n + 1, hn => outs_later m c ⟨n + 1, hn⟩ (by have h : n + 1 < 16 := hn; simp only; omega)
      ((congrArg (fun q => q.2.2.2.2.2.2.2.2.2.2) (outs c n (Nat.lt_of_succ_lt hn))).trans rfl)

end Cert.Kernel2Ideal.Gen
-- ==== Proof.ProjSpec.lean ====
module

public import proofs.«01_k».proof.Proof.ProjTile
public import Idealize.ShloMosaic.Lib.IdealHost

@[expose] public section

noncomputable section

/- The input projection, row by row: what both programs' results are read as. -/
namespace Cert.Proj

open Idealize.ShloMosaic Cert.Kernel2Ideal.Gen

/-- The rotation frequency of lane `j`. -/
def freq (j : ℕ) : ℝ := Real.rpow 10000 (-(2 * (j : ℝ)) / 64)

/-- The cosine at a position. -/
def cosR (p j : ℕ) : EReal := ((Real.cos ((p : ℝ) * freq j) : ℝ) : EReal)

/-- The sine at a position. -/
def sinR (p j : ℕ) : EReal := ((Real.sin ((p : ℝ) * freq j) : ℝ) : EReal)

/-- The sign of a lane's partner in the rotation: minus in the first half of a head. -/
def sgn (l : Fin 128) : EReal := if l.val % 64 < 32 then -1 else 1

/-- A head's row turned by the angle of its position, half against half. -/
def rot (p : ℕ) (f : Fin 64 → EReal) (l : Fin 64) : EReal :=
  f l * cosR p (l.val % 32) + (if h : l.val < 32 then -f ⟨32 + l.val, by omega⟩ else f ⟨l.val - 32, by omega⟩) * sinR p (l.val % 32)

/-- A row of the projection. -/
def proj (x : Fin 16384 → Fin 1024 → EReal) (w : Fin 1024 → Fin 2560 → EReal) (R : Fin 16384) (c : Fin 2560) : EReal := ∑ k, x R k * w k c

section
variable (H : Fin 16384 → Fin 2560 → EReal)

/-- The queries, rotated and scaled. -/
def qS (R : Fin 16384) (j : Fin 512) : EReal :=
  rot (R.val % 4096) (fun i => H R ⟨j.val / 64 * 64 + i.val, by omega⟩) ⟨j.val % 64, by omega⟩ * Ideal.ofBits .f32 0x3E000000#32

/-- The keys, rotated. -/
def kS (R : Fin 16384) (j : Fin 512) : EReal :=
  rot (R.val % 4096) (fun i => H R ⟨512 + (j.val / 64 * 64 + i.val), by omega⟩) ⟨j.val % 64, by omega⟩

/-- The keys of two heads beside the one-hot number of the token's block. -/
def keyS (R : Fin 16384) (j : Fin 1024) : EReal :=
  if j.val % 128 / 64 = j.val / 128 % 2 then kS H R ⟨j.val / 256 * 128 + j.val % 128, by omega⟩
  else if j.val % 64 = R.val % 4096 / 256 then 1 else 0

/-- The mean key of a block of 256 tokens. -/
def kmS (b : Fin 64) (j : Fin 512) : EReal := (∑ i : Fin 256, kS H ⟨b.val * 256 + i.val, by omega⟩ j) * Ideal.ofBits .f32 0x3B800000#32

/-- The values. -/
def vS (R : Fin 16384) (j : Fin 512) : EReal := H R ⟨1024 + j.val, by omega⟩

/-- The gate's factor. -/
def uS (R : Fin 16384) (j : Fin 512) : EReal := gelu (H R ⟨1536 + j.val, by omega⟩)

/-- The gate's normed input. -/
def zS (g b : Fin 512 → EReal) (R : Fin 16384) (j : Fin 512) : EReal :=
  gn (fun k => gelu (H R ⟨2048 + (j.val / 64 * 64 + k.val), by omega⟩)) (gelu (H R ⟨2048 + j.val, by omega⟩)) (g j) (b j)
end

/-- The literal for one eighth. -/
theorem ofBits_eighth : Ideal.ofBits .f32 0x3E000000#32 = (((1 : ℝ) / 8 : ℝ) : EReal) := by
  simp [Ideal.ofBits, Ideal.ieee, -EReal.coe_mul]; norm_num
/-- The literal for 1/64. -/
theorem ofBits_inv64 : Ideal.ofBits .f32 0x3C800000#32 = (((1 : ℝ) / 64 : ℝ) : EReal) := by
  simp [Ideal.ofBits, Ideal.ieee, -EReal.coe_mul]; norm_num
/-- The literal for 1/256. -/
theorem ofBits_inv256 : Ideal.ofBits .f32 0x3B800000#32 = (((1 : ℝ) / 256 : ℝ) : EReal) := by
  simp [Ideal.ofBits, Ideal.ieee, -EReal.coe_mul]; norm_num
/-- The literal for 64. -/
theorem ofBits_64 : Ideal.ofBits .f32 1115684864#32 = ((64 : ℝ) : EReal) := by
  simp [Ideal.ofBits, Ideal.ieee, -EReal.coe_mul]; norm_num
/-- The literal for 256. -/
theorem ofBits_256 : Ideal.ofBits .f32 1132462080#32 = ((256 : ℝ) : EReal) := by
  simp [Ideal.ofBits, Ideal.ieee, -EReal.coe_mul]; norm_num
/-- The literal for 10000. -/
theorem ofBits_10000 : Ideal.ofBits .f32 1176256512#32 = ((10000 : ℝ) : EReal) := by
  simp [Ideal.ofBits, Ideal.ieee, -EReal.coe_mul]; norm_num
/-- The literal for two. -/
theorem ofBits_two : Ideal.ofBits .f32 1073741824#32 = ((2 : ℝ) : EReal) := by
  simp [Ideal.ofBits, Ideal.ieee, -EReal.coe_mul]; norm_num

/-- Division by 64 is multiplication by 1/64. -/
theorem div64 (x : EReal) : Ideal.div x (Ideal.ofBits .f32 1115684864#32) = x * Ideal.ofBits .f32 0x3C800000#32 := by
  rw [ofBits_64, ofBits_inv64, Ideal.div_coe (by norm_num)]
/-- Division by 256 is multiplication by 1/256. -/
theorem div256 (x : EReal) : Ideal.div x (Ideal.ofBits .f32 1132462080#32) = x * Ideal.ofBits .f32 0x3B800000#32 := by
  rw [ofBits_256, ofBits_inv256, Ideal.div_coe (by norm_num)]

/-- A small number's word, read as a number. -/
theorem sitofp_nat (n : ℕ) (hn : n < 4096) : (FloatOps.sitofp (F := Ideal) .f32 (BitVec.ofNat 32 n) : EReal) = ((n : ℝ) : EReal) := by
  show (((BitVec.ofNat 32 n).toInt : ℝ) : EReal) = _
  rw [BitVec.toInt_ofNat', Int.bmod_eq_of_le (by omega) (by omega)]
  norm_cast

/-- The frequency as both programs compute it. -/
theorem freq_eq (j : ℕ) (hj : j < 32) :
    Ideal.pow (Ideal.ofBits .f32 1176256512#32) (Ideal.div (-(Ideal.ofBits .f32 1073741824#32 * (FloatOps.sitofp (F := Ideal) .f32 (BitVec.ofNat 32 j) : EReal)))
      (Ideal.ofBits .f32 1115684864#32)) = ((freq j : ℝ) : EReal) := by
  rw [sitofp_nat j (by omega), ofBits_10000, ofBits_two, ofBits_64, Ideal.div_coe (by norm_num), ← EReal.coe_mul, ← EReal.coe_neg, ← EReal.coe_mul,
    mul_one_div]
  rfl

/-- A cosine of the tables, or of the plain program. -/
theorem cos_tab (w : BitVec 32) (p i j : ℕ) (hw : w = BitVec.ofNat 32 p) (hp : p < 4096) (hi : i < 32) (hj : i = j) :
    Ideal.cos ((FloatOps.sitofp (F := Ideal) .f32 w : EReal) * Ideal.pow (Ideal.ofBits .f32 1176256512#32)
      (Ideal.div (-(Ideal.ofBits .f32 1073741824#32 * (FloatOps.sitofp (F := Ideal) .f32 (BitVec.ofNat 32 i) : EReal))) (Ideal.ofBits .f32 1115684864#32)))
      = cosR p j := by
  subst hw hj
  rw [freq_eq i hi, sitofp_nat p hp, ← EReal.coe_mul]
  rfl

/-- A sine of the tables, or of the plain program. -/
theorem sin_tab (w : BitVec 32) (p i j : ℕ) (hw : w = BitVec.ofNat 32 p) (hp : p < 4096) (hi : i < 32) (hj : i = j) :
    Ideal.sin ((FloatOps.sitofp (F := Ideal) .f32 w : EReal) * Ideal.pow (Ideal.ofBits .f32 1176256512#32)
      (Ideal.div (-(Ideal.ofBits .f32 1073741824#32 * (FloatOps.sitofp (F := Ideal) .f32 (BitVec.ofNat 32 i) : EReal))) (Ideal.ofBits .f32 1115684864#32)))
      = sinR p j := by
  subst hw hj
  rw [freq_eq i hi, sitofp_nat p hp, ← EReal.coe_mul]
  rfl

/-- The cosine of a sum of two positions. -/
theorem cos_sum (p q j : ℕ) : cosR p j * cosR q j - sinR p j * sinR q j = cosR (p + q) j := by
  unfold cosR sinR
  rw [← EReal.coe_mul, ← EReal.coe_mul, ← EReal.coe_sub]
  rw [Nat.cast_add, add_mul, Real.cos_add]

/-- The signed sine of a sum of two positions. -/
theorem sin_sum (p q j : ℕ) (l : Fin 128) : sinR p j * (sgn l * cosR q j) + cosR p j * (sgn l * sinR q j) = sgn l * sinR (p + q) j := by
  have e : sgn l = (((if l.val % 64 < 32 then -1 else 1 : ℝ)) : EReal) := by unfold sgn; split <;> simp
  rw [e]
  unfold cosR sinR
  rw [← EReal.coe_mul, ← EReal.coe_mul, ← EReal.coe_mul, ← EReal.coe_mul, ← EReal.coe_mul, ← EReal.coe_add]
  rw [Nat.cast_add, add_mul, Real.sin_add]
  refine congrArg _ ?_
  ring

/-- The kernel's rotation of one of two heads is the head's. -/
theorem rot_pair (p : ℕ) (f : Fin 128 → EReal) (g : Fin 64 → EReal) (l : Fin 128) (hg : ∀ i : Fin 64, f ⟨l.val / 64 * 64 + i.val, by omega⟩ = g i) :
    f l * cosR p (l.val % 32) + f (partner l) * (sgn l * sinR p (l.val % 32)) = rot p g ⟨l.val % 64, by omega⟩ := by
  unfold rot
  have e : l.val % 64 % 32 = l.val % 32 := by omega
  have h0 : f l = g ⟨l.val % 64, by omega⟩ := by rw [← hg]; exact congrArg f (Fin.ext (by simp only; omega))
  simp only [e]
  rw [h0]
  refine congrArg _ ?_
  unfold sgn partner
  by_cases h : l.val % 64 < 32
  · rw [if_pos h, if_pos h, dif_pos h, ← hg, neg_one_mul, mul_neg, neg_mul]
    exact congrArg (fun q => -(f q * sinR p (l.val % 32))) (Fin.ext (by simp only; omega))
  · rw [if_neg h, if_neg h, dif_neg h, ← hg, one_mul]
    exact congrArg (fun q => f q * sinR p (l.val % 32)) (Fin.ext (by simp only; omega))

/-- The scale of the queries leaves the rotation. -/
theorem rot_scale (p : ℕ) (g : Fin 64 → EReal) (l : Fin 64) :
    rot p (fun i => g i * Ideal.ofBits .f32 0x3E000000#32) l = rot p g l * Ideal.ofBits .f32 0x3E000000#32 := by
  unfold rot
  rw [ofBits_eighth, EReal.right_distrib_of_nonneg_of_ne_top (by norm_num) (EReal.coe_ne_top _), mul_right_comm]
  refine congrArg _ ?_
  rw [mul_right_comm]
  refine congrArg (· * _) ?_
  split
  · rw [neg_mul]
  · rfl

/-- A block's mean, from its two halves. -/
theorem mean_halves (f : Fin 256 → EReal) :
    (∑ i : Fin 128, f ⟨i.val, by omega⟩) * Ideal.ofBits .f32 0x3B800000#32 + (∑ i : Fin 128, f ⟨128 + i.val, by omega⟩) * Ideal.ofBits .f32 0x3B800000#32
      = (∑ i, f i) * Ideal.ofBits .f32 0x3B800000#32 := by
  rw [ofBits_inv256, ← EReal.right_distrib_of_nonneg_of_ne_top (by norm_num) (EReal.coe_ne_top _)]
  refine congrArg (· * _) ?_
  exact (Fin.sum_univ_add (a := 128) (b := 128) f).symm

/-- The gelu as the plain program writes it. -/
theorem gelu_erfc (x : EReal) : Ideal.ofBits .f32 0x3F000000#32 * x * Ideal.erfc (-x * Ideal.ofBits .f32 0x3F3504F3#32) = gelu x := by
  unfold gelu
  rw [EReal.neg_mul, Ideal.erfc_neg]

end Cert.Proj
-- ==== Proof.ProjTab.lean ====
module

public import proofs.«01_k».proof.Proof.Gen.Kernel2Ideal.Frame
public import Idealize.ShloMosaic.Lib.StableHlo.ReadAt
public import Idealize.ShloMosaic.Lib.Pointwise
public import proofs.«01_k».proof.Proof.ProjSpec

@[expose] public section

set_option maxRecDepth 16384

noncomputable section

namespace Cert.Kernel2Ideal.Gen

open Idealize.ShloMosaic Idealize.ShloMosaic.TcCoe

variable (m : (ℓ : Loc nD τ sig) → Buf (Elt Ideal) ℓ)

/-- The first position of a block. -/
theorem start_eq : ∀ a : Fin 64, IntOp.addi 0#32 (IntOp.muli 64#32 (BitVec.ofNat 32 a.val)) = BitVec.ofNat 32 (64 * a.val) := by decide +kernel

set_option maxHeartbeats 8000000 in
/-- The table of block starts: the cosines, then the sines. -/
theorem hi_at (c : Dev nD) (e : Fin 2) (a : Fin 64) (l : Fin 128) : ((V m c main_v44 : Vec Ideal S2x64x128 .f32) (ix3 e a l) : EReal)
    = (if e.val < 1 then Proj.cosR (64 * a.val) (l.val % 32) else Proj.sinR (64 * a.val) (l.val % 32) : EReal) := by
  unfold V
  after_reads_at
  split
  · repeat' split
    all_goals after_reads_at
    all_goals exact Proj.cos_tab _ _ _ _ (start_eq a) (by omega) (by omega) (by omega)
  · repeat' split
    all_goals after_reads_at
    all_goals exact Proj.sin_tab _ _ _ _ (start_eq a) (by omega) (by omega) (by omega)

/-- Whether a lane is in the first half of its head, as the host computes it. -/
def firstHalf : IVec S128 1 :=
  cmpi CmpIPredicate.slt
    (select
      (andi
        (cmpi CmpIPredicate.ne
          (cmpi CmpIPredicate.slt
            (Host.remsi (iotaInDim S128 32 0)
              (broadcastInDim S128 ![] bcast_S_S128
                (select (cmpi CmpIPredicate.eq (id (constantI S_ 32 64#32)) (constantI S_ 32 0#32))
                  (constantI S_ 32 1#32) (id (constantI S_ 32 64#32)))))
            (broadcastInDim S128 ![] bcast_S_S128 (constantI S_ 32 0#32)))
          (broadcastInDim S128 ![] bcast_S_S128
            (cmpi CmpIPredicate.slt
              (select (cmpi CmpIPredicate.eq (id (constantI S_ 32 64#32)) (constantI S_ 32 0#32))
                (constantI S_ 32 1#32) (id (constantI S_ 32 64#32)))
              (constantI S_ 32 0#32))))
        (cmpi CmpIPredicate.ne
          (Host.remsi (iotaInDim S128 32 0)
            (broadcastInDim S128 ![] bcast_S_S128
              (select (cmpi CmpIPredicate.eq (id (constantI S_ 32 64#32)) (constantI S_ 32 0#32))
                (constantI S_ 32 1#32) (id (constantI S_ 32 64#32)))))
          (broadcastInDim S128 ![] bcast_S_S128 (constantI S_ 32 0#32))))
      (addi
        (Host.remsi (iotaInDim S128 32 0)
          (broadcastInDim S128 ![] bcast_S_S128
            (select (cmpi CmpIPredicate.eq (id (constantI S_ 32 64#32)) (constantI S_ 32 0#32))
              (constantI S_ 32 1#32) (id (constantI S_ 32 64#32)))))
        (broadcastInDim S128 ![] bcast_S_S128
          (select (cmpi CmpIPredicate.eq (id (constantI S_ 32 64#32)) (constantI S_ 32 0#32))
            (constantI S_ 32 1#32) (id (constantI S_ 32 64#32)))))
      (Host.remsi (iotaInDim S128 32 0)
        (broadcastInDim S128 ![] bcast_S_S128
          (select (cmpi CmpIPredicate.eq (id (constantI S_ 32 64#32)) (constantI S_ 32 0#32))
            (constantI S_ 32 1#32) (id (constantI S_ 32 64#32))))))
    (broadcastInDim S128 ![] bcast_S_S128 (constantI S_ 32 32#32))

/-- The lanes of a head's first half. -/
theorem firstHalf_at : ∀ l : Fin 128, firstHalf (ix1 l) = if l.val % 64 < 32 then 1#1 else 0#1 := by decide +kernel

/-- The sign of a lane, as the host computes it. -/
theorem sgn_at (l : Fin 128) : ((id (broadcastInDim S1x128 ![1] bcast_S128_S1x128_1
      (select firstHalf (broadcastInDim S128 ![] bcast_S_S128 (constant S_ FTy.f32 3212836864#32))
        (broadcastInDim S128 ![] bcast_S_S128 (constant S_ FTy.f32 1065353216#32)))) : FVec Ideal S1x128 .f32) (ix2 0 l) : EReal) = Proj.sgn l := by
  show Scalar.select (firstHalf (ix1 l)) (Ideal.ofBits .f32 3212836864#32) (Ideal.ofBits .f32 1065353216#32) = _
  rw [firstHalf_at]
  unfold Proj.sgn
  split
  · show Ideal.ofBits .f32 3212836864#32 = _
    rw [show (-1 : EReal) = ((-1 : ℝ) : EReal) by rw [EReal.coe_neg, EReal.coe_one]]
    simp [Ideal.ofBits, Ideal.ieee, -EReal.coe_mul]
    norm_num
  · exact Ideal.ofBits_one_f32

set_option maxHeartbeats 8000000 in
/-- The table of positions in a block: the cosines, the sines, and both with the lane's sign. -/
theorem lo_at (c : Dev nD) (e : Fin 4) (a : Fin 64) (l : Fin 128) : ((V m c main_v55 : Vec Ideal S4x64x128 .f32) (ix3 e a l) : EReal)
    = (if e.val < 1 then Proj.cosR a.val (l.val % 32) else if e.val - 1 < 1 then Proj.sinR a.val (l.val % 32)
      else if e.val - 1 - 1 < 1 then Proj.sgn l * Proj.cosR a.val (l.val % 32) else Proj.sgn l * Proj.sinR a.val (l.val % 32) : EReal) := by
  unfold V
  after_reads_at
  split
  · after_reads_at
    repeat' split
    all_goals after_reads_at
    all_goals exact Proj.cos_tab _ _ _ _ rfl (by omega) (by omega) (by omega)
  · split
    · after_reads_at
      repeat' split
      all_goals after_reads_at
      all_goals exact Proj.sin_tab _ _ _ _ rfl (by omega) (by omega) (by omega)
    · split
      · after_reads_at
        refine congrArg₂ (· * ·) (sgn_at l) ?_
        repeat' split
        all_goals after_reads_at
        all_goals exact Proj.cos_tab _ _ _ _ rfl (by omega) (by omega) (by omega)
      · after_reads_at
        refine congrArg₂ (· * ·) (sgn_at l) ?_
        repeat' split
        all_goals after_reads_at
        all_goals exact Proj.sin_tab _ _ _ _ rfl (by omega) (by omega) (by omega)

end Cert.Kernel2Ideal.Gen
-- ==== Proof.ProjFinal.lean ====
module

public import proofs.«01_k».proof.Proof.ProjTrack
public import proofs.«01_k».proof.Proof.ProjTab

@[expose] public section

set_option maxRecDepth 16384

noncomputable section

namespace Cert.Kernel2Ideal.Gen

open Idealize.ShloMosaic Idealize.ShloMosaic.TcCoe Cert.Proj

variable (m : (ℓ : Loc nD τ sig) → Buf (Elt Ideal) ℓ)

/-- The projection of the launch's tokens. -/
def HK (c : Dev nD) : Fin 16384 → Fin 2560 → EReal :=
  proj (fun R k => (m ((c : Thread nD τ).loc main_arg0) : Vec Ideal S16384x1024 .f32) (ix2 R k))
    (fun k j => (m ((c : Thread nD τ).loc main_arg1) : Vec Ideal S1024x2560 .f32) (ix2 k j))

/-- The weights that the first point keeps are the launch's. -/
theorem wK_at (c : Dev nD) (k : Fin 1024) (j : Fin 2560) : (wK m c (ix2 k j) : EReal) = (m ((c : Thread nD τ).loc main_arg1) : Vec Ideal S1024x2560 .f32) (ix2 k j) := by
  unfold wK k0_pay4
  pointwise

section
variable (c : Dev nD) (t : Fin cfg0.N) (r : Fin 1024) (R : Fin 16384) (hR : R.val = 1024 * t.val + r.val)
include hR

/-- A tile's projected row is the token's. -/
theorem hE_eq (j : Fin 2560) : hE (iblk m c 0 t) (wK m c) r j = HK m c R j := by
  unfold hE HK proj
  refine Finset.sum_congr rfl fun k _ => ?_
  rw [blk0 m c t r R hR k, wK_at]

/-- The cosine that a point computes is the token's. -/
theorem cosE_eq (l : Fin 128) : cosE (iblk m c 2 t) (iblk m c 3 t) r l = cosR (R.val % 4096) (l.val % 32) := by
  have ht : t.val < 16 := t.isLt
  unfold cosE
  rw [blk2 m c t 0 _ ⟨16 * (t.val % 4) + r.val / 64, by omega⟩ rfl l, blk2 m c t 1 _ ⟨16 * (t.val % 4) + r.val / 64, by omega⟩ rfl l,
    blk3 m c t, hi_at, hi_at, lo_at, lo_at]
  refine (cos_sum (64 * (16 * (t.val % 4) + r.val / 64)) (r.val % 64) (l.val % 32)).trans (congrArg (fun p => cosR p (l.val % 32)) ?_)
  omega

/-- The signed sine that a point computes is the token's. -/
theorem sinE_eq (l : Fin 128) : sinE (iblk m c 2 t) (iblk m c 3 t) r l = sgn l * sinR (R.val % 4096) (l.val % 32) := by
  have ht : t.val < 16 := t.isLt
  unfold sinE
  rw [blk2 m c t 0 _ ⟨16 * (t.val % 4) + r.val / 64, by omega⟩ rfl l, blk2 m c t 1 _ ⟨16 * (t.val % 4) + r.val / 64, by omega⟩ rfl l,
    blk3 m c t, hi_at, hi_at, lo_at, lo_at]
  refine (sin_sum (64 * (16 * (t.val % 4) + r.val / 64)) (r.val % 64) (l.val % 32) l).trans (congrArg (fun p => sgn l * sinR p (l.val % 32)) ?_)
  omega

/-- A point's rotation is the token's. -/
theorem ropeE_eq (f : Fin 128 → EReal) (g : Fin 64 → EReal) (l : Fin 128) (i : Fin 64) (hi : i.val = l.val % 64)
    (hg : ∀ k : Fin 64, f ⟨l.val / 64 * 64 + k.val, by omega⟩ = g k) :
    ropeE (iblk m c 2 t) (iblk m c 3 t) r f l = rot (R.val % 4096) g i := by
  unfold ropeE
  rw [cosE_eq m c t r R hR, sinE_eq m c t r R hR, rot_pair _ f g l hg]
  exact congrArg _ (Fin.ext hi.symm)

/-- A tile's queries are the tokens'. -/
theorem qE_eq (j : Fin 512) : qE (iblk m c 0 t) (wK m c) (iblk m c 2 t) (iblk m c 3 t) r j = qS (HK m c) R j := by
  unfold qE qS
  rw [← rot_scale]
  refine ropeE_eq m c t r R hR _ _ _ _ (by simp only; omega) fun k => ?_
  simp only [hE_eq m c t r R hR]
  exact congrArg (fun q => HK m c R q * _) (Fin.ext (by simp only; omega))

/-- A tile's rotated keys are the tokens'. -/
theorem kE_eq (j : Fin 512) : kE (iblk m c 0 t) (wK m c) (iblk m c 2 t) (iblk m c 3 t) r j = kS (HK m c) R j := by
  unfold kE kS
  refine ropeE_eq m c t r R hR _ _ _ _ (by simp only; omega) fun k => ?_
  simp only [hE_eq m c t r R hR]
  exact congrArg (fun q => HK m c R q) (Fin.ext (by simp only; omega))

/-- A tile's keys with the blocks' numbers are the tokens'. -/
theorem kaE_eq (j : Fin 1024) : kaE (iblk m c 0 t) (wK m c) (iblk m c 2 t) (iblk m c 3 t) (4 * (((grid0.coords t) 0).val % 4)) r j = keyS (HK m c) R j := by
  unfold kaE keyS
  rw [kE_eq m c t r R hR, coords_val]
  refine ite_congr rfl (fun _ => rfl) fun h => ?_
  have e : (j.val % 128 = 64 * (1 - j.val / 128 % 2) + 4 * (t.val % 4) + r.val / 256) ↔ (j.val % 64 = R.val % 4096 / 256) := by omega
  simp only [e]

/-- A tile's values are the tokens'. -/
theorem vE_eq (j : Fin 512) : vE (iblk m c 0 t) (wK m c) r j = vS (HK m c) R j := hE_eq m c t r R hR _

/-- A tile's gate factors are the tokens'. -/
theorem uE_eq (j : Fin 512) : uE (iblk m c 0 t) (wK m c) r j = uS (HK m c) R j := congrArg gelu (hE_eq m c t r R hR _)

/-- A tile's normed gate inputs are the tokens'. -/
theorem zE_eq (j : Fin 512) : zE (iblk m c 0 t) (wK m c) (iblk m c 4 t) (iblk m c 5 t) r j
    = zS (HK m c) (fun j => (m ((c : Thread nD τ).loc main_arg2) : Vec Ideal S1x512 .f32) (ix2 0 j))
      (fun j => (m ((c : Thread nD τ).loc main_arg3) : Vec Ideal S1x512 .f32) (ix2 0 j)) R j := by
  unfold zE zS
  simp only [hE_eq m c t r R hR, blk4 m c t, blk5 m c t]
end

/-- A tile's mean keys are the blocks'. -/
theorem meanE_eq (c : Dev nD) (t : Fin cfg0.N) (b : Fin 4) (B : Fin 64) (hB : B.val = 4 * t.val + b.val) (j : Fin 512) :
    meanE (iblk m c 0 t) (wK m c) (iblk m c 2 t) (iblk m c 3 t) b j = kmS (HK m c) B j := by
  have ht : t.val < 16 := t.isLt
  unfold kmS
  rw [← mean_halves]
  unfold meanE
  refine congrArg₂ (· + ·) (congrArg (· * _) (Finset.sum_congr rfl fun k _ => ?_)) (congrArg (· * _) (Finset.sum_congr rfl fun k _ => ?_))
  · exact kE_eq m c t _ _ (by simp only; omega) j
  · exact kE_eq m c t _ _ (by simp only; omega) j

/-- The queries. -/
theorem final10 (c : Dev nD) : (dats m 0 c).arrAt 10 cfg0.N = (fun j => qS (HK m c) (j 0) (j 1) : Vec Ideal S16384x512 .bf16) := by
  refine (dats m 0 c).arrAt_eq_of_covers 10 _ (by decide +kernel) fun t hf y => ?_
  have ht : t.val < 16 := t.isLt
  blk_simp
  rw [after0_10, outs m c t.val t.isLt]
  idx_vars y
  refine (qE_eq m c t y0 ⟨1024 * t.val + y0.val, by omega⟩ rfl y1).trans ?_
  refine congrArg₂ (fun R k => qS (HK m c) R k) (Fin.ext ?_) (Fin.ext ?_)
  · blk_simp [idx10]
    exact congrArg (· + y0.val) (Nat.mul_comm 1024 t.val)
  · blk_simp [idx10]

/-- The keys. -/
theorem final11 (c : Dev nD) : (dats m 0 c).arrAt 11 cfg0.N = (fun j => keyS (HK m c) (j 0) (j 1) : Vec Ideal S16384x1024 .bf16) := by
  refine (dats m 0 c).arrAt_eq_of_covers 11 _ (by decide +kernel) fun t hf y => ?_
  have ht : t.val < 16 := t.isLt
  blk_simp
  rw [after0_11, outs m c t.val t.isLt]
  idx_vars y
  refine (kaE_eq m c t y0 ⟨1024 * t.val + y0.val, by omega⟩ rfl y1).trans ?_
  refine congrArg₂ (fun R k => keyS (HK m c) R k) (Fin.ext ?_) (Fin.ext ?_)
  · blk_simp [idx11]
    exact congrArg (· + y0.val) (Nat.mul_comm 1024 t.val)
  · blk_simp [idx11]

/-- The values. -/
theorem final12 (c : Dev nD) : (dats m 0 c).arrAt 12 cfg0.N = (fun j => vS (HK m c) (j 0) (j 1) : Vec Ideal S16384x512 .bf16) := by
  refine (dats m 0 c).arrAt_eq_of_covers 12 _ (by decide +kernel) fun t hf y => ?_
  have ht : t.val < 16 := t.isLt
  blk_simp
  rw [after0_12, outs m c t.val t.isLt]
  idx_vars y
  refine (vE_eq m c t y0 ⟨1024 * t.val + y0.val, by omega⟩ rfl y1).trans ?_
  refine congrArg₂ (fun R k => vS (HK m c) R k) (Fin.ext ?_) (Fin.ext ?_)
  · blk_simp [idx12]
    exact congrArg (· + y0.val) (Nat.mul_comm 1024 t.val)
  · blk_simp [idx12]

/-- The gate's factor. -/
theorem final13 (c : Dev nD) : (dats m 0 c).arrAt 13 cfg0.N = (fun j => uS (HK m c) (j 0) (j 1) : Vec Ideal S16384x512 .bf16) := by
  refine (dats m 0 c).arrAt_eq_of_covers 13 _ (by decide +kernel) fun t hf y => ?_
  have ht : t.val < 16 := t.isLt
  blk_simp
  rw [after0_13, outs m c t.val t.isLt]
  idx_vars y
  refine (uE_eq m c t y0 ⟨1024 * t.val + y0.val, by omega⟩ rfl y1).trans ?_
  refine congrArg₂ (fun R k => uS (HK m c) R k) (Fin.ext ?_) (Fin.ext ?_)
  · blk_simp [idx13]
    exact congrArg (· + y0.val) (Nat.mul_comm 1024 t.val)
  · blk_simp [idx13]

/-- The gate's normed input, from the launch's arguments. -/
def ZK (c : Dev nD) : Fin 16384 → Fin 512 → EReal :=
  zS (HK m c) (fun j => (m ((c : Thread nD τ).loc main_arg2) : Vec Ideal S1x512 .f32) (ix2 0 j))
    (fun j => (m ((c : Thread nD τ).loc main_arg3) : Vec Ideal S1x512 .f32) (ix2 0 j))

/-- The gate's normed input. -/
theorem final14 (c : Dev nD) : (dats m 0 c).arrAt 14 cfg0.N = (fun j => ZK m c (j 0) (j 1) : Vec Ideal S16384x512 .bf16) := by
  refine (dats m 0 c).arrAt_eq_of_covers 14 _ (by decide +kernel) fun t hf y => ?_
  have ht : t.val < 16 := t.isLt
  blk_simp
  rw [after0_14, outs m c t.val t.isLt]
  idx_vars y
  refine (zE_eq m c t y0 ⟨1024 * t.val + y0.val, by omega⟩ rfl y1).trans ?_
  refine congrArg₂ (fun R k => ZK m c R k) (Fin.ext ?_) (Fin.ext ?_)
  · blk_simp [idx14]
    exact congrArg (· + y0.val) (Nat.mul_comm 1024 t.val)
  · blk_simp [idx14]

/-- The mean keys, each in eight equal rows. -/
theorem final15 (c : Dev nD) : (dats m 0 c).arrAt 15 cfg0.N = (fun j => kmS (HK m c) (j 0) (j 2) : Vec Ideal S64x8x512 .f32) := by
  refine (dats m 0 c).arrAt_eq_of_covers 15 _ (by decide +kernel) fun t hf y => ?_
  have ht : t.val < 16 := t.isLt
  blk_simp
  rw [after0_15, outs m c t.val t.isLt]
  idx_vars y
  refine (meanE_eq m c t y0 ⟨4 * t.val + y0.val, by omega⟩ rfl y2).trans ?_
  refine congrArg₂ (fun R k => kmS (HK m c) R k) (Fin.ext ?_) (Fin.ext ?_)
  · blk_simp [idx15]
    exact congrArg (· + y0.val) (Nat.mul_comm 4 t.val)
  · blk_simp [idx15]

end Cert.Kernel2Ideal.Gen
-- ==== Proof.ProjCasts.lean ====
module

public import proofs.«01_k».proof.Proof.ProjTrack

@[expose] public section

set_option maxRecDepth 16384

noncomputable section

namespace Cert.Kernel2Ideal.Gen

open Idealize.ShloMosaic Idealize.ShloMosaic.TcCoe

variable (m : (ℓ : Loc nD τ sig) → Buf (Elt Ideal) ℓ)

/-- The output projection's weights, cast. -/
def w4K (c : Dev nD) (R : Fin 1024) (k : Fin 1024) : EReal := (m ((c : Thread nD τ).loc main_arg4) : Vec Ideal S1024x1024 .f32) (ix2 R k)

/-- The cast of the output projection's weights has their entries. -/
theorem final16 (c : Dev nD) : (dats m 0 c).arrAt 16 cfg0.N = (fun j => w4K m c (j 0) (j 1) : Vec Ideal S1024x1024 .bf16) := by
  refine (dats m 0 c).arrAt_eq_of_covers 16 _ (by decide +kernel) fun t hf y => ?_
  have ht : t.val < 16 := t.isLt
  blk_simp
  rw [after0_16, outs m c t.val t.isLt]
  idx_vars y
  refine (blk6 m c t y0 ⟨64 * t.val + y0.val, by omega⟩ rfl y1).trans ?_
  refine congrArg₂ (fun R k => w4K m c R k) (Fin.ext ?_) (Fin.ext ?_)
  · blk_simp [idx16]
    exact congrArg (· + y0.val) (Nat.mul_comm 64 t.val)
  · blk_simp [idx16]

/-- The gate weights, cast. -/
def w5K (c : Dev nD) (R : Fin 1024) (k : Fin 2816) : EReal := (m ((c : Thread nD τ).loc main_arg5) : Vec Ideal S1024x2816 .f32) (ix2 R k)

/-- The cast of the gate weights has their entries. -/
theorem final17 (c : Dev nD) : (dats m 0 c).arrAt 17 cfg0.N = (fun j => w5K m c (j 0) (j 1) : Vec Ideal S1024x2816 .bf16) := by
  refine (dats m 0 c).arrAt_eq_of_covers 17 _ (by decide +kernel) fun t hf y => ?_
  have ht : t.val < 16 := t.isLt
  blk_simp
  rw [after0_17, outs m c t.val t.isLt]
  idx_vars y
  refine (blk7 m c t y0 ⟨64 * t.val + y0.val, by omega⟩ rfl y1).trans ?_
  refine congrArg₂ (fun R k => w5K m c R k) (Fin.ext ?_) (Fin.ext ?_)
  · blk_simp [idx17]
    exact congrArg (· + y0.val) (Nat.mul_comm 64 t.val)
  · blk_simp [idx17]

/-- The up weights, cast. -/
def w6K (c : Dev nD) (R : Fin 1024) (k : Fin 2816) : EReal := (m ((c : Thread nD τ).loc main_arg6) : Vec Ideal S1024x2816 .f32) (ix2 R k)

/-- The cast of the up weights has their entries. -/
theorem final18 (c : Dev nD) : (dats m 0 c).arrAt 18 cfg0.N = (fun j => w6K m c (j 0) (j 1) : Vec Ideal S1024x2816 .bf16) := by
  refine (dats m 0 c).arrAt_eq_of_covers 18 _ (by decide +kernel) fun t hf y => ?_
  have ht : t.val < 16 := t.isLt
  blk_simp
  rw [after0_18, outs m c t.val t.isLt]
  idx_vars y
  refine (blk8 m c t y0 ⟨64 * t.val + y0.val, by omega⟩ rfl y1).trans ?_
  refine congrArg₂ (fun R k => w6K m c R k) (Fin.ext ?_) (Fin.ext ?_)
  · blk_simp [idx18]
    exact congrArg (· + y0.val) (Nat.mul_comm 64 t.val)
  · blk_simp [idx18]

/-- The down weights, cast. -/
def w7K (c : Dev nD) (R : Fin 2816) (k : Fin 1024) : EReal := (m ((c : Thread nD τ).loc main_arg7) : Vec Ideal S2816x1024 .f32) (ix2 R k)

/-- The cast of the down weights has their entries. -/
theorem final19 (c : Dev nD) : (dats m 0 c).arrAt 19 cfg0.N = (fun j => w7K m c (j 0) (j 1) : Vec Ideal S2816x1024 .bf16) := by
  refine (dats m 0 c).arrAt_eq_of_covers 19 _ (by decide +kernel) fun t hf y => ?_
  have ht : t.val < 16 := t.isLt
  blk_simp
  rw [after0_19, outs m c t.val t.isLt]
  idx_vars y
  refine (blk9 m c t y0 ⟨176 * t.val + y0.val, by omega⟩ rfl y1).trans ?_
  refine congrArg₂ (fun R k => w7K m c R k) (Fin.ext ?_) (Fin.ext ?_)
  · blk_simp [idx19]
    exact congrArg (· + y0.val) (Nat.mul_comm 176 t.val)
  · blk_simp [idx19]

end Cert.Kernel2Ideal.Gen
-- ==== Proof.ProjRef.lean ====
module

public import proofs.«01_k».proof.Proof.Gen.Reference2Ideal.Run
public import proofs.«01_k».proof.Proof.ProjSpec
public import Idealize.ShloMosaic.Lib.Pointwise
public import Idealize.ShloMosaic.Lib.IdealHost

@[expose] public section

set_option maxRecDepth 16384

noncomputable section

namespace Cert.Reference2Ideal.Value

open Cert.Reference2Ideal Cert.Reference2Ideal.Gen Idealize.ShloMosaic Idealize.ShloMosaic.TcCoe Idealize.ShloMosaic.StableHlo Cert.Proj
open Cert.Kernel2Ideal.Gen (gelu gn)

variable (V0 : Valuation τ sig (Elt Ideal))

/-- The projection, from the reference's arguments. -/
def HR : Fin 16384 → Fin 2560 → EReal :=
  proj (fun R k => (V0 (Proc.devRef .tc main_arg0) : Vec Ideal S16384x1024 .f32) (ix2 R k))
    (fun k j => (V0 (Proc.devRef .tc main_arg1) : Vec Ideal S1024x2560 .f32) (ix2 k j))

/-- The product of tokens and weights is the projection. -/
theorem v0_at (R : Fin 16384) (j : Fin 2560) : (res_main_v0 V0 (ix2 R j) : EReal) = HR V0 R j := by
  unfold res_main_v0 HR proj
  pointwise

/-- The cosines of the queries' angles. -/
theorem cos25 (R : Fin 4096) (a : Fin 1) (j : Fin 64) : Ideal.cos (res_main_v25 V0 (ix3 R a j)) = cosR R.val (j.val % 32) := by
  unfold res_main_v25 res_main_v23 res_main_v6
  pointwise
  split <;> exact cos_tab _ _ _ _ rfl (by omega) (by omega) (by omega)

/-- The sines of the queries' angles. -/
theorem sin25 (R : Fin 4096) (a : Fin 1) (j : Fin 64) : Ideal.sin (res_main_v25 V0 (ix3 R a j)) = sinR R.val (j.val % 32) := by
  unfold res_main_v25 res_main_v23 res_main_v6
  pointwise
  split <;> exact sin_tab _ _ _ _ rfl (by omega) (by omega) (by omega)

/-- The cosines of the keys' angles. -/
theorem cos59 (R : Fin 4096) (a : Fin 1) (j : Fin 64) : Ideal.cos (res_main_v59 V0 (ix3 R a j)) = cosR R.val (j.val % 32) := by
  unfold res_main_v59 res_main_v57 res_main_v6
  pointwise
  split <;> exact cos_tab _ _ _ _ rfl (by omega) (by omega) (by omega)

/-- The sines of the keys' angles. -/
theorem sin59 (R : Fin 4096) (a : Fin 1) (j : Fin 64) : Ideal.sin (res_main_v59 V0 (ix3 R a j)) = sinR R.val (j.val % 32) := by
  unfold res_main_v59 res_main_v57 res_main_v6
  pointwise
  split <;> exact sin_tab _ _ _ _ rfl (by omega) (by omega) (by omega)

/-- A rotated key, by its place in the head. -/
theorem kS_head (H : Fin 16384 → Fin 2560 → EReal) (b : Fin 4) (p : Fin 4096) (h : Fin 8) (j : Fin 64) :
    kS H ⟨b.val * 4096 + p.val, by omega⟩ ⟨h.val * 64 + j.val, by omega⟩
      = rot p.val (fun i => H ⟨b.val * 4096 + p.val, by omega⟩ ⟨512 + (h.val * 64 + i.val), by omega⟩) j := by
  unfold kS
  have e1 : (b.val * 4096 + p.val) % 4096 = p.val := by omega
  have e2 : (⟨(h.val * 64 + j.val) % 64, by omega⟩ : Fin 64) = j := Fin.ext (by simp only; omega)
  simp only [e1, e2]
  refine congrArg (fun f => rot p.val f j) (funext fun i => congrArg (H _) (Fin.ext ?_))
  simp only
  omega

/-- The reference's rotated keys. -/
theorem v72_at (b : Fin 4) (p : Fin 4096) (h : Fin 8) (j : Fin 64) : (res_main_v72 V0 (ix4 b p h j) : EReal)
    = kS (HR V0) ⟨b.val * 4096 + p.val, by omega⟩ ⟨h.val * 64 + j.val, by omega⟩ := by
  rw [kS_head]
  unfold res_main_v72 res_main_v41
  pointwise
  rw [cos59, sin59]
  simp only [v0_at]
  rfl

/-- The block of each position, as the reference computes it. -/
def blockOf : IVec S4096 32 :=
  select (andi (cmpi .ne (signi (iotaInDim S4096 32 0)) (broadcastInDim S4096 ![] bcast_S_S4096 (signi (id (constantI S_ 32 256#32)))))
      (cmpi .ne (Host.remsi (iotaInDim S4096 32 0) (broadcastInDim S4096 ![] bcast_S_S4096 (id (constantI S_ 32 256#32))))
        (broadcastInDim S4096 ![] bcast_S_S4096 (constantI S_ 32 0#32))))
    (subi (Host.divsi (iotaInDim S4096 32 0) (broadcastInDim S4096 ![] bcast_S_S4096 (id (constantI S_ 32 256#32))))
      (broadcastInDim S4096 ![] bcast_S_S4096 (constantI S_ 32 1#32)))
    (Host.divsi (iotaInDim S4096 32 0) (broadcastInDim S4096 ![] bcast_S_S4096 (id (constantI S_ 32 256#32))))

/-- The block of a position is the position divided by 256. -/
theorem blockOf_at : ∀ p : Fin 4096, blockOf (ix1 p) = BitVec.ofNat 32 (p.val / 256) := by decide +kernel

/-- The comparison of a lane's number with a block's. -/
theorem eq_bit : ∀ (j : Fin 64) (q : Fin 16), IntOp.cmpi .eq (BitVec.ofNat 32 j.val) (BitVec.ofNat 32 q.val) = if j.val = q.val then 1#1 else 0#1 := by
  decide +kernel

/-- The one of the token's block. -/
theorem v86_at (b : Fin 4) (p : Fin 4096) (h : Fin 4) (j : Fin 64) : (res_main_v86 V0 (ix4 b p h j) : EReal)
    = (if j.val = p.val / 256 then 1 else 0 : EReal) := by
  show (FloatOps.uitofp (F := Ideal) .f32 (IntOp.cmpi .eq (BitVec.ofNat 32 j.val) (blockOf (ix1 p))) : EReal) = _
  rw [blockOf_at, eq_bit j ⟨p.val / 256, by omega⟩]
  simp only
  split
  · show (((1#1 : BitVec 1).toNat : ℝ) : EReal) = 1
    simp
  · show (((0#1 : BitVec 1).toNat : ℝ) : EReal) = 0
    simp

/-- The gelu of the gate's input. -/
theorem v97_at (b : Fin 16384) (h : Fin 8) (j : Fin 64) : (res_main_v97 V0 (ix3 b h j) : EReal) = gelu (HR V0 b ⟨2048 + (h.val * 64 + j.val), by omega⟩) := by
  unfold res_main_v97 res_main_v5
  pointwise
  rw [v0_at]
  exact gelu_erfc _

/-- The mean of a head. -/
theorem v103_at (b : Fin 16384) (h : Fin 8) (j : Fin 1) : (res_main_v103 V0 (ix3 b h j) : EReal)
    = (∑ x : Fin 64, gelu (HR V0 b ⟨2048 + (h.val * 64 + x.val), by omega⟩)) * Ideal.ofBits .f32 0x3C800000#32 := by
  unfold res_main_v103
  pointwise
  simp only [v97_at, div64]

/-- The last share of the projection. -/
theorem v4_at (b : Fin 16384) (h : Fin 512) : (res_main_v4 V0 (ix2 b h) : EReal) = HR V0 b ⟨1536 + h.val, by omega⟩ := by
  unfold res_main_v4
  pointwise
  exact v0_at V0 _ _

set_option maxHeartbeats 8000000 in
/-- The queries. -/
theorem r125 : (truncf .bf16 (shapeCast _ (mulf (addf (mulf (res_main_v7 V0) (broadcastInDim S4x4096x8x64 ![0, 1, 2, 3] bcast_S1x4096x1x64_S4x4096x8x64_0_1_2_3 (broadcastInDim S1x4096x1x64 ![1, 2, 3] bcast_S4096x1x64_S1x4096x1x64_1_2_3 (Host.cos (res_main_v25 V0))))) (mulf (concatenate S4x4096x8x64 3 [⟨S4x4096x8x32, (Host.negf (extractStridedSlice S4x4096x8x32 ![0, 0, 0, 32] (res_main_v7 V0) slices_S4x4096x8x64_S4x4096x8x32_0_0_0_32))⟩, ⟨S4x4096x8x32, (extractStridedSlice S4x4096x8x32 ![0, 0, 0, 0] (res_main_v7 V0) slices_S4x4096x8x64_S4x4096x8x32_0_0_0_0)⟩] concatenates_S4x4096x8x32_S4x4096x8x32_S4x4096x8x64_d3) (broadcastInDim S4x4096x8x64 ![0, 1, 2, 3] bcast_S1x4096x1x64_S4x4096x8x64_0_1_2_3 (broadcastInDim S1x4096x1x64 ![1, 2, 3] bcast_S4096x1x64_S1x4096x1x64_1_2_3 (Host.sin (res_main_v25 V0)))))) (broadcastInDim S4x4096x8x64 ![] bcast_S_S4x4096x8x64 (constant S_ .f32 0x3E000000#32))) shapeCasts_S4x4096x8x64_S16384x512) bitsLt_bf16_f32 : FVec Ideal S16384x512 .bf16)
    = fun i => (qS (HR V0) (i 0) (i 1) : EReal) := by
  funext i
  idx_vars i
  show _ = (qS (HR V0) i0 i1 : EReal)
  unfold res_main_v7
  pointwise
  rw [cos25, sin25]
  simp only [v0_at]
  unfold qS rot
  refine congrArg (· * _) (congrArg₂ (· + ·) (congrArg (fun q => HR V0 i0 q * _) (Fin.ext ?_)) rfl)
  simp only
  omega

set_option maxHeartbeats 8000000 in
/-- The keys. -/
theorem r127 : (truncf .bf16 (shapeCast _ ((concatenate S4x4096x4x256 3 [⟨S4x4096x4x64, ((Host.slice S4x4096x4x64 ![0, 0, 0, 0] ![1, 1, 2, 1] (res_main_v72 V0) slicesBy_S4x4096x8x64_S4x4096x4x64_0s1_0s1_0s2_0s1) : (⟨S4x4096x4x64, .f32⟩ : BufTy).Contents (Elt Ideal))⟩, ⟨S4x4096x4x64, ((res_main_v86 V0) : (⟨S4x4096x4x64, .f32⟩ : BufTy).Contents (Elt Ideal))⟩, ⟨S4x4096x4x64, ((res_main_v86 V0) : (⟨S4x4096x4x64, .f32⟩ : BufTy).Contents (Elt Ideal))⟩, ⟨S4x4096x4x64, ((Host.slice S4x4096x4x64 ![0, 0, 1, 0] ![1, 1, 2, 1] (res_main_v72 V0) slicesBy_S4x4096x8x64_S4x4096x4x64_0s1_0s1_1s2_0s1) : (⟨S4x4096x4x64, .f32⟩ : BufTy).Contents (Elt Ideal))⟩] concatenates_S4x4096x4x64_S4x4096x4x64_S4x4096x4x64_S4x4096x4x64_S4x4096x4x256_d3 : (⟨S4x4096x4x256, .f32⟩ : BufTy).Contents (Elt Ideal))) shapeCasts_S4x4096x4x256_S16384x1024) bitsLt_bf16_f32 : FVec Ideal S16384x1024 .bf16)
    = fun i => (keyS (HR V0) (i 0) (i 1) : EReal) := by
  funext i
  idx_vars i
  show _ = (keyS (HR V0) i0 i1 : EReal)
  pointwise
  simp only [v72_at, v86_at]
  unfold keyS
  have e1 : i0.val / 4096 * 4096 + i0.val % 4096 = i0.val := by omega
  simp only [e1]
  split
  · refine Eq.trans ?_ (if_pos (by omega)).symm
    refine congrArg (kS (HR V0) i0) (Fin.ext ?_)
    simp only
    omega
  · split
    · refine Eq.trans ?_ (if_neg (by omega)).symm
      exact ite_congr (propext (by omega)) (fun _ => rfl) fun _ => rfl
    · split
      · refine Eq.trans ?_ (if_neg (by omega)).symm
        exact ite_congr (propext (by omega)) (fun _ => rfl) fun _ => rfl
      · refine Eq.trans ?_ (if_pos (by omega)).symm
        refine congrArg (kS (HR V0) i0) (Fin.ext ?_)
        simp only
        omega

set_option maxHeartbeats 8000000 in
/-- The values. -/
theorem r128 : (truncf .bf16 (extractStridedSlice S16384x512 ![0, 1024] (res_main_v0 V0) slices_S16384x2560_S16384x512_0_1024) bitsLt_bf16_f32 : FVec Ideal S16384x512 .bf16)
    = fun i => (vS (HR V0) (i 0) (i 1) : EReal) := by
  funext i
  idx_vars i
  show _ = (vS (HR V0) i0 i1 : EReal)
  pointwise
  exact v0_at V0 _ _

set_option maxHeartbeats 8000000 in
/-- The gate's factor. -/
theorem r136 : (truncf .bf16 (mulf (mulf (broadcastInDim S16384x512 ![] bcast_S_S16384x512 (constant S_ .f32 0x3F000000#32)) (res_main_v4 V0)) (Host.erfc (mulf (Host.negf (res_main_v4 V0)) (broadcastInDim S16384x512 ![] bcast_S_S16384x512 (constant S_ .f32 0x3F3504F3#32))))) bitsLt_bf16_f32 : FVec Ideal S16384x512 .bf16)
    = fun i => (uS (HR V0) (i 0) (i 1) : EReal) := by
  funext i
  idx_vars i
  show _ = (uS (HR V0) i0 i1 : EReal)
  pointwise
  rw [v4_at]
  exact gelu_erfc _

set_option maxHeartbeats 8000000 in
/-- The gate's normed input. -/
theorem r138 : (truncf .bf16 (shapeCast _ (addf (mulf (mulf (subf (res_main_v97 V0) (broadcastInDim S16384x8x64 ![0, 1, 2] bcast_S16384x8x1_S16384x8x64_0_1_2 (res_main_v103 V0))) (broadcastInDim S16384x8x64 ![0, 1, 2] bcast_S16384x8x1_S16384x8x64_0_1_2 (Host.rsqrt (addf (Host.divf (broadcastInDim S16384x8x1 ![0, 1] bcast_S16384x8_S16384x8x1_0_1 (Host.reduceAdd (mulf (res_main_v105 V0) (res_main_v105 V0)) (constant S_ .f32 0x00000000#32) reducesTo_S16384x8x64_S16384x8_d2 h_S_)) (broadcastInDim S16384x8x1 ![] bcast_S_S16384x8x1 (constant S_ .f32 0x42800000#32))) (broadcastInDim S16384x8x1 ![] bcast_S_S16384x8x1 (constant S_ .f32 0x3727C5AC#32)))))) (broadcastInDim S16384x8x64 ![0, 1, 2] bcast_S1x8x64_S16384x8x64_0_1_2 (broadcastInDim S1x8x64 ![1, 2] bcast_S8x64_S1x8x64_1_2 (shapeCast _ (V0 (Proc.devRef .tc main_arg2)) shapeCasts_S1x512_S8x64)))) (broadcastInDim S16384x8x64 ![0, 1, 2] bcast_S1x8x64_S16384x8x64_0_1_2 (broadcastInDim S1x8x64 ![1, 2] bcast_S8x64_S1x8x64_1_2 (shapeCast _ (V0 (Proc.devRef .tc main_arg3)) shapeCasts_S1x512_S8x64)))) shapeCasts_S16384x8x64_S16384x512) bitsLt_bf16_f32 : FVec Ideal S16384x512 .bf16)
    = fun i => (zS (HR V0) (fun j => (V0 (Proc.devRef .tc main_arg2) : Vec Ideal S1x512 .f32) (ix2 0 j))
      (fun j => (V0 (Proc.devRef .tc main_arg3) : Vec Ideal S1x512 .f32) (ix2 0 j)) (i 0) (i 1) : EReal) := by
  funext i
  idx_vars i
  show _ = (zS (HR V0) _ _ i0 i1 : EReal)
  unfold res_main_v105
  pointwise
  simp only [v97_at, v103_at, div64]
  unfold zS gn
  have e : i1.val / 64 * 64 + i1.val % 64 = i1.val := by omega
  simp only [e]

set_option maxHeartbeats 8000000 in
/-- The mean keys. -/
theorem r140 : (broadcastInDim S64x8x512 ![0, 1, 2] bcast_S64x1x512_S64x8x512_0_1_2 (broadcastInDim S64x1x512 ![0, 2] bcast_S64x512_S64x1x512_0_2 (Host.divf (Host.reduceAdd (shapeCast _ (res_main_v72 V0) shapeCasts_S4x4096x8x64_S64x256x512) (constant S_ .f32 0x00000000#32) reducesTo_S64x256x512_S64x512_d1 h_S_) (broadcastInDim S64x512 ![] bcast_S_S64x512 (constant S_ .f32 0x43800000#32)))) : FVec Ideal S64x8x512 .f32)
    = fun i => (kmS (HR V0) (i 0) (i 2) : EReal) := by
  funext i
  idx_vars i
  show _ = (kmS (HR V0) i0 i2 : EReal)
  pointwise
  simp only [v72_at, div256]
  unfold kmS
  refine congrArg (· * _) (Finset.sum_congr rfl fun x _ => ?_)
  refine congrArg₂ (kS (HR V0)) (Fin.ext ?_) (Fin.ext ?_) <;> simp only <;> omega

end Cert.Reference2Ideal.Value
-- ==== Proof.ProjValue.lean ====
module

public import proofs.«01_k».proof.Defs
public import proofs.«01_k».proof.Proof.Gen.Kernel2Ideal.Value
public import proofs.«01_k».proof.Proof.ProjFinal
public import proofs.«01_k».proof.Proof.ProjCasts
public import proofs.«01_k».proof.Proof.ProjRef
public import Idealize.ShloMosaic.Adequacy

@[expose] public section

set_option maxRecDepth 16384

noncomputable section

namespace Cert.ProjValue

open Idealize.ShloMosaic Idealize.ShloMosaic.TcCoe Idealize.ShloMosaic.StableHlo Idealize.SL.Sem Cert.Proj Cert.Kernel2Ideal Cert.Kernel2Ideal.Gen

variable (m : (ℓ : Loc nD τ sig) → Buf (Elt Ideal) ℓ)
  (m' : (ℓ : Loc Cert.Reference2Ideal.nD Cert.Reference2Ideal.τ Cert.Reference2Ideal.sig) → Buf (Elt Ideal) ℓ) (c : Dev nD)

/-- The launch's arguments as the reference reads them. -/
abbrev V0 : Valuation Cert.Reference2Ideal.τ Cert.Reference2Ideal.sig (Elt Ideal) := launchContents m' c

/-- Where the tokens and the weights agree, so do the projections. -/
theorem HR_eq
    (h0 : m' ((c.tc : Thread Cert.Reference2Ideal.nD Cert.Reference2Ideal.τ).loc Cert.Reference2Ideal.main_arg0) = m ((c.tc : Thread nD τ).loc main_arg0))
    (h1 : m' ((c.tc : Thread Cert.Reference2Ideal.nD Cert.Reference2Ideal.τ).loc Cert.Reference2Ideal.main_arg1) = m ((c.tc : Thread nD τ).loc main_arg1)) :
    Cert.Reference2Ideal.Value.HR (V0 m' c) = HK m c :=
  congrArg₂ (fun (x : Vec Ideal S16384x1024 .f32) (w : Vec Ideal S1024x2560 .f32) =>
    proj (fun R k => x (ix2 R k)) (fun k j => w (ix2 k j))) h0 h1

/-- Where the gate's scale and shift agree too, so do the gate's values. -/
theorem ZR_eq
    (h0 : m' ((c.tc : Thread Cert.Reference2Ideal.nD Cert.Reference2Ideal.τ).loc Cert.Reference2Ideal.main_arg0) = m ((c.tc : Thread nD τ).loc main_arg0))
    (h1 : m' ((c.tc : Thread Cert.Reference2Ideal.nD Cert.Reference2Ideal.τ).loc Cert.Reference2Ideal.main_arg1) = m ((c.tc : Thread nD τ).loc main_arg1))
    (h2 : m' ((c.tc : Thread Cert.Reference2Ideal.nD Cert.Reference2Ideal.τ).loc Cert.Reference2Ideal.main_arg2) = m ((c.tc : Thread nD τ).loc main_arg2))
    (h3 : m' ((c.tc : Thread Cert.Reference2Ideal.nD Cert.Reference2Ideal.τ).loc Cert.Reference2Ideal.main_arg3) = m ((c.tc : Thread nD τ).loc main_arg3)) :
    zS (Cert.Reference2Ideal.Value.HR (V0 m' c))
        (fun j => (V0 m' c (Proc.devRef .tc Cert.Reference2Ideal.main_arg2) : Vec Ideal S1x512 .f32) (ix2 0 j))
        (fun j => (V0 m' c (Proc.devRef .tc Cert.Reference2Ideal.main_arg3) : Vec Ideal S1x512 .f32) (ix2 0 j)) = ZK m c := by
  rw [HR_eq m m' c h0 h1]
  exact congrArg₂ (fun (g b : Vec Ideal S1x512 .f32) => zS (HK m c) (fun j => g (ix2 0 j)) (fun j => b (ix2 0 j))) h2 h3

/-- The rotated queries. -/
def res0 : Buf (Elt Ideal) ((c.tc : Thread nD τ).loc main_v56_0) := (fun j => qS (HK m c) (j 0) (j 1) : Vec Ideal S16384x512 .bf16)
/-- The rotated keys, each pair of heads beside the one-hot number of the token's block. -/
def res1 : Buf (Elt Ideal) ((c.tc : Thread nD τ).loc main_v56_1) := (fun j => keyS (HK m c) (j 0) (j 1) : Vec Ideal S16384x1024 .bf16)
/-- The values. -/
def res2 : Buf (Elt Ideal) ((c.tc : Thread nD τ).loc main_v56_2) := (fun j => vS (HK m c) (j 0) (j 1) : Vec Ideal S16384x512 .bf16)
/-- The gate's activated first half. -/
def res3 : Buf (Elt Ideal) ((c.tc : Thread nD τ).loc main_v56_3) := (fun j => uS (HK m c) (j 0) (j 1) : Vec Ideal S16384x512 .bf16)
/-- The gate's activated and normed second half. -/
def res4 : Buf (Elt Ideal) ((c.tc : Thread nD τ).loc main_v56_4) := (fun j => ZK m c (j 0) (j 1) : Vec Ideal S16384x512 .bf16)
/-- The mean key of each block, in eight equal rows. -/
def res5 : Buf (Elt Ideal) ((c.tc : Thread nD τ).loc main_v56_5) := (fun j => kmS (HK m c) (j 0) (j 2) : Vec Ideal S64x8x512 .f32)
/-- The output projection's weights, cast. -/
def res6 : Buf (Elt Ideal) ((c.tc : Thread nD τ).loc main_v56_6) := (fun j => w4K m c (j 0) (j 1) : Vec Ideal S1024x1024 .bf16)
/-- The gate weights, cast. -/
def res7 : Buf (Elt Ideal) ((c.tc : Thread nD τ).loc main_v56_7) := (fun j => w5K m c (j 0) (j 1) : Vec Ideal S1024x2816 .bf16)
/-- The up weights, cast. -/
def res8 : Buf (Elt Ideal) ((c.tc : Thread nD τ).loc main_v56_8) := (fun j => w6K m c (j 0) (j 1) : Vec Ideal S1024x2816 .bf16)
/-- The down weights, cast. -/
def res9 : Buf (Elt Ideal) ((c.tc : Thread nD τ).loc main_v56_9) := (fun j => w7K m c (j 0) (j 1) : Vec Ideal S2816x1024 .bf16)

/-- A weight matrix cast to the results' type has the matrix's entries. -/
theorem cast_eq {a b : ℕ} (w : Vec Ideal ⟨2, ![a, b]⟩ .f32) (w' : Vec Ideal ⟨2, ![a, b]⟩ .f32) (h : w' = w) (hb : FTy.bits .bf16 < FTy.bits .f32) :
    (truncf .bf16 w' hb : FVec Ideal ⟨2, ![a, b]⟩ .bf16) = (fun j => (w (ix2 (j 0) (j 1)) : EReal)) := by
  subst h
  funext i
  exact congrArg w' (funext fun k => by fin_cases k <;> rfl)

/-- The two programs, from arguments that agree, leave the same ten results and their arguments as they were. -/
theorem algebraic :
    Cert.algebraic_Kernel2Ideal_Reference2Ideal (hKernel2Ideal := Cert.Kernel2Ideal.Gen.facts)
      (hReference2Ideal := Cert.Reference2Ideal.Gen.facts) :=
  fun m g m' g' _ h => ⟨res0 m, res1 m, res2 m, res3 m, res4 m, res5 m, res6 m, res7 m, res8 m, res9 m,
    (θ_run Cert.Kernel2Ideal.defs _ _).mono (fun r hr c => ⟨(hr c).1.trans (final10 m c),
        (hr c).2.1.trans (final11 m c),
        (hr c).2.2.1.trans (final12 m c),
        (hr c).2.2.2.1.trans (final13 m c),
        (hr c).2.2.2.2.1.trans (final14 m c),
        (hr c).2.2.2.2.2.1.trans (final15 m c),
        (hr c).2.2.2.2.2.2.1.trans (final16 m c),
        (hr c).2.2.2.2.2.2.2.1.trans (final17 m c),
        (hr c).2.2.2.2.2.2.2.2.1.trans (final18 m c),
        (hr c).2.2.2.2.2.2.2.2.2.1.trans (final19 m c),
        (hr c).2.2.2.2.2.2.2.2.2.2⟩)
      (Cert.Kernel2Ideal.Value.run_blocks m g),
    (θ_run Cert.Reference2Ideal.defs _ _).mono (fun r hr c => by
      obtain ⟨h0, h1, h2, h3, h4, h5, h6, h7⟩ := h c
      exact ⟨(hr c).1.trans ((Cert.Reference2Ideal.Value.r125 (V0 m' c)).trans
          (congrArg (fun H => (fun i => qS H (i 0) (i 1) : Vec Ideal S16384x512 .bf16)) (HR_eq m m' c h0 h1))),
        (hr c).2.1.trans ((Cert.Reference2Ideal.Value.r127 (V0 m' c)).trans
          (congrArg (fun H => (fun i => keyS H (i 0) (i 1) : Vec Ideal S16384x1024 .bf16)) (HR_eq m m' c h0 h1))),
        (hr c).2.2.1.trans ((Cert.Reference2Ideal.Value.r128 (V0 m' c)).trans
          (congrArg (fun H => (fun i => vS H (i 0) (i 1) : Vec Ideal S16384x512 .bf16)) (HR_eq m m' c h0 h1))),
        (hr c).2.2.2.1.trans ((Cert.Reference2Ideal.Value.r136 (V0 m' c)).trans
          (congrArg (fun H => (fun i => uS H (i 0) (i 1) : Vec Ideal S16384x512 .bf16)) (HR_eq m m' c h0 h1))),
        (hr c).2.2.2.2.1.trans ((Cert.Reference2Ideal.Value.r138 (V0 m' c)).trans
          (congrArg (fun (Z : Fin 16384 → Fin 512 → EReal) => (fun i => Z (i 0) (i 1) : Vec Ideal S16384x512 .bf16)) (ZR_eq m m' c h0 h1 h2 h3))),
        (hr c).2.2.2.2.2.1.trans ((Cert.Reference2Ideal.Value.r140 (V0 m' c)).trans
          (congrArg (fun H => (fun i => kmS H (i 0) (i 2) : Vec Ideal S64x8x512 .f32)) (HR_eq m m' c h0 h1))),
        (hr c).2.2.2.2.2.2.1.trans (cast_eq _ _ h4 _),
        (hr c).2.2.2.2.2.2.2.1.trans (cast_eq _ _ h5 _),
        (hr c).2.2.2.2.2.2.2.2.1.trans (cast_eq _ _ h6 _),
        (hr c).2.2.2.2.2.2.2.2.2.1.trans (cast_eq _ _ h7 _),
        (hr c).2.2.2.2.2.2.2.2.2.2⟩)
      (Cert.Reference2Ideal.Value.run m' g')⟩

end Cert.ProjValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.BitsFrame
public import proofs.«01_k».proof.Proof.Track
public import proofs.«01_k».proof.Proof.RefValue
public import proofs.«01_k».proof.Proof.ProjValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel's run: it ends, with the layer's rows in the result, the arguments as they were. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c.tc : Thread Cert.KernelIdeal.nD Cert.KernelIdeal.τ).loc Cert.KernelIdeal.main_v3)
          = (fun i => Cert.KernelIdeal.Gen.OUT m c (i 0) (i 1) : Vec Ideal Cert.KernelIdeal.S16384x1024 .f32) :=
  (θ_run Cert.KernelIdeal.defs _ _).mono
    (fun _ h c => ((h.1 c).1 20).trans (Cert.KernelIdeal.Gen.final m c))
    (Cert.KernelIdeal.Gen.run_main_quiescent m ρ (Cert.KernelIdeal.Gen.tracked m))

/-- The ten claims, five of each call: the three programs' frames, the idealization and the equality of the results. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  fun m ρ _ => Cert.Kernel.Gen.frame m ρ,
  fun m ρ _ => Cert.KernelIdeal.Gen.frame m ρ (Cert.KernelIdeal.Gen.tracked m),
  fun m ρ _ => (θ_run Cert.ReferenceIdeal.defs _ _).mono (fun r h => ⟨fun c => (h c).2, sem_eq_zero_of_no_sems (by decide) _⟩)
    (Cert.ReferenceIdeal.Value.run m ρ),
  fun m ρ _ => Cert.Kernel2.Gen.frame m ρ,
  fun m ρ _ => Cert.Kernel2Ideal.Gen.frame m ρ,
  fun m ρ _ => (θ_run Cert.Reference2Ideal.defs _ _).mono (fun r h => ⟨fun c => (h c).2.2.2.2.2.2.2.2.2.2, sem_eq_zero_of_no_sems (by decide) _⟩)
    (Cert.Reference2Ideal.Value.run m ρ),
  trivial,
  fun m g m' g' _ h => ⟨fun c => (fun i => Cert.KernelIdeal.Gen.OUT m c (i 0) (i 1) : Vec Ideal Cert.KernelIdeal.S16384x1024 .f32),
    (θ_run Cert.KernelIdeal.defs _ _).mono (fun r hr c => ⟨hr.1 c, hr.2.1 c⟩)
      (θ_run_and (kernel_run m g) (Cert.KernelIdeal.Gen.frame m g (Cert.KernelIdeal.Gen.tracked m))),
    (θ_run Cert.ReferenceIdeal.defs _ _).mono (fun r hr c => ⟨(hr c).1.trans
        ((Cert.ReferenceIdeal.Value.result_eq (StableHlo.launchContents m' c)).trans (by
          obtain ⟨h0, h1, h2, h3, h4, h5, h6, h7, h8, h9, h10, h11, h12, h13, h14, h15⟩ := h c
          exact Spec.layer_congr h0 h1 h2 h3 h4 h5 h6 h7 h8 h9 h10 h11 h12 h13 h14 h15)), (hr c).2⟩)
      (Cert.ReferenceIdeal.Value.run m' g')⟩,
  trivial,
  Cert.ProjValue.algebraic⟩

end Cert.Proof

end
